-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_dh" .f32 0x3DB504F3#32 (((Real.sqrt 128)⁻¹ : ℝ) : EReal)

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![1, 8192, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨3, ![1, 2048, 1024]⟩ ⟨3, ![1, 8192, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .bf16) (main_arg1 : FVec F S1024x1024 .bf16) (main_arg2 : FVec F S1x2048x8x128 .bf16) (main_arg3 : FVec F S1x2048x8x128 .bf16) (main_arg4 : FVec F S1024x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x2048x8x128 .f32 := (extf .f32 · bitsLt_bf16_f32) main_arg2
  let main_v12 : FVec F S1x2048x8x128 .f32 := Host.absf main_v11
  let main_cst_2 : FVec F S_ .f32 := constant S_ .f32 0x7F800000#32
  let main_v13 : FVec F S1x2048x8x128 .f32 := broadcastInDim S1x2048x8x128 ![] bcast_S_S1x2048x8x128 main_cst_2
  let main_v14 : IVec S1x2048x8x128 1 := cmpf .olt main_v12 main_v13
  let main_c_3 : IVec S_ 1 := constantI S_ 1 1#1
  let main_v15 : IVec S_ 1 := (fun x v => Host.reduce IntOp.andi x v reducesTo_S1x2048x8x128_S_d0_1_2_3 h_S_) main_v14 main_c_3
  let main_v16 : IVec S_ 1 := andi main_v10 main_v15
  main_v16
-- ==== Pre_finite_inputs_ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S_ : Shape := ⟨0, ![]⟩

class Facts : Prop where
  bitsLt_bf16_f32 : FTy.bits .bf16 < FTy.bits .f32
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_

variable [Facts]

def fn {F : FTy → Type} [FloatOps F] (main_arg0 : FVec F S1x8192x1024 .bf16) (main_arg1 : FVec F S1024x1024 .bf16) (main_arg2 : FVec F S1x8192x8x128 .bf16) (main_arg3 : FVec F S1x8192x8x128 .bf16) (main_arg4 : FVec F S1024x1024 .bf16) : IVec S_ 1 :=
  let main_v0 : FVec F S1x8192x1024 .f32 := (extf .f32 · bitsLt_bf16_f32) main_arg0
  let main_v1 : FVec F S1x8192x1024 .f32 := Host.absf main_v0
  let main_cst : FVec F S_ .f32 := constant S_ .f32 0x7F800000#32
  let main_v2 : FVec F S1x8192x1024 .f32 := broadcastInDim S1x8192x1024 ![] bcast_S_S1x8192x1024 main_cst
  let main_v3 : IVec S1x8192x1024 1 := cmpf .olt main_v1 main_v2
  let main_c : IVec S_ 1 := constantI S_ 1 1#1
  let main_v4 : IVec S_ 1 := (fun x v => Host.reduce IntOp.andi x v reducesTo_S1x8192x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x8192x8x128 .f32 := (extf .f32 · bitsLt_bf16_f32) main_arg2
  let main_v12 : FVec F S1x8192x8x128 .f32 := Host.absf main_v11
  let main_cst_2 : FVec F S_ .f32 := constant S_ .f32 0x7F800000#32
  let main_v13 : FVec F S1x8192x8x128 .f32 := broadcastInDim S1x8192x8x128 ![] bcast_S_S1x8192x8x128 main_cst_2
  let main_v14 : IVec S1x8192x8x128 1 := cmpf .olt main_v12 main_v13
  let main_c_3 : IVec S_ 1 := constantI S_ 1 1#1
  let main_v15 : IVec S_ 1 := (fun x v => Host.reduce IntOp.andi x v reducesTo_S1x8192x8x128_S_d0_1_2_3 h_S_) main_v14 main_c_3
  let main_v16 : IVec S_ 1 := andi main_v10 main_v15
  main_v16
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S4x8x512x128 : Shape := ⟨4, ![4, 8, 512, 128]⟩
abbrev S2048x8x128 : Shape := ⟨3, ![2048, 8, 128]⟩
abbrev S8x4x64x8x128 : Shape := ⟨5, ![8, 4, 64, 8, 128]⟩
abbrev S4x8x8x64x128 : Shape := ⟨5, ![4, 8, 8, 64, 128]⟩
abbrev S2048x1024 : Shape := ⟨2, ![2048, 1024]⟩
abbrev S4x8x512x1 : Shape := ⟨4, ![4, 8, 512, 1]⟩
abbrev S3x4x8x512x128 : Shape := ⟨5, ![3, 4, 8, 512, 128]⟩
abbrev S24 : Shape := ⟨1, ![24]⟩
abbrev S_ : Shape := ⟨0, ![]⟩
abbrev S1 : Shape := ⟨1, ![1]⟩
abbrev S1x1x8x512x128 : Shape := ⟨5, ![1, 1, 8, 512, 128]⟩
abbrev S8x512x128 : Shape := ⟨3, ![8, 512, 128]⟩
abbrev S1x8x512x128 : Shape := ⟨4, ![1, 8, 512, 128]⟩
abbrev S1x1x512x128 : Shape := ⟨4, ![1, 1, 512, 128]⟩
abbrev S512x128 : Shape := ⟨2, ![512, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S1x1x512x1 : Shape := ⟨4, ![1, 1, 512, 1]⟩

abbrev nBuf : Space → Nat
  | .hbm => 10
  | .vmem => 17
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x8x128, .bf16⟩
  | .hbm, ⟨3, _⟩ => ⟨S1x2048x8x128, .bf16⟩
  | .hbm, ⟨4, _⟩ => ⟨S1024x1024, .bf16⟩
  | .hbm, ⟨5, _⟩ => ⟨S4x8x512x128, .bf16⟩
  | .hbm, ⟨6, _⟩ => ⟨S4x8x512x128, .fp8e4m3⟩
  | .hbm, ⟨7, _⟩ => ⟨S4x8x512x128, .bf16⟩
  | .hbm, ⟨8, _⟩ => ⟨S4x8x512x128, .f32⟩
  | .hbm, ⟨9, _⟩ => ⟨S1x2048x1024, .f32⟩
  | .local _ .vmem, ⟨0, _⟩ => ⟨S1x2048x8x128, .bf16⟩
  | .local _ .vmem, ⟨1, _⟩ => ⟨S1x2048x8x128, .bf16⟩
  | .local _ .vmem, ⟨2, _⟩ => ⟨S4x8x512x128, .bf16⟩
  | .local _ .vmem, ⟨3, _⟩ => ⟨S4x8x512x128, .fp8e4m3⟩
  | .local _ .vmem, ⟨4, _⟩ => ⟨S1x2048x1024, .bf16⟩
  | .local _ .vmem, ⟨5, _⟩ => ⟨S1024x1024, .bf16⟩
  | .local _ .vmem, ⟨6, _⟩ => ⟨S4x8x512x128, .bf16⟩
  | .local _ .vmem, ⟨7, _⟩ => ⟨S4x8x512x128, .bf16⟩
  | .local _ .vmem, ⟨8, _⟩ => ⟨S4x8x512x128, .bf16⟩
  | .local _ .vmem, ⟨9, _⟩ => ⟨S4x8x512x128, .fp8e4m3⟩
  | .local _ .vmem, ⟨10, _⟩ => ⟨S4x8x512x128, .f32⟩
  | .local _ .vmem, ⟨11, _⟩ => ⟨S4x8x512x1, .f32⟩
  | .local _ .vmem, ⟨12, _⟩ => ⟨S3x4x8x512x128, .bf16⟩
  | .local _ .vmem, ⟨13, _⟩ => ⟨S3x4x8x512x128, .fp8e4m3⟩
  | .local _ .vmem, ⟨14, _⟩ => ⟨S4x8x512x128, .f32⟩
  | .local _ .vmem, ⟨15, _⟩ => ⟨S1024x1024, .bf16⟩
  | .local _ .vmem, ⟨16, _⟩ => ⟨S1x2048x1024, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_scratch0 : Ref sig .tc := ⟨.vmem, 11, rfl⟩
abbrev cc2_scratch1 : Ref sig .tc := ⟨.vmem, 12, rfl⟩
abbrev cc2_scratch2 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg2_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc2_sem0_0 : DmaSem sig := 7
abbrev cc2_sem1_0 : DmaSem sig := 8
abbrev cc2_sem2_0 : DmaSem sig := 9
abbrev cc2_sem3_0 : DmaSem sig := 10
abbrev cc3_sem0_0 : DmaSem sig := 59
abbrev cc3_sem1_0 : DmaSem sig := 60
abbrev cc3_sem2_0 : DmaSem sig := 61
abbrev barrier0 : Sem sig := 0

abbrev nD : Nat := 4
abbrev τ : Topo := Topo.v7x

variable {F : FTy → Type} [FloatOps F]

abbrev grid0 : Pipeline.Grid := .none

abbrev stage0_0 : Fin 1 → Memref sig .tc .vmem S1x2048x8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x8x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8x512x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S1x2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x8x512x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

def k2_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k2_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k2_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_15 : BitVec 32 := 1#32
  let v13 : BitVec 32 := Scalar.muli v7 c1_i32_15
  let v14 : BitVec 32 := Scalar.addi c0_i32_16 v13
  v14.toNat
def k2_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_28 : BitVec 32 := 1#32
  let v23 : BitVec 32 := Scalar.muli v7 c1_i32_28
  let v24 : BitVec 32 := Scalar.addi c0_i32_29 v23
  v24.toNat
def k2_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_40 : BitVec 32 := 1#32
  let v33 : BitVec 32 := Scalar.muli v5 c1_i32_40
  let v34 : BitVec 32 := Scalar.addi c0_i32_41 v33
  v34.toNat
def k2_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_52 : BitVec 32 := 1#32
  let v43 : BitVec 32 := Scalar.muli v5 c1_i32_52
  let v44 : BitVec 32 := Scalar.addi c0_i32_53 v43
  v44.toNat
def k2_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_65 : BitVec 32 := 1#32
  let v53 : BitVec 32 := Scalar.muli v7 c1_i32_65
  let v54 : BitVec 32 := Scalar.addi c0_i32_66 v53
  v54.toNat
def k2_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_77 : BitVec 32 := 1#32
  let v63 : BitVec 32 := Scalar.muli v7 c1_i32_77
  let v64 : BitVec 32 := Scalar.addi c0_i32_78 v63
  v64.toNat
def k2_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_89 : BitVec 32 := 1#32
  let v73 : BitVec 32 := Scalar.muli v5 c1_i32_89
  let v74 : BitVec 32 := Scalar.addi c0_i32_90 v73
  v74.toNat
def k2_dev10 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_101 : BitVec 32 := 1#32
  let v83 : BitVec 32 := Scalar.muli v5 c1_i32_101
  let v84 : BitVec 32 := Scalar.addi c0_i32_102 v83
  v84.toNat
def k2_dev11 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_114 : BitVec 32 := 1#32
  let v93 : BitVec 32 := Scalar.muli v7 c1_i32_114
  let v94 : BitVec 32 := Scalar.addi c0_i32_115 v93
  v94.toNat
def k2_dev12 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_126 : BitVec 32 := 1#32
  let v103 : BitVec 32 := Scalar.muli v7 c1_i32_126
  let v104 : BitVec 32 := Scalar.addi c0_i32_127 v103
  v104.toNat
def k2_dev13 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_138 : BitVec 32 := 1#32
  let v113 : BitVec 32 := Scalar.muli v5 c1_i32_138
  let v114 : BitVec 32 := Scalar.addi c0_i32_139 v113
  v114.toNat
def k2_dev14 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_150 : BitVec 32 := 1#32
  let v123 : BitVec 32 := Scalar.muli v5 c1_i32_150
  let v124 : BitVec 32 := Scalar.addi c0_i32_151 v123
  v124.toNat
def k2_dev15 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_162 : BitVec 32 := 1#32
  let v133 : BitVec 32 := Scalar.muli v7 c1_i32_162
  let v134 : BitVec 32 := Scalar.addi c0_i32_163 v133
  v134.toNat
def k2_dev16 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_174 : BitVec 32 := 1#32
  let v143 : BitVec 32 := Scalar.muli v7 c1_i32_174
  let v144 : BitVec 32 := Scalar.addi c0_i32_175 v143
  v144.toNat
def k2_dev17 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_186 : BitVec 32 := 1#32
  let v153 : BitVec 32 := Scalar.muli v5 c1_i32_186
  let v154 : BitVec 32 := Scalar.addi c0_i32_187 v153
  v154.toNat
def k2_dev18 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_198 : BitVec 32 := 1#32
  let v163 : BitVec 32 := Scalar.muli v5 c1_i32_198
  let v164 : BitVec 32 := Scalar.addi c0_i32_199 v163
  v164.toNat
@[reducible] def k2_t1_loop : Scf.Loop 32 :=
  let c0_i32_208 : BitVec 32 := 0#32
  let c8_i32_209 : BitVec 32 := 8#32
  let v173 : BitVec 32 := Scalar.addi c0_i32_208 c8_i32_209
  let c1_i32_210 : BitVec 32 := 1#32
  ⟨c0_i32_208, v173, c1_i32_210⟩
def k2_off1 (k2_t1 : Fin k2_t1_loop.trips) : Fin 4 → Nat :=
  let c0 : Index := 0#32
  let c0_i32_208 : BitVec 32 := 0#32
  let c1_i32_210 : BitVec 32 := 1#32
  let arg9 : BitVec 32 := Scf.iv c0_i32_208 c1_i32_210 k2_t1
  let v605 : Index := Scalar.indexCast arg9
  let c0_1046 : Index := 0#32
  let c0_1047 : Index := 0#32
  ![0, v605.toNat, 0, 0]
def k2_off2 (k2_t1 : Fin k2_t1_loop.trips) : Fin 3 → Nat :=
  let c0_i32_208 : BitVec 32 := 0#32
  let c1_i32_210 : BitVec 32 := 1#32
  let arg9 : BitVec 32 := Scf.iv c0_i32_208 c1_i32_210 k2_t1
  let v610 : Index := Scalar.indexCast arg9
  let c0_1051 : Index := 0#32
  let c0_1052 : Index := 0#32
  ![v610.toNat, 0, 0]
def k2_off3 (k2_t1 : Fin k2_t1_loop.trips) : Fin 4 → Nat :=
  let c0_1064 : Index := 0#32
  let c0_i32_208 : BitVec 32 := 0#32
  let c1_i32_210 : BitVec 32 := 1#32
  let arg9 : BitVec 32 := Scf.iv c0_i32_208 c1_i32_210 k2_t1
  let v631 : Index := Scalar.indexCast arg9
  let c0_1065 : Index := 0#32
  let c0_1066 : Index := 0#32
  ![0, v631.toNat, 0, 0]
@[reducible] def k2_t2_loop : Scf.Loop 32 :=
  let c0_i32_214 : BitVec 32 := 0#32
  let c8_i32_215 : BitVec 32 := 8#32
  let v174 : BitVec 32 := Scalar.addi c0_i32_214 c8_i32_215
  let c1_i32_216 : BitVec 32 := 1#32
  ⟨c0_i32_214, v174, c1_i32_216⟩
def k2_off4 (k2_t2 : Fin k2_t2_loop.trips) : Fin 4 → Nat :=
  let c1 : Index := 1#32
  let c0_i32_214 : BitVec 32 := 0#32
  let c1_i32_216 : BitVec 32 := 1#32
  let arg9 : BitVec 32 := Scf.iv c0_i32_214 c1_i32_216 k2_t2
  let v605 : Index := Scalar.indexCast arg9
  let c0 : Index := 0#32
  let c0_1046 : Index := 0#32
  ![1, v605.toNat, 0, 0]
def k2_off5 (k2_t2 : Fin k2_t2_loop.trips) : Fin 3 → Nat :=
  let c0_i32_214 : BitVec 32 := 0#32
  let c1_i32_216 : BitVec 32 := 1#32
  let arg9 : BitVec 32 := Scf.iv c0_i32_214 c1_i32_216 k2_t2
  let v610 : Index := Scalar.indexCast arg9
  let c0_1050 : Index := 0#32
  let c0_1051 : Index := 0#32
  ![v610.toNat, 0, 0]
def k2_off6 (k2_t2 : Fin k2_t2_loop.trips) : Fin 4 → Nat :=
  let c1_1063 : Index := 1#32
  let c0_i32_214 : BitVec 32 := 0#32
  let c1_i32_216 : BitVec 32 := 1#32
  let arg9 : BitVec 32 := Scf.iv c0_i32_214 c1_i32_216 k2_t2
  let v631 : Index := Scalar.indexCast arg9
  let c0_1064 : Index := 0#32
  let c0_1065 : Index := 0#32
  ![1, v631.toNat, 0, 0]
@[reducible] def k2_t3_loop : Scf.Loop 32 :=
  let c0_i32_220 : BitVec 32 := 0#32
  let c8_i32_221 : BitVec 32 := 8#32
  let v175 : BitVec 32 := Scalar.addi c0_i32_220 c8_i32_221
  let c1_i32_222 : BitVec 32 := 1#32
  ⟨c0_i32_220, v175, c1_i32_222⟩
def k2_off7 (k2_t3 : Fin k2_t3_loop.trips) : Fin 4 → Nat :=
  let c2 : Index := 2#32
  let c0_i32_220 : BitVec 32 := 0#32
  let c1_i32_222 : BitVec 32 := 1#32
  let arg9 : BitVec 32 := Scf.iv c0_i32_220 c1_i32_222 k2_t3
  let v605 : Index := Scalar.indexCast arg9
  let c0 : Index := 0#32
  let c0_1046 : Index := 0#32
  ![2, v605.toNat, 0, 0]
def k2_off8 (k2_t3 : Fin k2_t3_loop.trips) : Fin 3 → Nat :=
  let c0_i32_220 : BitVec 32 := 0#32
  let c1_i32_222 : BitVec 32 := 1#32
  let arg9 : BitVec 32 := Scf.iv c0_i32_220 c1_i32_222 k2_t3
  let v610 : Index := Scalar.indexCast arg9
  let c0_1050 : Index := 0#32
  let c0_1051 : Index := 0#32
  ![v610.toNat, 0, 0]
def k2_off9 (k2_t3 : Fin k2_t3_loop.trips) : Fin 4 → Nat :=
  let c2_1063 : Index := 2#32
  let c0_i32_220 : BitVec 32 := 0#32
  let c1_i32_222 : BitVec 32 := 1#32
  let arg9 : BitVec 32 := Scf.iv c0_i32_220 c1_i32_222 k2_t3
  let v631 : Index := Scalar.indexCast arg9
  let c0_1064 : Index := 0#32
  let c0_1065 : Index := 0#32
  ![2, v631.toNat, 0, 0]
@[reducible] def k2_t4_loop : Scf.Loop 32 :=
  let c0_i32_226 : BitVec 32 := 0#32
  let c8_i32_227 : BitVec 32 := 8#32
  let v176 : BitVec 32 := Scalar.addi c0_i32_226 c8_i32_227
  let c1_i32_228 : BitVec 32 := 1#32
  ⟨c0_i32_226, v176, c1_i32_228⟩
def k2_off10 (k2_t4 : Fin k2_t4_loop.trips) : Fin 4 → Nat :=
  let c3 : Index := 3#32
  let c0_i32_226 : BitVec 32 := 0#32
  let c1_i32_228 : BitVec 32 := 1#32
  let arg9 : BitVec 32 := Scf.iv c0_i32_226 c1_i32_228 k2_t4
  let v605 : Index := Scalar.indexCast arg9
  let c0 : Index := 0#32
  let c0_1046 : Index := 0#32
  ![3, v605.toNat, 0, 0]
def k2_off11 (k2_t4 : Fin k2_t4_loop.trips) : Fin 3 → Nat :=
  let c0_i32_226 : BitVec 32 := 0#32
  let c1_i32_228 : BitVec 32 := 1#32
  let arg9 : BitVec 32 := Scf.iv c0_i32_226 c1_i32_228 k2_t4
  let v610 : Index := Scalar.indexCast arg9
  let c0_1050 : Index := 0#32
  let c0_1051 : Index := 0#32
  ![v610.toNat, 0, 0]
def k2_off12 (k2_t4 : Fin k2_t4_loop.trips) : Fin 4 → Nat :=
  let c3_1063 : Index := 3#32
  let c0_i32_226 : BitVec 32 := 0#32
  let c1_i32_228 : BitVec 32 := 1#32
  let arg9 : BitVec 32 := Scf.iv c0_i32_226 c1_i32_228 k2_t4
  let v631 : Index := Scalar.indexCast arg9
  let c0_1064 : Index := 0#32
  let c0_1065 : Index := 0#32
  ![3, v631.toNat, 0, 0]
def k2_dev19 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_261 : BitVec 32 := 1#32
  let v193 : BitVec 32 := Scalar.muli v7 c1_i32_261
  let v194 : BitVec 32 := Scalar.addi c0_i32_262 v193
  v194.toNat
def k2_dev20 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_274 : BitVec 32 := 1#32
  let v203 : BitVec 32 := Scalar.muli v7 c1_i32_274
  let v204 : BitVec 32 := Scalar.addi c0_i32_275 v203
  v204.toNat
@[reducible] def k2_t5_loop : Scf.Loop 32 :=
  let c0_i32_286 : BitVec 32 := 0#32
  let c8_i32_287 : BitVec 32 := 8#32
  let v213 : BitVec 32 := Scalar.addi c0_i32_286 c8_i32_287
  let c1_i32_288 : BitVec 32 := 1#32
  ⟨c0_i32_286, v213, c1_i32_288⟩
def k2_off13 (k2_t5 : Fin k2_t5_loop.trips) : Fin 4 → Nat :=
  let c0 : Index := 0#32
  let c0_i32_286 : BitVec 32 := 0#32
  let c1_i32_288 : BitVec 32 := 1#32
  let arg9 : BitVec 32 := Scf.iv c0_i32_286 c1_i32_288 k2_t5
  let v605 : Index := Scalar.indexCast arg9
  let c0_1046 : Index := 0#32
  let c0_1047 : Index := 0#32
  ![0, v605.toNat, 0, 0]
def k2_off14 (k2_t5 : Fin k2_t5_loop.trips) : Fin 3 → Nat :=
  let c0_i32_286 : BitVec 32 := 0#32
  let c1_i32_288 : BitVec 32 := 1#32
  let arg9 : BitVec 32 := Scf.iv c0_i32_286 c1_i32_288 k2_t5
  let v610 : Index := Scalar.indexCast arg9
  let c0_1051 : Index := 0#32
  let c0_1052 : Index := 0#32
  ![v610.toNat, 0, 0]
def k2_off15 (k2_t5 : Fin k2_t5_loop.trips) : Fin 4 → Nat :=
  let c0_1067 : Index := 0#32
  let c0_i32_286 : BitVec 32 := 0#32
  let c1_i32_288 : BitVec 32 := 1#32
  let arg9 : BitVec 32 := Scf.iv c0_i32_286 c1_i32_288 k2_t5
  let v635 : Index := Scalar.indexCast arg9
  let c0_1068 : Index := 0#32
  let c0_1069 : Index := 0#32
  ![0, v635.toNat, 0, 0]
@[reducible] def k2_t6_loop : Scf.Loop 32 :=
  let c0_i32_320 : BitVec 32 := 0#32
  let c8_i32_321 : BitVec 32 := 8#32
  let v230 : BitVec 32 := Scalar.addi c0_i32_320 c8_i32_321
  let c1_i32_322 : BitVec 32 := 1#32
  ⟨c0_i32_320, v230, c1_i32_322⟩
def k2_off16 (k2_t6 : Fin k2_t6_loop.trips) : Fin 4 → Nat :=
  let c0 : Index := 0#32
  let c0_i32_320 : BitVec 32 := 0#32
  let c1_i32_322 : BitVec 32 := 1#32
  let arg9 : BitVec 32 := Scf.iv c0_i32_320 c1_i32_322 k2_t6
  let v605 : Index := Scalar.indexCast arg9
  let c0_1046 : Index := 0#32
  let c0_1047 : Index := 0#32
  ![0, v605.toNat, 0, 0]
def k2_off17 (k2_t6 : Fin k2_t6_loop.trips) : Fin 3 → Nat :=
  let c0_i32_320 : BitVec 32 := 0#32
  let c1_i32_322 : BitVec 32 := 1#32
  let arg9 : BitVec 32 := Scf.iv c0_i32_320 c1_i32_322 k2_t6
  let v610 : Index := Scalar.indexCast arg9
  let c0_1051 : Index := 0#32
  let c0_1052 : Index := 0#32
  ![v610.toNat, 0, 0]
def k2_off18 (k2_t6 : Fin k2_t6_loop.trips) : Fin 4 → Nat :=
  let c0_1067 : Index := 0#32
  let c0_i32_320 : BitVec 32 := 0#32
  let c1_i32_322 : BitVec 32 := 1#32
  let arg9 : BitVec 32 := Scf.iv c0_i32_320 c1_i32_322 k2_t6
  let v635 : Index := Scalar.indexCast arg9
  let c0_1068 : Index := 0#32
  let c0_1069 : Index := 0#32
  ![0, v635.toNat, 0, 0]
def k2_dev21 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_355 : BitVec 32 := 1#32
  let v247 : BitVec 32 := Scalar.muli v7 c1_i32_355
  let v248 : BitVec 32 := Scalar.addi c0_i32_356 v247
  v248.toNat
def k2_dev22 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_368 : BitVec 32 := 1#32
  let v257 : BitVec 32 := Scalar.muli v7 c1_i32_368
  let v258 : BitVec 32 := Scalar.addi c0_i32_369 v257
  v258.toNat
@[reducible] def k2_t7_loop : Scf.Loop 32 :=
  let c0_i32_380 : BitVec 32 := 0#32
  let c8_i32_381 : BitVec 32 := 8#32
  let v267 : BitVec 32 := Scalar.addi c0_i32_380 c8_i32_381
  let c1_i32_382 : BitVec 32 := 1#32
  ⟨c0_i32_380, v267, c1_i32_382⟩
def k2_off19 (k2_t7 : Fin k2_t7_loop.trips) : Fin 4 → Nat :=
  let c1 : Index := 1#32
  let c0_i32_380 : BitVec 32 := 0#32
  let c1_i32_382 : BitVec 32 := 1#32
  let arg9 : BitVec 32 := Scf.iv c0_i32_380 c1_i32_382 k2_t7
  let v605 : Index := Scalar.indexCast arg9
  let c0 : Index := 0#32
  let c0_1046 : Index := 0#32
  ![1, v605.toNat, 0, 0]
def k2_off20 (k2_t7 : Fin k2_t7_loop.trips) : Fin 3 → Nat :=
  let c0_i32_380 : BitVec 32 := 0#32
  let c1_i32_382 : BitVec 32 := 1#32
  let arg9 : BitVec 32 := Scf.iv c0_i32_380 c1_i32_382 k2_t7
  let v610 : Index := Scalar.indexCast arg9
  let c0_1050 : Index := 0#32
  let c0_1051 : Index := 0#32
  ![v610.toNat, 0, 0]
def k2_off21 (k2_t7 : Fin k2_t7_loop.trips) : Fin 4 → Nat :=
  let c1_1066 : Index := 1#32
  let c0_i32_380 : BitVec 32 := 0#32
  let c1_i32_382 : BitVec 32 := 1#32
  let arg9 : BitVec 32 := Scf.iv c0_i32_380 c1_i32_382 k2_t7
  let v635 : Index := Scalar.indexCast arg9
  let c0_1067 : Index := 0#32
  let c0_1068 : Index := 0#32
  ![1, v635.toNat, 0, 0]
@[reducible] def k2_t8_loop : Scf.Loop 32 :=
  let c0_i32_414 : BitVec 32 := 0#32
  let c8_i32_415 : BitVec 32 := 8#32
  let v284 : BitVec 32 := Scalar.addi c0_i32_414 c8_i32_415
  let c1_i32_416 : BitVec 32 := 1#32
  ⟨c0_i32_414, v284, c1_i32_416⟩
def k2_off22 (k2_t8 : Fin k2_t8_loop.trips) : Fin 4 → Nat :=
  let c1 : Index := 1#32
  let c0_i32_414 : BitVec 32 := 0#32
  let c1_i32_416 : BitVec 32 := 1#32
  let arg9 : BitVec 32 := Scf.iv c0_i32_414 c1_i32_416 k2_t8
  let v605 : Index := Scalar.indexCast arg9
  let c0 : Index := 0#32
  let c0_1046 : Index := 0#32
  ![1, v605.toNat, 0, 0]
def k2_off23 (k2_t8 : Fin k2_t8_loop.trips) : Fin 3 → Nat :=
  let c0_i32_414 : BitVec 32 := 0#32
  let c1_i32_416 : BitVec 32 := 1#32
  let arg9 : BitVec 32 := Scf.iv c0_i32_414 c1_i32_416 k2_t8
  let v610 : Index := Scalar.indexCast arg9
  let c0_1050 : Index := 0#32
  let c0_1051 : Index := 0#32
  ![v610.toNat, 0, 0]
def k2_off24 (k2_t8 : Fin k2_t8_loop.trips) : Fin 4 → Nat :=
  let c1_1066 : Index := 1#32
  let c0_i32_414 : BitVec 32 := 0#32
  let c1_i32_416 : BitVec 32 := 1#32
  let arg9 : BitVec 32 := Scf.iv c0_i32_414 c1_i32_416 k2_t8
  let v635 : Index := Scalar.indexCast arg9
  let c0_1067 : Index := 0#32
  let c0_1068 : Index := 0#32
  ![1, v635.toNat, 0, 0]
@[reducible] def k2_t9_loop : Scf.Loop 32 :=
  let c0_i32_448 : BitVec 32 := 0#32
  let c8_i32_449 : BitVec 32 := 8#32
  let v301 : BitVec 32 := Scalar.addi c0_i32_448 c8_i32_449
  let c1_i32_450 : BitVec 32 := 1#32
  ⟨c0_i32_448, v301, c1_i32_450⟩
def k2_off25 (k2_t9 : Fin k2_t9_loop.trips) : Fin 4 → Nat :=
  let c2 : Index := 2#32
  let c0_i32_448 : BitVec 32 := 0#32
  let c1_i32_450 : BitVec 32 := 1#32
  let arg9 : BitVec 32 := Scf.iv c0_i32_448 c1_i32_450 k2_t9
  let v605 : Index := Scalar.indexCast arg9
  let c0 : Index := 0#32
  let c0_1046 : Index := 0#32
  ![2, v605.toNat, 0, 0]
def k2_off26 (k2_t9 : Fin k2_t9_loop.trips) : Fin 3 → Nat :=
  let c0_i32_448 : BitVec 32 := 0#32
  let c1_i32_450 : BitVec 32 := 1#32
  let arg9 : BitVec 32 := Scf.iv c0_i32_448 c1_i32_450 k2_t9
  let v610 : Index := Scalar.indexCast arg9
  let c0_1050 : Index := 0#32
  let c0_1051 : Index := 0#32
  ![v610.toNat, 0, 0]
def k2_off27 (k2_t9 : Fin k2_t9_loop.trips) : Fin 4 → Nat :=
  let c2_1066 : Index := 2#32
  let c0_i32_448 : BitVec 32 := 0#32
  let c1_i32_450 : BitVec 32 := 1#32
  let arg9 : BitVec 32 := Scf.iv c0_i32_448 c1_i32_450 k2_t9
  let v635 : Index := Scalar.indexCast arg9
  let c0_1067 : Index := 0#32
  let c0_1068 : Index := 0#32
  ![2, v635.toNat, 0, 0]
def k2_dev23 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_483 : BitVec 32 := 1#32
  let v318 : BitVec 32 := Scalar.muli v5 c1_i32_483
  let v319 : BitVec 32 := Scalar.addi c0_i32_484 v318
  v319.toNat
def k2_dev24 (d0 : Dev nD) : Nat :=
  let c0_i32_497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_496 : BitVec 32 := 1#32
  let v328 : BitVec 32 := Scalar.muli v5 c1_i32_496
  let v329 : BitVec 32 := Scalar.addi c0_i32_497 v328
  v329.toNat
@[reducible] def k2_t10_loop : Scf.Loop 32 :=
  let c0_i32_508 : BitVec 32 := 0#32
  let c8_i32_509 : BitVec 32 := 8#32
  let v338 : BitVec 32 := Scalar.addi c0_i32_508 c8_i32_509
  let c1_i32_510 : BitVec 32 := 1#32
  ⟨c0_i32_508, v338, c1_i32_510⟩
def k2_off28 (k2_t10 : Fin k2_t10_loop.trips) : Fin 4 → Nat :=
  let c2 : Index := 2#32
  let c0_i32_508 : BitVec 32 := 0#32
  let c1_i32_510 : BitVec 32 := 1#32
  let arg9 : BitVec 32 := Scf.iv c0_i32_508 c1_i32_510 k2_t10
  let v605 : Index := Scalar.indexCast arg9
  let c0 : Index := 0#32
  let c0_1046 : Index := 0#32
  ![2, v605.toNat, 0, 0]
def k2_off29 (k2_t10 : Fin k2_t10_loop.trips) : Fin 3 → Nat :=
  let c0_i32_508 : BitVec 32 := 0#32
  let c1_i32_510 : BitVec 32 := 1#32
  let arg9 : BitVec 32 := Scf.iv c0_i32_508 c1_i32_510 k2_t10
  let v610 : Index := Scalar.indexCast arg9
  let c0_1050 : Index := 0#32
  let c0_1051 : Index := 0#32
  ![v610.toNat, 0, 0]
def k2_off30 (k2_t10 : Fin k2_t10_loop.trips) : Fin 4 → Nat :=
  let c2_1066 : Index := 2#32
  let c0_i32_508 : BitVec 32 := 0#32
  let c1_i32_510 : BitVec 32 := 1#32
  let arg9 : BitVec 32 := Scf.iv c0_i32_508 c1_i32_510 k2_t10
  let v635 : Index := Scalar.indexCast arg9
  let c0_1067 : Index := 0#32
  let c0_1068 : Index := 0#32
  ![2, v635.toNat, 0, 0]
@[reducible] def k2_t11_loop : Scf.Loop 32 :=
  let c0_i32_542 : BitVec 32 := 0#32
  let c8_i32_543 : BitVec 32 := 8#32
  let v355 : BitVec 32 := Scalar.addi c0_i32_542 c8_i32_543
  let c1_i32_544 : BitVec 32 := 1#32
  ⟨c0_i32_542, v355, c1_i32_544⟩
def k2_off31 (k2_t11 : Fin k2_t11_loop.trips) : Fin 4 → Nat :=
  let c3 : Index := 3#32
  let c0_i32_542 : BitVec 32 := 0#32
  let c1_i32_544 : BitVec 32 := 1#32
  let arg9 : BitVec 32 := Scf.iv c0_i32_542 c1_i32_544 k2_t11
  let v605 : Index := Scalar.indexCast arg9
  let c0 : Index := 0#32
  let c0_1046 : Index := 0#32
  ![3, v605.toNat, 0, 0]
def k2_off32 (k2_t11 : Fin k2_t11_loop.trips) : Fin 3 → Nat :=
  let c0_i32_542 : BitVec 32 := 0#32
  let c1_i32_544 : BitVec 32 := 1#32
  let arg9 : BitVec 32 := Scf.iv c0_i32_542 c1_i32_544 k2_t11
  let v610 : Index := Scalar.indexCast arg9
  let c0_1050 : Index := 0#32
  let c0_1051 : Index := 0#32
  ![v610.toNat, 0, 0]
def k2_off33 (k2_t11 : Fin k2_t11_loop.trips) : Fin 4 → Nat :=
  let c3_1066 : Index := 3#32
  let c0_i32_542 : BitVec 32 := 0#32
  let c1_i32_544 : BitVec 32 := 1#32
  let arg9 : BitVec 32 := Scf.iv c0_i32_542 c1_i32_544 k2_t11
  let v635 : Index := Scalar.indexCast arg9
  let c0_1067 : Index := 0#32
  let c0_1068 : Index := 0#32
  ![3, v635.toNat, 0, 0]
def k2_dev25 (d0 : Dev nD) : Nat :=
  let c0_i32_578 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_577 : BitVec 32 := 1#32
  let v372 : BitVec 32 := Scalar.muli v5 c1_i32_577
  let v373 : BitVec 32 := Scalar.addi c0_i32_578 v372
  v373.toNat
def k2_dev26 (d0 : Dev nD) : Nat :=
  let c0_i32_591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_590 : BitVec 32 := 1#32
  let v382 : BitVec 32 := Scalar.muli v5 c1_i32_590
  let v383 : BitVec 32 := Scalar.addi c0_i32_591 v382
  v383.toNat
@[reducible] def k2_t12_loop : Scf.Loop 32 :=
  let c0_i32_602 : BitVec 32 := 0#32
  let c8_i32_603 : BitVec 32 := 8#32
  let v392 : BitVec 32 := Scalar.addi c0_i32_602 c8_i32_603
  let c1_i32_604 : BitVec 32 := 1#32
  ⟨c0_i32_602, v392, c1_i32_604⟩
def k2_off34 (k2_t12 : Fin k2_t12_loop.trips) : Fin 4 → Nat :=
  let c3 : Index := 3#32
  let c0_i32_602 : BitVec 32 := 0#32
  let c1_i32_604 : BitVec 32 := 1#32
  let arg9 : BitVec 32 := Scf.iv c0_i32_602 c1_i32_604 k2_t12
  let v605 : Index := Scalar.indexCast arg9
  let c0 : Index := 0#32
  let c0_1046 : Index := 0#32
  ![3, v605.toNat, 0, 0]
def k2_off35 (k2_t12 : Fin k2_t12_loop.trips) : Fin 3 → Nat :=
  let c0_i32_602 : BitVec 32 := 0#32
  let c1_i32_604 : BitVec 32 := 1#32
  let arg9 : BitVec 32 := Scf.iv c0_i32_602 c1_i32_604 k2_t12
  let v610 : Index := Scalar.indexCast arg9
  let c0_1050 : Index := 0#32
  let c0_1051 : Index := 0#32
  ![v610.toNat, 0, 0]
def k2_off36 (k2_t12 : Fin k2_t12_loop.trips) : Fin 4 → Nat :=
  let c3_1066 : Index := 3#32
  let c0_i32_602 : BitVec 32 := 0#32
  let c1_i32_604 : BitVec 32 := 1#32
  let arg9 : BitVec 32 := Scf.iv c0_i32_602 c1_i32_604 k2_t12
  let v635 : Index := Scalar.indexCast arg9
  let c0_1067 : Index := 0#32
  let c0_1068 : Index := 0#32
  ![3, v635.toNat, 0, 0]
@[reducible] def k2_t13_loop : Scf.Loop 32 :=
  let c0_i32_830 : BitVec 32 := 0#32
  let c8_i32_831 : BitVec 32 := 8#32
  let v505 : BitVec 32 := Scalar.addi c0_i32_830 c8_i32_831
  let c1_i32_832 : BitVec 32 := 1#32
  ⟨c0_i32_830, v505, c1_i32_832⟩
def k2_off37 (k2_t13 : Fin k2_t13_loop.trips) : Fin 4 → Nat :=
  let c0 : Index := 0#32
  let c0_i32_830 : BitVec 32 := 0#32
  let c1_i32_832 : BitVec 32 := 1#32
  let arg9 : BitVec 32 := Scf.iv c0_i32_830 c1_i32_832 k2_t13
  let v605 : Index := Scalar.indexCast arg9
  let c0_1046 : Index := 0#32
  let c0_1047 : Index := 0#32
  ![0, v605.toNat, 0, 0]
def k2_off38 (k2_t13 : Fin k2_t13_loop.trips) : Fin 3 → Nat :=
  let c0_i32_830 : BitVec 32 := 0#32
  let c1_i32_832 : BitVec 32 := 1#32
  let arg9 : BitVec 32 := Scf.iv c0_i32_830 c1_i32_832 k2_t13
  let v610 : Index := Scalar.indexCast arg9
  let c0_1051 : Index := 0#32
  let c0_1052 : Index := 0#32
  ![v610.toNat, 0, 0]
def k2_off39 (k2_t13 : Fin k2_t13_loop.trips) : Fin 4 → Nat :=
  let c0_1064 : Index := 0#32
  let c0_i32_830 : BitVec 32 := 0#32
  let c1_i32_832 : BitVec 32 := 1#32
  let arg9 : BitVec 32 := Scf.iv c0_i32_830 c1_i32_832 k2_t13
  let v631 : Index := Scalar.indexCast arg9
  let c0_1065 : Index := 0#32
  let c0_1066 : Index := 0#32
  ![0, v631.toNat, 0, 0]
@[reducible] def k2_t14_loop : Scf.Loop 32 :=
  let c0_i32_866 : BitVec 32 := 0#32
  let c8_i32_867 : BitVec 32 := 8#32
  let v522 : BitVec 32 := Scalar.addi c0_i32_866 c8_i32_867
  let c1_i32_868 : BitVec 32 := 1#32
  ⟨c0_i32_866, v522, c1_i32_868⟩
def k2_off40 (k2_t14 : Fin k2_t14_loop.trips) : Fin 4 → Nat :=
  let c2 : Index := 2#32
  let c0_i32_866 : BitVec 32 := 0#32
  let c1_i32_868 : BitVec 32 := 1#32
  let arg9 : BitVec 32 := Scf.iv c0_i32_866 c1_i32_868 k2_t14
  let v605 : Index := Scalar.indexCast arg9
  let c0 : Index := 0#32
  let c0_1046 : Index := 0#32
  ![2, v605.toNat, 0, 0]
def k2_off41 (k2_t14 : Fin k2_t14_loop.trips) : Fin 3 → Nat :=
  let c0_i32_866 : BitVec 32 := 0#32
  let c1_i32_868 : BitVec 32 := 1#32
  let arg9 : BitVec 32 := Scf.iv c0_i32_866 c1_i32_868 k2_t14
  let v610 : Index := Scalar.indexCast arg9
  let c0_1050 : Index := 0#32
  let c0_1051 : Index := 0#32
  ![v610.toNat, 0, 0]
def k2_off42 (k2_t14 : Fin k2_t14_loop.trips) : Fin 4 → Nat :=
  let c2_1063 : Index := 2#32
  let c0_i32_866 : BitVec 32 := 0#32
  let c1_i32_868 : BitVec 32 := 1#32
  let arg9 : BitVec 32 := Scf.iv c0_i32_866 c1_i32_868 k2_t14
  let v631 : Index := Scalar.indexCast arg9
  let c0_1064 : Index := 0#32
  let c0_1065 : Index := 0#32
  ![2, v631.toNat, 0, 0]
@[reducible] def k2_t15_loop : Scf.Loop 32 :=
  let c0_i32_902 : BitVec 32 := 0#32
  let c8_i32_903 : BitVec 32 := 8#32
  let v539 : BitVec 32 := Scalar.addi c0_i32_902 c8_i32_903
  let c1_i32_904 : BitVec 32 := 1#32
  ⟨c0_i32_902, v539, c1_i32_904⟩
def k2_off43 (k2_t15 : Fin k2_t15_loop.trips) : Fin 4 → Nat :=
  let c1 : Index := 1#32
  let c0_i32_902 : BitVec 32 := 0#32
  let c1_i32_904 : BitVec 32 := 1#32
  let arg9 : BitVec 32 := Scf.iv c0_i32_902 c1_i32_904 k2_t15
  let v605 : Index := Scalar.indexCast arg9
  let c0 : Index := 0#32
  let c0_1046 : Index := 0#32
  ![1, v605.toNat, 0, 0]
def k2_off44 (k2_t15 : Fin k2_t15_loop.trips) : Fin 3 → Nat :=
  let c0_i32_902 : BitVec 32 := 0#32
  let c1_i32_904 : BitVec 32 := 1#32
  let arg9 : BitVec 32 := Scf.iv c0_i32_902 c1_i32_904 k2_t15
  let v610 : Index := Scalar.indexCast arg9
  let c0_1050 : Index := 0#32
  let c0_1051 : Index := 0#32
  ![v610.toNat, 0, 0]
def k2_off45 (k2_t15 : Fin k2_t15_loop.trips) : Fin 4 → Nat :=
  let c1_1063 : Index := 1#32
  let c0_i32_902 : BitVec 32 := 0#32
  let c1_i32_904 : BitVec 32 := 1#32
  let arg9 : BitVec 32 := Scf.iv c0_i32_902 c1_i32_904 k2_t15
  let v631 : Index := Scalar.indexCast arg9
  let c0_1064 : Index := 0#32
  let c0_1065 : Index := 0#32
  ![1, v631.toNat, 0, 0]
@[reducible] def k2_t16_loop : Scf.Loop 32 :=
  let c0_i32_938 : BitVec 32 := 0#32
  let c8_i32_939 : BitVec 32 := 8#32
  let v556 : BitVec 32 := Scalar.addi c0_i32_938 c8_i32_939
  let c1_i32_940 : BitVec 32 := 1#32
  ⟨c0_i32_938, v556, c1_i32_940⟩
def k2_off46 (k2_t16 : Fin k2_t16_loop.trips) : Fin 4 → Nat :=
  let c3 : Index := 3#32
  let c0_i32_938 : BitVec 32 := 0#32
  let c1_i32_940 : BitVec 32 := 1#32
  let arg9 : BitVec 32 := Scf.iv c0_i32_938 c1_i32_940 k2_t16
  let v605 : Index := Scalar.indexCast arg9
  let c0 : Index := 0#32
  let c0_1046 : Index := 0#32
  ![3, v605.toNat, 0, 0]
def k2_off47 (k2_t16 : Fin k2_t16_loop.trips) : Fin 3 → Nat :=
  let c0_i32_938 : BitVec 32 := 0#32
  let c1_i32_940 : BitVec 32 := 1#32
  let arg9 : BitVec 32 := Scf.iv c0_i32_938 c1_i32_940 k2_t16
  let v610 : Index := Scalar.indexCast arg9
  let c0_1050 : Index := 0#32
  let c0_1051 : Index := 0#32
  ![v610.toNat, 0, 0]
def k2_off48 (k2_t16 : Fin k2_t16_loop.trips) : Fin 4 → Nat :=
  let c3_1063 : Index := 3#32
  let c0_i32_938 : BitVec 32 := 0#32
  let c1_i32_940 : BitVec 32 := 1#32
  let arg9 : BitVec 32 := Scf.iv c0_i32_938 c1_i32_940 k2_t16
  let v631 : Index := Scalar.indexCast arg9
  let c0_1064 : Index := 0#32
  let c0_1065 : Index := 0#32
  ![3, v631.toNat, 0, 0]
abbrev stage2_0 : Fin 1 → Memref sig .tc .vmem S4x8x512x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x8x512x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x8x512x128 .fp8e4m3 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4x8x512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := .none

abbrev stage3_0 : Fin 1 → Memref sig .tc .vmem S4x8x512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x2048x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
-- ==== KernelIdeal.lean ====
variable {F : FTy → Type} [FloatOps F] [Named F]
def κ : String → Option EReal := fun
  | "inv_sqrt_dh" => some (((Real.sqrt 128)⁻¹ : ℝ) : EReal)
  | _ => none
-- ==== ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1x8x8192x8192 : Shape := ⟨4, ![1, 8, 8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x1x8192x1 : Shape := ⟨4, ![1, 1, 8192, 1]⟩
abbrev S1x8x128x8192 : Shape := ⟨4, ![1, 8, 128, 8192]⟩

abbrev nBuf : Space → Nat
  | .hbm => 143
  | .vmem => 0
  | .smem => 0
  | _ => 0

abbrev hbmTy0_0 (i : Nat) : BufTy := match i % 128 with
  | 0 => ⟨S1x8192x1024, .bf16⟩
  | 1 => ⟨S1024x1024, .bf16⟩
  | 2 => ⟨S1x8192x8x128, .bf16⟩
  | 3 => ⟨S1x8192x8x128, .bf16⟩
  | 4 => ⟨S1024x1024, .bf16⟩
  | 5 => ⟨S1x8192x1024, .f32⟩
  | 6 => ⟨S1x8192x1024, .bf16⟩
  | 7 => ⟨S1x8192x8x128, .bf16⟩
  | 8 => ⟨S8192, .i32⟩
  | 9 => ⟨S_, .i32⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S8192, .i32⟩
  | 18 => ⟨S8192, .i32⟩
  | 19 => ⟨S_, .i32⟩
  | 20 => ⟨S8192, .i32⟩
  | 21 => ⟨S8192, .i1⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192, .i32⟩
  | 29 => ⟨S_, .i32⟩
  | 30 => ⟨S_, .i32⟩
  | 31 => ⟨S8192, .i32⟩
  | 32 => ⟨S8192, .i32⟩
  | 33 => ⟨S8192, .i32⟩
  | 34 => ⟨S_, .i32⟩
  | 35 => ⟨S8192, .i32⟩
  | 36 => ⟨S8192, .i1⟩
  | 37 => ⟨S8192, .i32⟩
  | 38 => ⟨S8192, .i32⟩
  | 39 => ⟨S_, .i32⟩
  | 40 => ⟨S8192, .i32⟩
  | 41 => ⟨S8192, .i1⟩
  | 42 => ⟨S8192, .i1⟩
  | 43 => ⟨S_, .i32⟩
  | 44 => ⟨S8192, .i32⟩
  | 45 => ⟨S8192, .i32⟩
  | 46 => ⟨S8192, .i32⟩
  | 47 => ⟨S1x8192, .i32⟩
  | 48 => ⟨S8192x8192, .i32⟩
  | 49 => ⟨S8192x8192, .i32⟩
  | 50 => ⟨S8192x8192, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x8192, .i32⟩
  | 58 => ⟨S1x8192, .i32⟩
  | 59 => ⟨S_, .i32⟩
  | 60 => ⟨S1x8192, .i32⟩
  | 61 => ⟨S1x8192, .i1⟩
  | 62 => ⟨S_, .i32⟩
  | 63 => ⟨S1x8192, .i32⟩
  | 64 => ⟨S1x8192, .i1⟩
  | 65 => ⟨S_, .i32⟩
  | 66 => ⟨S_, .i1⟩
  | 67 => ⟨S1x8192, .i1⟩
  | 68 => ⟨S1x8192, .i1⟩
  | 69 => ⟨S1x8192, .i1⟩
  | 70 => ⟨S1x8192, .i32⟩
  | 71 => ⟨S1x8192, .i32⟩
  | 72 => ⟨S1x8192, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S8192x1, .i32⟩
  | 80 => ⟨S8192x1, .i32⟩
  | 81 => ⟨S_, .i32⟩
  | 82 => ⟨S8192x1, .i32⟩
  | 83 => ⟨S8192x1, .i1⟩
  | 84 => ⟨S_, .i32⟩
  | 85 => ⟨S8192x1, .i32⟩
  | 86 => ⟨S8192x1, .i1⟩
  | 87 => ⟨S_, .i32⟩
  | 88 => ⟨S_, .i1⟩
  | 89 => ⟨S8192x1, .i1⟩
  | 90 => ⟨S8192x1, .i1⟩
  | 91 => ⟨S8192x1, .i1⟩
  | 92 => ⟨S8192x1, .i32⟩
  | 93 => ⟨S8192x1, .i32⟩
  | 94 => ⟨S8192x1, .i32⟩
  | 95 => ⟨S8192x8192, .i32⟩
  | 96 => ⟨S8192x8192, .i32⟩
  | 97 => ⟨S8192x8192, .i1⟩
  | 98 => ⟨S8192x8192, .i1⟩
  | 99 => ⟨S1x8x8192x8192, .f32⟩
  | 100 => ⟨S1x8x8192x8192, .bf16⟩
  | 101 => ⟨S1x8x8192x8192, .f32⟩
  | 102 => ⟨S_, .f32⟩
  | 103 => ⟨S_, .f32⟩
  | 104 => ⟨S1x8x8192x8192, .f32⟩
  | 105 => ⟨S1x8x8192x8192, .f32⟩
  | 106 => ⟨S1x1x8192x8192, .i1⟩
  | 107 => ⟨S_, .f32⟩
  | 108 => ⟨S_, .f32⟩
  | 109 => ⟨S1x8x8192x8192, .i1⟩
  | 110 => ⟨S1x8x8192x8192, .f32⟩
  | 111 => ⟨S1x8x8192x8192, .f32⟩
  | 112 => ⟨S_, .f32⟩
  | 113 => ⟨S1x8x8192, .f32⟩
  | 114 => ⟨S1x8x8192x1, .f32⟩
  | 115 => ⟨S1x8x8192x8192, .f32⟩
  | 116 => ⟨S1x8x8192x8192, .f32⟩
  | 117 => ⟨S1x8x8192x8192, .f32⟩
  | 118 => ⟨S_, .i1⟩
  | 119 => ⟨S8192, .i1⟩
  | 120 => ⟨S1x1x8192x1, .i1⟩
  | 121 => ⟨S_, .f32⟩
  | 122 => ⟨S1x8x8192, .f32⟩
  | 123 => ⟨S1x8x8192x1, .f32⟩
  | 124 => ⟨S_, .f32⟩
  | 125 => ⟨S_, .f32⟩
  | 126 => ⟨S1x8x8192x1, .i1⟩
  | 127 => ⟨S1x8x8192x1, .f32⟩
  | _ => ⟨S1x8192x1024, .bf16⟩

abbrev hbmTy0_1 (i : Nat) : BufTy := match i % 128 with
  | 0 => ⟨S1x8x8192x1, .f32⟩
  | 1 => ⟨S1x8x8192x8192, .f32⟩
  | 2 => ⟨S1x8x8192x8192, .f32⟩
  | 3 => ⟨S1x1x8192x1, .i1⟩
  | 4 => ⟨S_, .f32⟩
  | 5 => ⟨S_, .f32⟩
  | 6 => ⟨S1x8x8192x8192, .i1⟩
  | 7 => ⟨S1x8x8192x8192, .f32⟩
  | 8 => ⟨S1x8x8192x8192, .f32⟩
  | 9 => ⟨S1x8192x8x128, .f32⟩
  | 10 => ⟨S1x8x128x8192, .f32⟩
  | 11 => ⟨S1x8192x8x128, .f32⟩
  | 12 => ⟨S1x8192x1024, .f32⟩
  | 13 => ⟨S1024x1024, .f32⟩
  | 14 => ⟨S1x8192x1024, .f32⟩
  | _ => ⟨S1x8192x1024, .bf16⟩

abbrev hbmTy (i : Nat) : BufTy := match i / 128 with
  | 0 => hbmTy0_0 i
  | 1 => hbmTy0_1 i
  | _ => ⟨S1x8192x1024, .bf16⟩

abbrev bufTy : (tb : Table) → Fin (tcTables nBuf tb) → BufTy
  | .hbm, ⟨i, _⟩ => hbmTy i
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_cst_3 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v25 : Ref sig .tc := ⟨.hbm, 111, rfl⟩
abbrev main_cst_4 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_c_5 : Ref sig .tc := ⟨.hbm, 118, rfl⟩
abbrev main_v31 : Ref sig .tc := ⟨.hbm, 119, rfl⟩
abbrev main_v32 : Ref sig .tc := ⟨.hbm, 120, rfl⟩
abbrev main_cst_6 : Ref sig .tc := ⟨.hbm, 121, rfl⟩
abbrev main_v33 : Ref sig .tc := ⟨.hbm, 122, rfl⟩
abbrev main_v34 : Ref sig .tc := ⟨.hbm, 123, rfl⟩
abbrev main_cst_7 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_cst_8 : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩

abbrev nD : Nat := 1
abbrev τ : Topo := Topo.v7x

variable {F : FTy → Type} [FloatOps F]
-- ==== Proof.Rows.lean ====
module

public import proofs.«01_k».proof.Proof.Gen.KernelIdeal.Skeleton
public import Idealize.ShloMosaic.Lib.VecWindow
public import Idealize.ShloMosaic.Lib.Rounds
public import Idealize.ShloMosaic.Lib.Tactic

/-! Arrays `4 × 8 × 512 × n` written one row `(r, h)` at a time: the rows of residue `r` below a head count replaced, the others kept. -/

@[expose] public section

noncomputable section

namespace Cert.Att

open Idealize.ShloMosaic Idealize.SL.Sem

variable {α : Type} {n : ℕ}

/-- The array's shape, and one row's. -/
abbrev SA (n : ℕ) : Shape := ⟨4, ![4, 8, 512, n]⟩
abbrev SR (n : ℕ) : Shape := ⟨4, ![1, 1, 512, n]⟩

/-- The place within its row of an index of the array. -/
def row (i : (SA n).Idx) : (SR n).Idx := fun a => match a with
  | 0 => (0 : Fin 1)
  | 1 => (0 : Fin 1)
  | 2 => i 2
  | 3 => i 3

/-- The place of the array at which row `(r, h)` has its index `y`. -/
def atRow (r : Fin 4) (h : Fin 8) (y : (SR n).Idx) : (SA n).Idx := fun a => match a with
  | 0 => r
  | 1 => h
  | 2 => y 2
  | 3 => y 3

/-- Row `(r, h)` of the array. -/
def rowAt (f : (SA n).Idx → α) (r : Fin 4) (h : Fin 8) : (SR n).Idx → α := fun y => f (atRow r h y)

/-- The rows `(r, h)` with `h < k` replaced by `g h`. -/
def upto (r : Fin 4) (k : ℕ) (g : Fin 8 → (SR n).Idx → α) (f : (SA n).Idx → α) : (SA n).Idx → α :=
  fun i => if (i 0).val = r.val ∧ (i 1).val < k then g (i 1) (row i) else f i

theorem upto_zero (r : Fin 4) (g : Fin 8 → (SR n).Idx → α) (f : (SA n).Idx → α) : upto r 0 g f = f :=
  funext fun i => by unfold upto; rw [if_neg fun h => Nat.not_lt_zero _ h.2]

theorem row_atRow (r : Fin 4) (h : Fin 8) (y : (SR n).Idx) : row (atRow r h y) = y := funext fun a => match a with
  | 0 => Subsingleton.elim (α := Fin 1) _ _
  | 1 => Subsingleton.elim (α := Fin 1) _ _
  | 2 => rfl
  | 3 => rfl

theorem atRow_row (i : (SA n).Idx) : atRow (i 0) (i 1) (row i) = i := funext fun a => match a with
  | 0 => rfl
  | 1 => rfl
  | 2 => rfl
  | 3 => rfl

/-- A row of the array after rows of one residue were replaced. -/
theorem rowAt_upto_self (r : Fin 4) (k : ℕ) (g : Fin 8 → (SR n).Idx → α) (f : (SA n).Idx → α) (h : Fin 8) (hk : h.val < k) :
    rowAt (upto r k g f) r h = g h := funext fun y => by
  unfold rowAt upto
  rw [if_pos ⟨rfl, hk⟩, row_atRow]; rfl
theorem rowAt_upto_later (r : Fin 4) (k : ℕ) (g : Fin 8 → (SR n).Idx → α) (f : (SA n).Idx → α) (h : Fin 8) (hk : k ≤ h.val) :
    rowAt (upto r k g f) r h = rowAt f r h := funext fun y => by
  unfold rowAt upto
  rw [if_neg fun hh => absurd hh.2 (Nat.not_lt.mpr hk)]
theorem rowAt_upto_ne (r r' : Fin 4) (k : ℕ) (g : Fin 8 → (SR n).Idx → α) (f : (SA n).Idx → α) (h : Fin 8) (hr : r' ≠ r) :
    rowAt (upto r k g f) r' h = rowAt f r' h := funext fun y => by
  unfold rowAt upto
  rw [if_neg fun hh => hr (Fin.ext hh.1)]

/-- The offsets of row `(r, h)`. -/
theorem window_row (f : (SA n).Idx → α) (r : Fin 4) (h : Fin 8) (off : Fin 4 → ℕ) (ho : off = ![r.val, h.val, 0, 0])
    (inb : ∀ a, off a + (SR n).size a ≤ (SA n).size a) : VecWindow.window (s := SA n) f off (SR n).size inb = rowAt f r h := by
  subst ho
  funext y
  refine congrArg f (funext fun a => Fin.ext ?_)
  show ![r.val, h.val, 0, 0] a + 1 * (y a).val = (atRow r h y a).val
  match a with
  | 0 => have : (y 0).val < 1 := (y 0).isLt; show r.val + 1 * (y 0).val = r.val; omega
  | 1 => have : (y 1).val < 1 := (y 1).isLt; show h.val + 1 * (y 1).val = h.val; omega
  | 2 => show 0 + 1 * (y 2).val = (y 2).val; omega
  | 3 => show 0 + 1 * (y 3).val = (y 3).val; omega

/-- One more row replaced. -/
theorem put_upto (r : Fin 4) (h : Fin 8) (g : Fin 8 → (SR n).Idx → α) (f : (SA n).Idx → α) (off : Fin 4 → ℕ) (ho : off = ![r.val, h.val, 0, 0]) :
    VecWindow.put (s := SA n) (upto r h.val g f) off (SR n).size (g h) = upto r (h.val + 1) g f := by
  subst ho
  funext i
  unfold VecWindow.put
  have h2 : (i 2).val < 512 := (i 2).isLt
  have h3 : (i 3).val < n := (i 3).isLt
  by_cases hi : i 0 = r ∧ i 1 = h
  · have hd : ∀ a, ![r.val, h.val, 0, 0] a ≤ (i a).val ∧ (i a).val < ![r.val, h.val, 0, 0] a + (SR n).size a := fun a => match a with
      | 0 => by rw [hi.1]; show r.val ≤ r.val ∧ r.val < r.val + 1; omega
      | 1 => by rw [hi.2]; show h.val ≤ h.val ∧ h.val < h.val + 1; omega
      | 2 => by show 0 ≤ (i 2).val ∧ (i 2).val < 0 + 512; omega
      | 3 => by show 0 ≤ (i 3).val ∧ (i 3).val < 0 + n; omega
    rw [dif_pos hd]
    unfold upto
    have hc : (i 0).val = r.val ∧ (i 1).val < h.val + 1 := ⟨by rw [hi.1], by rw [hi.2]; omega⟩
    rw [if_pos hc, hi.2]
    refine congrArg (g h) (funext fun a => Fin.ext ?_)
    match a with
    | 0 => show (i 0).val - r.val = 0; rw [hi.1]; omega
    | 1 => show (i 1).val - h.val = 0; rw [hi.2]; omega
    | 2 => rfl
    | 3 => rfl
  · have hd : ¬ ∀ a, ![r.val, h.val, 0, 0] a ≤ (i a).val ∧ (i a).val < ![r.val, h.val, 0, 0] a + (SR n).size a := fun hall => by
      have a0 : r.val ≤ (i 0).val ∧ (i 0).val < r.val + 1 := hall 0
      have a1 : h.val ≤ (i 1).val ∧ (i 1).val < h.val + 1 := hall 1
      exact hi ⟨Fin.ext (by omega), Fin.ext (by omega)⟩
    rw [dif_neg hd]
    unfold upto
    by_cases hk : (i 0).val = r.val ∧ (i 1).val < h.val
    · rw [if_pos hk, if_pos ⟨hk.1, by omega⟩]
    · rw [if_neg hk, if_neg fun hh => hi ⟨Fin.ext hh.1, Fin.ext (by have := hh.2; by_contra hne; exact hk ⟨hh.1, by omega⟩)⟩]

/-! ### Loads and stores at whole buffers -/

variable {sig : RefSig} {κ : Kind} {Val : EltTy → Type}

/-- A load of a whole buffer at a unit-stride rectangle. -/
theorem readAt_whole (b : Ref sig κ) (f : b.ty.Contents Val) {off size : Fin b.ty.shape.rank → ℕ} (inb : ∀ a, off a + size a ≤ b.ty.shape.size a) :
    (Memref.whole b).view.readAt Val (Rect.unit off size inb).toLoadRect f = VecWindow.window f off size inb := by
  have h := View.readAt_unit (View.whole b) f inb rfl inb
  rw [View.read_whole] at h
  exact h

/-- A store to a whole buffer at a unit-stride rectangle. -/
theorem write_whole (b : Ref sig κ) (f : b.ty.Contents Val) {off size : Fin b.ty.shape.rank → ℕ} (inb : ∀ a, off a + size a ≤ b.ty.shape.size a)
    (w : (Rect.unit off size inb).shape.Idx → Val b.ty.elt) :
    ((Memref.whole b).access (Rect.unit off size inb)).write Val f w Finset.univ = VecWindow.put f off size w := by
  have h := View.read_writes_cons_put (View.whole b) f inb w [] rfl
  rw [View.read_whole, View.writes_nil, View.read_whole] at h
  exact h

end Cert.Att

end
-- ==== Proof.Passes.lean ====
module

public import proofs.«01_k».proof.Proof.Rows
public import proofs.«01_k».proof.Proof.Gen.KernelIdeal.Points
public import Idealize.ShloMosaic.Lib.Scf

/-! The attention call's loops. A pass adds one slab of keys and values to every head of one residue. -/

@[expose] public section

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU := UR sig nD τ × URounds (GSem nD τ sig) (Fin 2)
local notation "𝕄" => MT nD τ sig Unit (Elt F) ℕ UU ℕ

/-- The call's buffers. -/
abbrev qM : Memref sig .tc .vmem S4x8x512x128 .bf16 := Memref.whole cc2_stg0_0
abbrev kM : Memref sig .tc .vmem S4x8x512x128 .bf16 := Memref.whole cc2_stg1_0
abbrev vM : Memref sig .tc .vmem S4x8x512x128 .fp8e4m3 := Memref.whole cc2_stg2_0
abbrev cM : Memref sig .tc .vmem S4x8x512x128 .f32 := Memref.whole cc2_stg3_0
abbrev dM : Memref sig .tc .vmem S4x8x512x1 .f32 := Memref.whole cc2_scratch0
abbrev kbM : Memref sig .tc .vmem S3x4x8x512x128 .bf16 := Memref.whole cc2_scratch1
abbrev vbM : Memref sig .tc .vmem S3x4x8x512x128 .fp8e4m3 := Memref.whole cc2_scratch2

/-- Head `h` of a slab. -/
def srow {α : Type} (X : S8x512x128.Idx → α) (h : Fin 8) : S1x512x128.Idx → α := fun y => X fun a => match a with
  | 0 => h
  | 1 => y 1
  | 2 => y 2

theorem window_srow {α : Type} (X : S8x512x128.Idx → α) (h : Fin 8) (off : Fin 3 → ℕ) (ho : off = ![h.val, 0, 0])
    (inb : ∀ a, off a + S1x512x128.size a ≤ S8x512x128.size a) : VecWindow.window (s := S8x512x128) X off S1x512x128.size inb = srow X h := by
  subst ho
  funext y
  refine congrArg X (funext fun a => Fin.ext ?_)
  match a with
  | 0 => have : (y 0).val < 1 := (y 0).isLt; show h.val + 1 * (y 0).val = h.val; omega
  | 1 => show 0 + 1 * (y 1).val = (y 1).val; omega
  | 2 => show 0 + 1 * (y 2).val = (y 2).val; omega

/-! ### One trip of each kind -/

abbrev Inb1 (o : Fin 4 → ℕ) : Prop := ∀ a, o a + S1x1x512x128.size a ≤ S4x8x512x128.size a
abbrev Inb2 (o : Fin 3 → ℕ) : Prop := ∀ a, o a + S1x512x128.size a ≤ S8x512x128.size a
abbrev Inb3 (o : Fin 4 → ℕ) : Prop := ∀ a, o a + S1x1x512x1.size a ≤ S4x8x512x1.size a

def firstTrip (mk : Memref sig .tc .vmem S8x512x128 .bf16) (mv : Memref sig .tc .vmem S8x512x128 .fp8e4m3)
    (o1 : Fin 4 → ℕ) (i1 : Inb1 o1) (o2 : Fin 3 → ℕ) (i2 : Inb2 o2) (o3 : Fin 4 → ℕ) (i3 : Inb3 o3) : Prog (TpuEff nD τ sig (Elt F) Λ₀ .tc) Unit :=
  .op (.load qM (Rect.unit (s := S4x8x512x128) o1 S1x1x512x128.size i1).toLoadRect (View.loadsAt_vmem h_S1x1x512x128)) fun vq =>
  .op (.load mk (Rect.unit (s := S8x512x128) o2 S1x512x128.size i2).toLoadRect (View.loadsAt_vmem h_S1x512x128)) fun vk =>
  .op (.load mv (Rect.unit (s := S8x512x128) o2 S1x512x128.size i2).toLoadRect (View.loadsAt_vmem h_S1x512x128)) fun vv =>
  .op (.load cM (Rect.unit (s := S4x8x512x128) o1 S1x1x512x128.size i1).toLoadRect (View.loadsAt_vmem h_S1x1x512x128)) fun _ =>
  .op (.store cM (Rect.unit (s := S4x8x512x128) o1 S1x1x512x128.size i1) (k2_pay30 vq vk vv) Finset.univ (View.stores_vmem_bits_univ h_S1x1x512x128 rfl) (.inl rfl)) fun _ =>
  .op (.load dM (Rect.unit (s := S4x8x512x1) o3 S1x1x512x1.size i3).toLoadRect (View.loadsAt_vmem h_S1x1x512x1)) fun _ =>
  .op (.store dM (Rect.unit (s := S4x8x512x1) o3 S1x1x512x1.size i3) (k2_pay31 vq vk) Finset.univ (View.stores_vmem_bits_univ h_S1x1x512x1 rfl) (.inl rfl)) fun _ =>
  .ret ⟨⟩

def midTrip (mk : Memref sig .tc .vmem S8x512x128 .bf16) (mv : Memref sig .tc .vmem S8x512x128 .fp8e4m3)
    (o1 : Fin 4 → ℕ) (i1 : Inb1 o1) (o2 : Fin 3 → ℕ) (i2 : Inb2 o2) (o3 : Fin 4 → ℕ) (i3 : Inb3 o3) : Prog (TpuEff nD τ sig (Elt F) Λ₀ .tc) Unit :=
  .op (.load qM (Rect.unit (s := S4x8x512x128) o1 S1x1x512x128.size i1).toLoadRect (View.loadsAt_vmem h_S1x1x512x128)) fun vq =>
  .op (.load mk (Rect.unit (s := S8x512x128) o2 S1x512x128.size i2).toLoadRect (View.loadsAt_vmem h_S1x512x128)) fun vk =>
  .op (.load mv (Rect.unit (s := S8x512x128) o2 S1x512x128.size i2).toLoadRect (View.loadsAt_vmem h_S1x512x128)) fun vv =>
  .op (.load cM (Rect.unit (s := S4x8x512x128) o1 S1x1x512x128.size i1).toLoadRect (View.loadsAt_vmem h_S1x1x512x128)) fun vc =>
  .op (.load cM (Rect.unit (s := S4x8x512x128) o1 S1x1x512x128.size i1).toLoadRect (View.loadsAt_vmem h_S1x1x512x128)) fun _ =>
  .op (.store cM (Rect.unit (s := S4x8x512x128) o1 S1x1x512x128.size i1) (k2_pay3 vq vk vv vc) Finset.univ (View.stores_vmem_bits_univ h_S1x1x512x128 rfl) (.inl rfl)) fun _ =>
  .op (.load dM (Rect.unit (s := S4x8x512x1) o3 S1x1x512x1.size i3).toLoadRect (View.loadsAt_vmem h_S1x1x512x1)) fun vd =>
  .op (.load dM (Rect.unit (s := S4x8x512x1) o3 S1x1x512x1.size i3).toLoadRect (View.loadsAt_vmem h_S1x1x512x1)) fun _ =>
  .op (.store dM (Rect.unit (s := S4x8x512x1) o3 S1x1x512x1.size i3) (k2_pay41 (k2_pay2 vq vk) vd) Finset.univ (View.stores_vmem_bits_univ h_S1x1x512x1 rfl) (.inl rfl)) fun _ =>
  .ret ⟨⟩

def lastTrip (mk : Memref sig .tc .vmem S8x512x128 .bf16) (mv : Memref sig .tc .vmem S8x512x128 .fp8e4m3)
    (o1 : Fin 4 → ℕ) (i1 : Inb1 o1) (o2 : Fin 3 → ℕ) (i2 : Inb2 o2) (o3 : Fin 4 → ℕ) (i3 : Inb3 o3) : Prog (TpuEff nD τ sig (Elt F) Λ₀ .tc) Unit :=
  .op (.load qM (Rect.unit (s := S4x8x512x128) o1 S1x1x512x128.size i1).toLoadRect (View.loadsAt_vmem h_S1x1x512x128)) fun vq =>
  .op (.load mk (Rect.unit (s := S8x512x128) o2 S1x512x128.size i2).toLoadRect (View.loadsAt_vmem h_S1x512x128)) fun vk =>
  .op (.load mv (Rect.unit (s := S8x512x128) o2 S1x512x128.size i2).toLoadRect (View.loadsAt_vmem h_S1x512x128)) fun vv =>
  .op (.load cM (Rect.unit (s := S4x8x512x128) o1 S1x1x512x128.size i1).toLoadRect (View.loadsAt_vmem h_S1x1x512x128)) fun vc =>
  .op (.load dM (Rect.unit (s := S4x8x512x1) o3 S1x1x512x1.size i3).toLoadRect (View.loadsAt_vmem h_S1x1x512x1)) fun vd =>
  .op (.load cM (Rect.unit (s := S4x8x512x128) o1 S1x1x512x128.size i1).toLoadRect (View.loadsAt_vmem h_S1x1x512x128)) fun _ =>
  .op (.store cM (Rect.unit (s := S4x8x512x128) o1 S1x1x512x128.size i1) (k2_pay49 (k2_pay25 vq vk vv vc vd)) Finset.univ (View.stores_vmem_bits_univ h_S1x1x512x128 rfl) (.inl rfl)) fun _ =>
  .ret ⟨⟩

/-! ### What a pass holds -/

/-- The queries, a slab of keys, a slab of values, the sums and the denominators. -/
def PassRes (c : Dev nD) (mk : Memref sig .tc .vmem S8x512x128 .bf16) (mv : Memref sig .tc .vmem S8x512x128 .fp8e4m3)
    (SK : Finset (Idx (mk.view.loc (c : Thread nD τ)))) (SV : Finset (Idx (mv.view.loc (c : Thread nD τ)))) (qk qv : PosShare TreeShare)
    (fk : Buf (Elt F) (mk.view.loc (c : Thread nD τ))) (fv : Buf (Elt F) (mv.view.loc (c : Thread nD τ)))
    (fq : S4x8x512x128.Idx → Elt F .bf16) (fc : S4x8x512x128.Idx → Elt F .f32) (fd : S4x8x512x1.Idx → Elt F .f32) : sProp 𝕄 :=
  iprop((qM.view.loc (c : Thread nD τ) ↦{fullShare} fq) ∗ (mk.view.loc (c : Thread nD τ) ↦[SK]{qk} fk) ∗ (mv.view.loc (c : Thread nD τ) ↦[SV]{qv} fv)
    ∗ (cM.view.loc (c : Thread nD τ) ↦{fullShare} fc) ∗ (dM.view.loc (c : Thread nD τ) ↦{fullShare} fd))

variable (𝒱 : Variants) (c : Dev nD)
    (mk : Memref sig .tc .vmem S8x512x128 .bf16) (mv : Memref sig .tc .vmem S8x512x128 .fp8e4m3)
    (SK : Finset (Idx (mk.view.loc (c : Thread nD τ)))) (SV : Finset (Idx (mv.view.loc (c : Thread nD τ)))) (qk qv : PosShare TreeShare)
    (fk : Buf (Elt F) (mk.view.loc (c : Thread nD τ))) (fv : Buf (Elt F) (mv.view.loc (c : Thread nD τ)))
    (hSK : mk.view.set ⊆ SK) (hSV : mv.view.set ⊆ SV)
    (X : S8x512x128.Idx → Elt F .bf16) (Y : S8x512x128.Idx → Elt F .fp8e4m3)
    (hX : mk.view.read (Elt F) fk = X) (hY : mv.view.read (Elt F) fv = Y)
    (fq : S4x8x512x128.Idx → Elt F .bf16) (fc : S4x8x512x128.Idx → Elt F .f32) (fd : S4x8x512x1.Idx → Elt F .f32)
    (r : Fin 4) (h : Fin 8) (o1 : Fin 4 → ℕ) (i1 : Inb1 o1) (o2 : Fin 3 → ℕ) (i2 : Inb2 o2) (o3 : Fin 4 → ℕ) (i3 : Inb3 o3)
    (e1 : o1 = ![r.val, h.val, 0, 0]) (e2 : o2 = ![h.val, 0, 0]) (e3 : o3 = ![r.val, h.val, 0, 0])

/-- The first pass of a row: the sums begun. -/
def firstC (fq : S4x8x512x128.Idx → Elt F .bf16) (X : S8x512x128.Idx → Elt F .bf16) (Y : S8x512x128.Idx → Elt F .fp8e4m3) (r : Fin 4) (h : Fin 8) :
    S1x1x512x128.Idx → Elt F .f32 := k2_pay30 (F := F) (rowAt fq r h) (srow X h) (srow Y h)
def firstD (fq : S4x8x512x128.Idx → Elt F .bf16) (X : S8x512x128.Idx → Elt F .bf16) (r : Fin 4) (h : Fin 8) :
    S1x1x512x1.Idx → Elt F .f32 := k2_pay31 (F := F) (rowAt fq r h) (srow X h)
/-- A later pass: added to the sums. -/
def midC (fq : S4x8x512x128.Idx → Elt F .bf16) (X : S8x512x128.Idx → Elt F .bf16) (Y : S8x512x128.Idx → Elt F .fp8e4m3)
    (fc : S4x8x512x128.Idx → Elt F .f32) (r : Fin 4) (h : Fin 8) :
    S1x1x512x128.Idx → Elt F .f32 := k2_pay3 (F := F) (rowAt fq r h) (srow X h) (srow Y h) (rowAt fc r h)
def midD (fq : S4x8x512x128.Idx → Elt F .bf16) (X : S8x512x128.Idx → Elt F .bf16) (fd : S4x8x512x1.Idx → Elt F .f32) (r : Fin 4) (h : Fin 8) :
    S1x1x512x1.Idx → Elt F .f32 := k2_pay41 (F := F) (k2_pay2 (rowAt fq r h) (srow X h)) (rowAt fd r h)
/-- The last pass: added, and divided by the denominator. -/
def lastC (fq : S4x8x512x128.Idx → Elt F .bf16) (X : S8x512x128.Idx → Elt F .bf16) (Y : S8x512x128.Idx → Elt F .fp8e4m3)
    (fc : S4x8x512x128.Idx → Elt F .f32) (fd : S4x8x512x1.Idx → Elt F .f32) (r : Fin 4) (h : Fin 8) :
    S1x1x512x128.Idx → Elt F .f32 := k2_pay49 (F := F) (k2_pay25 (rowAt fq r h) (srow X h) (srow Y h) (rowAt fc r h) (rowAt fd r h))

include hSK hSV hX hY e1 e2 e3

theorem first_trip :
    PassRes c mk mv SK SV qk qv fk fv fq (upto r h.val (firstC fq X Y r) fc) (upto r h.val (firstD fq X r) fd)
      ⊢ (wp frame (wpE (defs₀ (F := F)) 𝒱 (c : Thread nD τ) none) Set.univ (firstTrip (F := F) mk mv o1 i1 o2 i2 o3 i3)
          (fun _ => PassRes c mk mv SK SV qk qv fk fv fq (upto r (h.val + 1) (firstC fq X Y r) fc) (upto r (h.val + 1) (firstD fq X r) fd)) : sProp 𝕄) := by
  unfold firstTrip PassRes
  iintro ⟨HQ, HK, HV, HC, HD⟩
  iapply (wp_load 𝒱 (c : Thread nD τ) none Set.univ (m := qM) (S := Finset.univ) (Finset.subset_univ _)) $$ HQ
  iintro HQ
  iapply (wp_load 𝒱 (c : Thread nD τ) none Set.univ (m := mk) (S := SK) ((View.setOn_subset_set _ _).trans hSK)) $$ HK
  iintro HK
  iapply (wp_load 𝒱 (c : Thread nD τ) none Set.univ (m := mv) (S := SV) ((View.setOn_subset_set _ _).trans hSV)) $$ HV
  iintro HV
  iapply (wp_load 𝒱 (c : Thread nD τ) none Set.univ (m := cM) (S := Finset.univ) (Finset.subset_univ _)) $$ HC
  iintro HC
  iapply (wp_store 𝒱 (c : Thread nD τ) none Set.univ (m := cM) (r := Rect.unit (s := S4x8x512x128) o1 S1x1x512x128.size i1) (S := Finset.univ) (Finset.subset_univ _)) $$ HC
  iintro HC
  iapply (wp_load 𝒱 (c : Thread nD τ) none Set.univ (m := dM) (S := Finset.univ) (Finset.subset_univ _)) $$ HD
  iintro HD
  iapply (wp_store 𝒱 (c : Thread nD τ) none Set.univ (m := dM) (r := Rect.unit (s := S4x8x512x1) o3 S1x1x512x1.size i3) (S := Finset.univ) (Finset.subset_univ _)) $$ HD
  iintro HD
  rw [View.readAt_unit mk.view fk i2 rfl i2, View.readAt_unit mv.view fv i2 rfl i2, hX, hY, window_srow X h o2 e2, window_srow Y h o2 e2]
  rw [readAt_whole cc2_stg0_0 fq i1, window_row fq r h o1 e1]
  rw [write_whole cc2_stg3_0, write_whole cc2_scratch0]
  rw [← put_upto r h (firstC fq X Y r) fc o1 e1, ← put_upto r h (firstD fq X r) fd o3 e3]
  rw [wp_ret]
  imodintro
  isplitl [HQ]; · iexact HQ
  isplitl [HK]; · iexact HK
  isplitl [HV]; · iexact HV
  isplitl [HC]; · iexact HC
  iexact HD

theorem mid_trip :
    PassRes c mk mv SK SV qk qv fk fv fq (upto r h.val (midC fq X Y fc r) fc) (upto r h.val (midD fq X fd r) fd)
      ⊢ (wp frame (wpE (defs₀ (F := F)) 𝒱 (c : Thread nD τ) none) Set.univ (midTrip (F := F) mk mv o1 i1 o2 i2 o3 i3)
          (fun _ => PassRes c mk mv SK SV qk qv fk fv fq (upto r (h.val + 1) (midC fq X Y fc r) fc) (upto r (h.val + 1) (midD fq X fd r) fd)) : sProp 𝕄) := by
  unfold midTrip PassRes
  iintro ⟨HQ, HK, HV, HC, HD⟩
  iapply (wp_load 𝒱 (c : Thread nD τ) none Set.univ (m := qM) (S := Finset.univ) (Finset.subset_univ _)) $$ HQ
  iintro HQ
  iapply (wp_load 𝒱 (c : Thread nD τ) none Set.univ (m := mk) (S := SK) ((View.setOn_subset_set _ _).trans hSK)) $$ HK
  iintro HK
  iapply (wp_load 𝒱 (c : Thread nD τ) none Set.univ (m := mv) (S := SV) ((View.setOn_subset_set _ _).trans hSV)) $$ HV
  iintro HV
  iapply (wp_load 𝒱 (c : Thread nD τ) none Set.univ (m := cM) (S := Finset.univ) (Finset.subset_univ _)) $$ HC
  iintro HC
  iapply (wp_load 𝒱 (c : Thread nD τ) none Set.univ (m := cM) (S := Finset.univ) (Finset.subset_univ _)) $$ HC
  iintro HC
  iapply (wp_store 𝒱 (c : Thread nD τ) none Set.univ (m := cM) (r := Rect.unit (s := S4x8x512x128) o1 S1x1x512x128.size i1) (S := Finset.univ) (Finset.subset_univ _)) $$ HC
  iintro HC
  iapply (wp_load 𝒱 (c : Thread nD τ) none Set.univ (m := dM) (S := Finset.univ) (Finset.subset_univ _)) $$ HD
  iintro HD
  iapply (wp_load 𝒱 (c : Thread nD τ) none Set.univ (m := dM) (S := Finset.univ) (Finset.subset_univ _)) $$ HD
  iintro HD
  iapply (wp_store 𝒱 (c : Thread nD τ) none Set.univ (m := dM) (r := Rect.unit (s := S4x8x512x1) o3 S1x1x512x1.size i3) (S := Finset.univ) (Finset.subset_univ _)) $$ HD
  iintro HD
  rw [View.readAt_unit mk.view fk i2 rfl i2, View.readAt_unit mv.view fv i2 rfl i2, hX, hY, window_srow X h o2 e2, window_srow Y h o2 e2]
  rw [readAt_whole cc2_stg0_0 fq i1, window_row fq r h o1 e1]
  rw [readAt_whole cc2_stg3_0 _ i1, window_row _ r h o1 e1, rowAt_upto_later r h.val _ fc h le_rfl]
  rw [readAt_whole cc2_scratch0 _ i3, window_row _ r h o3 e3, rowAt_upto_later r h.val _ fd h le_rfl]
  rw [write_whole cc2_stg3_0, write_whole cc2_scratch0]
  rw [← put_upto r h (midC fq X Y fc r) fc o1 e1, ← put_upto r h (midD fq X fd r) fd o3 e3]
  rw [wp_ret]
  imodintro
  isplitl [HQ]; · iexact HQ
  isplitl [HK]; · iexact HK
  isplitl [HV]; · iexact HV
  isplitl [HC]; · iexact HC
  iexact HD

theorem last_trip :
    PassRes c mk mv SK SV qk qv fk fv fq (upto r h.val (lastC fq X Y fc fd r) fc) fd
      ⊢ (wp frame (wpE (defs₀ (F := F)) 𝒱 (c : Thread nD τ) none) Set.univ (lastTrip (F := F) mk mv o1 i1 o2 i2 o3 i3)
          (fun _ => PassRes c mk mv SK SV qk qv fk fv fq (upto r (h.val + 1) (lastC fq X Y fc fd r) fc) fd) : sProp 𝕄) := by
  unfold lastTrip PassRes
  iintro ⟨HQ, HK, HV, HC, HD⟩
  iapply (wp_load 𝒱 (c : Thread nD τ) none Set.univ (m := qM) (S := Finset.univ) (Finset.subset_univ _)) $$ HQ
  iintro HQ
  iapply (wp_load 𝒱 (c : Thread nD τ) none Set.univ (m := mk) (S := SK) ((View.setOn_subset_set _ _).trans hSK)) $$ HK
  iintro HK
  iapply (wp_load 𝒱 (c : Thread nD τ) none Set.univ (m := mv) (S := SV) ((View.setOn_subset_set _ _).trans hSV)) $$ HV
  iintro HV
  iapply (wp_load 𝒱 (c : Thread nD τ) none Set.univ (m := cM) (S := Finset.univ) (Finset.subset_univ _)) $$ HC
  iintro HC
  iapply (wp_load 𝒱 (c : Thread nD τ) none Set.univ (m := dM) (S := Finset.univ) (Finset.subset_univ _)) $$ HD
  iintro HD
  iapply (wp_load 𝒱 (c : Thread nD τ) none Set.univ (m := cM) (S := Finset.univ) (Finset.subset_univ _)) $$ HC
  iintro HC
  iapply (wp_store 𝒱 (c : Thread nD τ) none Set.univ (m := cM) (r := Rect.unit (s := S4x8x512x128) o1 S1x1x512x128.size i1) (S := Finset.univ) (Finset.subset_univ _)) $$ HC
  iintro HC
  rw [View.readAt_unit mk.view fk i2 rfl i2, View.readAt_unit mv.view fv i2 rfl i2, hX, hY, window_srow X h o2 e2, window_srow Y h o2 e2]
  rw [readAt_whole cc2_stg0_0 fq i1, window_row fq r h o1 e1]
  rw [readAt_whole cc2_stg3_0 _ i1, window_row _ r h o1 e1, rowAt_upto_later r h.val _ fc h le_rfl]
  rw [readAt_whole cc2_scratch0 _ i3, window_row fd r h o3 e3]
  rw [write_whole cc2_stg3_0]
  rw [← put_upto r h (lastC fq X Y fc fd r) fc o1 e1]
  rw [wp_ret]
  imodintro
  isplitl [HQ]; · iexact HQ
  isplitl [HK]; · iexact HK
  isplitl [HV]; · iexact HV
  isplitl [HC]; · iexact HC
  iexact HD

omit hSK hSV hX hY e1 e2 e3

/-! ### The passes -/

variable (L : Scf.Loop 32) (ok : L.OK) (hL : L.trips = 8) (body : Fin L.trips → Unit → Prog (TpuEff nD τ sig (Elt F) Λ₀ .tc) Unit)
    (p1 : Fin L.trips → Fin 4 → ℕ) (j1 : ∀ k, Inb1 (p1 k)) (p2 : Fin L.trips → Fin 3 → ℕ) (j2 : ∀ k, Inb2 (p2 k)) (p3 : Fin L.trips → Fin 4 → ℕ) (j3 : ∀ k, Inb3 (p3 k))
    (hp1 : ∀ k, p1 k = ![r.val, k.val, 0, 0]) (hp2 : ∀ k, p2 k = ![k.val, 0, 0]) (hp3 : ∀ k, p3 k = ![r.val, k.val, 0, 0])

include hSK hSV hX hY hL hp1 hp2 hp3

theorem pass_first {β : Type} (kk : Unit → Prog (TpuEff nD τ sig (Elt F) Λ₀ .tc) β) (QQ : β → sProp 𝕄)
    (hb : ∀ k u, body k u = firstTrip (F := F) mk mv (p1 k) (j1 k) (p2 k) (j2 k) (p3 k) (j3 k)) :
    PassRes c mk mv SK SV qk qv fk fv fq fc fd
      ⊢ (iprop((PassRes c mk mv SK SV qk qv fk fv fq (upto r 8 (firstC fq X Y r) fc) (upto r 8 (firstD fq X r) fd)
            -∗ wp frame (wpE (defs₀ (F := F)) 𝒱 (c : Thread nD τ) none) Set.univ (kk ⟨⟩) QQ)
          -∗ wp frame (wpE (defs₀ (F := F)) 𝒱 (c : Thread nD τ) none) Set.univ (Scf.Loop.for L ok ⟨⟩ body >>= kk) QQ) : sProp 𝕄) := by
  have h0 := Scf.wp_for_bind (M := 𝕄) frame (wpE (defs₀ (F := F)) 𝒱 (c : Thread nD τ) none) Set.univ L.lb L.ub L.st ok () body
    (fun n _ => PassRes c mk mv SK SV qk qv fk fv fq (upto r n (firstC fq X Y r) fc) (upto r n (firstD fq X r) fd))
    (fun k _ => by
      rw [hb]
      exact first_trip 𝒱 c mk mv SK SV qk qv fk fv hSK hSV X Y hX hY fq fc fd r ⟨k.val, lt_of_lt_of_eq k.isLt hL⟩ (p1 k) (j1 k) (p2 k) (j2 k) (p3 k) (j3 k) (hp1 k) (hp2 k) (hp3 k)) (kk := kk) (Q := QQ)
  have hL' : Scf.trips L.lb L.ub L.st = 8 := hL
  rw [hL'] at h0
  beta_reduce at h0
  rw [show (upto r 0 (firstC fq X Y r) fc) = fc from upto_zero _ _ _, show (upto r 0 (firstD fq X r) fd) = fd from upto_zero _ _ _] at h0
  refine h0.trans ?_
  iintro H HK
  iapply H
  iintro %a HP
  iapply HK
  iexact HP

theorem pass_mid {β : Type} (kk : Unit → Prog (TpuEff nD τ sig (Elt F) Λ₀ .tc) β) (QQ : β → sProp 𝕄)
    (hb : ∀ k u, body k u = midTrip (F := F) mk mv (p1 k) (j1 k) (p2 k) (j2 k) (p3 k) (j3 k)) :
    PassRes c mk mv SK SV qk qv fk fv fq fc fd
      ⊢ (iprop((PassRes c mk mv SK SV qk qv fk fv fq (upto r 8 (midC fq X Y fc r) fc) (upto r 8 (midD fq X fd r) fd)
            -∗ wp frame (wpE (defs₀ (F := F)) 𝒱 (c : Thread nD τ) none) Set.univ (kk ⟨⟩) QQ)
          -∗ wp frame (wpE (defs₀ (F := F)) 𝒱 (c : Thread nD τ) none) Set.univ (Scf.Loop.for L ok ⟨⟩ body >>= kk) QQ) : sProp 𝕄) := by
  have h0 := Scf.wp_for_bind (M := 𝕄) frame (wpE (defs₀ (F := F)) 𝒱 (c : Thread nD τ) none) Set.univ L.lb L.ub L.st ok () body
    (fun n _ => PassRes c mk mv SK SV qk qv fk fv fq (upto r n (midC fq X Y fc r) fc) (upto r n (midD fq X fd r) fd))
    (fun k _ => by
      rw [hb]
      exact mid_trip 𝒱 c mk mv SK SV qk qv fk fv hSK hSV X Y hX hY fq fc fd r ⟨k.val, lt_of_lt_of_eq k.isLt hL⟩ (p1 k) (j1 k) (p2 k) (j2 k) (p3 k) (j3 k) (hp1 k) (hp2 k) (hp3 k)) (kk := kk) (Q := QQ)
  have hL' : Scf.trips L.lb L.ub L.st = 8 := hL
  rw [hL'] at h0
  beta_reduce at h0
  rw [show (upto r 0 (midC fq X Y fc r) fc) = fc from upto_zero _ _ _, show (upto r 0 (midD fq X fd r) fd) = fd from upto_zero _ _ _] at h0
  refine h0.trans ?_
  iintro H HK
  iapply H
  iintro %a HP
  iapply HK
  iexact HP

theorem pass_last {β : Type} (kk : Unit → Prog (TpuEff nD τ sig (Elt F) Λ₀ .tc) β) (QQ : β → sProp 𝕄)
    (hb : ∀ k u, body k u = lastTrip (F := F) mk mv (p1 k) (j1 k) (p2 k) (j2 k) (p3 k) (j3 k)) :
    PassRes c mk mv SK SV qk qv fk fv fq fc fd
      ⊢ (iprop((PassRes c mk mv SK SV qk qv fk fv fq (upto r 8 (lastC fq X Y fc fd r) fc) fd
            -∗ wp frame (wpE (defs₀ (F := F)) 𝒱 (c : Thread nD τ) none) Set.univ (kk ⟨⟩) QQ)
          -∗ wp frame (wpE (defs₀ (F := F)) 𝒱 (c : Thread nD τ) none) Set.univ (Scf.Loop.for L ok ⟨⟩ body >>= kk) QQ) : sProp 𝕄) := by
  have h0 := Scf.wp_for_bind (M := 𝕄) frame (wpE (defs₀ (F := F)) 𝒱 (c : Thread nD τ) none) Set.univ L.lb L.ub L.st ok () body
    (fun n _ => PassRes c mk mv SK SV qk qv fk fv fq (upto r n (lastC fq X Y fc fd r) fc) fd)
    (fun k _ => by
      rw [hb]
      exact last_trip 𝒱 c mk mv SK SV qk qv fk fv hSK hSV X Y hX hY fq fc fd r ⟨k.val, lt_of_lt_of_eq k.isLt hL⟩ (p1 k) (j1 k) (p2 k) (j2 k) (p3 k) (j3 k) (hp1 k) (hp2 k) (hp3 k)) (kk := kk) (Q := QQ)
  have hL' : Scf.trips L.lb L.ub L.st = 8 := hL
  rw [hL'] at h0
  beta_reduce at h0
  rw [show (upto r 0 (lastC fq X Y fc fd r) fc) = fc from upto_zero _ _ _] at h0
  refine h0.trans ?_
  iintro H HK
  iapply H
  iintro %a HP
  iapply HK
  iexact HP

end Cert.Att

end
-- ==== Proof.Views.lean ====
module

public import proofs.«01_k».proof.Proof.Passes
public import Idealize.ShloMosaic.Lib.Pipeline.Value
public import Idealize.ShloMosaic.Lib.Ring

/-! The slabs the attention call's copies move, uniformly in slot and residue, and its semaphores. -/

@[expose] public section

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem srcInb (r : Fin 4) : ∀ a, (![r.val, 0, 0, 0] : Fin 4 → ℕ) a + S1x8x512x128.size a ≤ S4x8x512x128.size a := fun a => match a with
  | 0 => by have := r.isLt; show r.val + 1 ≤ 4; omega
  | 1 => by show 0 + 8 ≤ 8; omega
  | 2 => by show 0 + 512 ≤ 512; omega
  | 3 => by show 0 + 128 ≤ 128; omega
theorem bufInb (s : Fin 3) (r : Fin 4) : ∀ a, (![s.val, r.val, 0, 0, 0] : Fin 5 → ℕ) a + S1x1x8x512x128.size a ≤ S3x4x8x512x128.size a := fun a => match a with
  | 0 => by have := s.isLt; show s.val + 1 ≤ 3; omega
  | 1 => by have := r.isLt; show r.val + 1 ≤ 4; omega
  | 2 => by show 0 + 8 ≤ 8; omega
  | 3 => by show 0 + 512 ≤ 512; omega
  | 4 => by show 0 + 128 ≤ 128; omega

/-- Residue `r`'s slab of an array of keys or values; -/
def srcS {e : EltTy} (m : Memref sig .tc .vmem S4x8x512x128 e) (r : Fin 4) : Memref sig .tc .vmem S8x512x128 e :=
  (m.slice (Rect.unit (s := S4x8x512x128) ![r.val, 0, 0, 0] S1x8x512x128.size (srcInb r)) (fun _ => rfl)).squeeze S8x512x128 squeezes_S1x8x512x128_S8x512x128
/-- slot `s`'s slab `r` of a receive buffer. -/
def bufS {e : EltTy} (m : Memref sig .tc .vmem S3x4x8x512x128 e) (s : Fin 3) (r : Fin 4) : Memref sig .tc .vmem S8x512x128 e :=
  (m.slice (Rect.unit (s := S3x4x8x512x128) ![s.val, r.val, 0, 0, 0] S1x1x8x512x128.size (bufInb s r)) (fun _ => rfl)).squeeze S8x512x128 squeezes_S1x1x8x512x128_S8x512x128

def at4 (r : Fin 4) (y : S8x512x128.Idx) : S4x8x512x128.Idx := fun a => match a with
  | 0 => r
  | 1 => y 0
  | 2 => y 1
  | 3 => y 2
def at5 (s : Fin 3) (r : Fin 4) (y : S8x512x128.Idx) : S3x4x8x512x128.Idx := fun a => match a with
  | 0 => s
  | 1 => r
  | 2 => y 0
  | 3 => y 1
  | 4 => y 2

/-- A slab's contents. -/
def slab4 {α : Type} (f : S4x8x512x128.Idx → α) (r : Fin 4) : S8x512x128.Idx → α := fun y => f (at4 r y)
def slab5 {α : Type} (f : S3x4x8x512x128.Idx → α) (s : Fin 3) (r : Fin 4) : S8x512x128.Idx → α := fun y => f (at5 s r y)

theorem casts4 : S1x8x512x128.ShapeCasts S8x512x128 := by decide
theorem casts5 : S1x1x8x512x128.ShapeCasts S8x512x128 := by decide

theorem cast4 {α : Type} (f : S1x8x512x128.Idx → α) (hc : S1x8x512x128.ShapeCasts S8x512x128) (y : S8x512x128.Idx) :
    shapeCast S8x512x128 f hc y = f (fun a => match a with | 0 => (0 : Fin 1) | 1 => y 0 | 2 => y 1 | 3 => y 2) := by
  refine shapeCast_apply f hc y _ ?_
  rw [Shape.rowMajor_val_three, Shape.rowMajor_val_four]
  show ((0 * 8 + (y 0).val) * 512 + (y 1).val) * 128 + (y 2).val = ((y 0).val * 512 + (y 1).val) * 128 + (y 2).val
  omega
theorem cast5 {α : Type} (f : S1x1x8x512x128.Idx → α) (hc : S1x1x8x512x128.ShapeCasts S8x512x128) (y : S8x512x128.Idx) :
    shapeCast S8x512x128 f hc y = f (fun a => match a with | 0 => (0 : Fin 1) | 1 => (0 : Fin 1) | 2 => y 0 | 3 => y 1 | 4 => y 2) := by
  refine shapeCast_apply f hc y _ ?_
  rw [Shape.rowMajor_val_three, Shape.rowMajor_val_five]
  show (((0 * 1 + 0) * 8 + (y 0).val) * 512 + (y 1).val) * 128 + (y 2).val = ((y 0).val * 512 + (y 1).val) * 128 + (y 2).val
  omega

theorem read_kS (r : Fin 4) (f : S4x8x512x128.Idx → Elt F .bf16) : (srcS kM r).view.read (Elt F) f = slab4 f r := by
  refine (Memref.read_squeeze_slice kM (Rect.unit (s := S4x8x512x128) ![r.val, 0, 0, 0] S1x8x512x128.size (srcInb r)) (fun _ => rfl) squeezes_S1x8x512x128_S8x512x128 casts4 f).trans ?_
  rw [readAt_whole cc2_stg1_0 f (srcInb r)]
  funext y
  refine (cast4 _ _ y).trans (congrArg f (funext fun a => Fin.ext ?_))
  match a with
  | 0 => show r.val + 1 * 0 = r.val; omega
  | 1 => show 0 + 1 * (y 0).val = (y 0).val; omega
  | 2 => show 0 + 1 * (y 1).val = (y 1).val; omega
  | 3 => show 0 + 1 * (y 2).val = (y 2).val; omega
theorem read_vS (r : Fin 4) (f : S4x8x512x128.Idx → Elt F .fp8e4m3) : (srcS vM r).view.read (Elt F) f = slab4 f r := by
  refine (Memref.read_squeeze_slice vM (Rect.unit (s := S4x8x512x128) ![r.val, 0, 0, 0] S1x8x512x128.size (srcInb r)) (fun _ => rfl) squeezes_S1x8x512x128_S8x512x128 casts4 f).trans ?_
  rw [readAt_whole cc2_stg2_0 f (srcInb r)]
  funext y
  refine (cast4 _ _ y).trans (congrArg f (funext fun a => Fin.ext ?_))
  match a with
  | 0 => show r.val + 1 * 0 = r.val; omega
  | 1 => show 0 + 1 * (y 0).val = (y 0).val; omega
  | 2 => show 0 + 1 * (y 1).val = (y 1).val; omega
  | 3 => show 0 + 1 * (y 2).val = (y 2).val; omega
theorem read_kB (s : Fin 3) (r : Fin 4) (f : S3x4x8x512x128.Idx → Elt F .bf16) : (bufS kbM s r).view.read (Elt F) f = slab5 f s r := by
  refine (Memref.read_squeeze_slice kbM (Rect.unit (s := S3x4x8x512x128) ![s.val, r.val, 0, 0, 0] S1x1x8x512x128.size (bufInb s r)) (fun _ => rfl) squeezes_S1x1x8x512x128_S8x512x128 casts5 f).trans ?_
  rw [readAt_whole cc2_scratch1 f (bufInb s r)]
  funext y
  refine (cast5 _ _ y).trans (congrArg f (funext fun a => Fin.ext ?_))
  match a with
  | 0 => show s.val + 1 * 0 = s.val; omega
  | 1 => show r.val + 1 * 0 = r.val; omega
  | 2 => show 0 + 1 * (y 0).val = (y 0).val; omega
  | 3 => show 0 + 1 * (y 1).val = (y 1).val; omega
  | 4 => show 0 + 1 * (y 2).val = (y 2).val; omega
theorem read_vB (s : Fin 3) (r : Fin 4) (f : S3x4x8x512x128.Idx → Elt F .fp8e4m3) : (bufS vbM s r).view.read (Elt F) f = slab5 f s r := by
  refine (Memref.read_squeeze_slice vbM (Rect.unit (s := S3x4x8x512x128) ![s.val, r.val, 0, 0, 0] S1x1x8x512x128.size (bufInb s r)) (fun _ => rfl) squeezes_S1x1x8x512x128_S8x512x128 casts5 f).trans ?_
  rw [readAt_whole cc2_scratch2 f (bufInb s r)]
  funext y
  refine (cast5 _ _ y).trans (congrArg f (funext fun a => Fin.ext ?_))
  match a with
  | 0 => show s.val + 1 * 0 = s.val; omega
  | 1 => show r.val + 1 * 0 = r.val; omega
  | 2 => show 0 + 1 * (y 0).val = (y 0).val; omega
  | 3 => show 0 + 1 * (y 1).val = (y 1).val; omega
  | 4 => show 0 + 1 * (y 2).val = (y 2).val; omega

/-! ### The slabs' elements -/

theorem mem_rect4 (r : Fin 4) (i : S4x8x512x128.Idx) :
    i ∈ (Rect.unit (s := S4x8x512x128) ![r.val, 0, 0, 0] S1x8x512x128.size (srcInb r)).set ↔ i 0 = r := by
  rw [Rect.mem_set_unit]
  constructor
  · intro h
    have h0 : r.val ≤ (i 0).val ∧ (i 0).val < r.val + 1 := h 0
    exact Fin.ext (by omega)
  · intro h a
    have h1 : (i 1).val < 8 := (i 1).isLt
    have h2 : (i 2).val < 512 := (i 2).isLt
    have h3 : (i 3).val < 128 := (i 3).isLt
    match a with
    | 0 => rw [h]; show r.val ≤ r.val ∧ r.val < r.val + 1; omega
    | 1 => show 0 ≤ (i 1).val ∧ (i 1).val < 0 + 8; omega
    | 2 => show 0 ≤ (i 2).val ∧ (i 2).val < 0 + 512; omega
    | 3 => show 0 ≤ (i 3).val ∧ (i 3).val < 0 + 128; omega
theorem mem_rect5 (s : Fin 3) (r : Fin 4) (i : S3x4x8x512x128.Idx) :
    i ∈ (Rect.unit (s := S3x4x8x512x128) ![s.val, r.val, 0, 0, 0] S1x1x8x512x128.size (bufInb s r)).set ↔ i 0 = s ∧ i 1 = r := by
  rw [Rect.mem_set_unit]
  constructor
  · intro h
    have h0 : s.val ≤ (i 0).val ∧ (i 0).val < s.val + 1 := h 0
    have h1 : r.val ≤ (i 1).val ∧ (i 1).val < r.val + 1 := h 1
    exact ⟨Fin.ext (by omega), Fin.ext (by omega)⟩
  · intro h a
    have h1 : (i 2).val < 8 := (i 2).isLt
    have h2 : (i 3).val < 512 := (i 3).isLt
    have h3 : (i 4).val < 128 := (i 4).isLt
    match a with
    | 0 => rw [h.1]; show s.val ≤ s.val ∧ s.val < s.val + 1; omega
    | 1 => rw [h.2]; show r.val ≤ r.val ∧ r.val < r.val + 1; omega
    | 2 => show 0 ≤ (i 2).val ∧ (i 2).val < 0 + 8; omega
    | 3 => show 0 ≤ (i 3).val ∧ (i 3).val < 0 + 512; omega
    | 4 => show 0 ≤ (i 4).val ∧ (i 4).val < 0 + 128; omega

theorem set_kS (r : Fin 4) : (srcS kM r).view.set = (Rect.unit (s := S4x8x512x128) ![r.val, 0, 0, 0] S1x8x512x128.size (srcInb r)).set :=
  (View.set_reshape _ _).trans (View.set_slice_whole cc2_stg1_0 _)
theorem set_vS (r : Fin 4) : (srcS vM r).view.set = (Rect.unit (s := S4x8x512x128) ![r.val, 0, 0, 0] S1x8x512x128.size (srcInb r)).set :=
  (View.set_reshape _ _).trans (View.set_slice_whole cc2_stg2_0 _)
theorem set_kB (s : Fin 3) (r : Fin 4) : (bufS kbM s r).view.set = (Rect.unit (s := S3x4x8x512x128) ![s.val, r.val, 0, 0, 0] S1x1x8x512x128.size (bufInb s r)).set :=
  (View.set_reshape _ _).trans (View.set_slice_whole cc2_scratch1 _)
theorem set_vB (s : Fin 3) (r : Fin 4) : (bufS vbM s r).view.set = (Rect.unit (s := S3x4x8x512x128) ![s.val, r.val, 0, 0, 0] S1x1x8x512x128.size (bufInb s r)).set :=
  (View.set_reshape _ _).trans (View.set_slice_whole cc2_scratch2 _)

/-- Contents that a view reads alike agree on its elements. -/
theorem agree_of_read {sp : Space} {s : Shape} {e : EltTy} (v : View sig .tc sp s e) {Val : EltTy → Type} {f g : v.ty.Contents Val}
    (h : v.read Val f = v.read Val g) : ∀ i ∈ v.set, f i = g i := by
  intro i hi
  obtain ⟨y, -, rfl⟩ := Finset.mem_map.mp hi
  have := congrFun h y
  rw [View.read_apply, View.read_apply] at this
  exact (cast_inj _).mp this

/-! ### Semaphores and credits -/

def sS (i : Fin 24) : DmaSem sig := ⟨11 + i.val, by have := i.isLt; show 11 + i.val < 62; omega⟩
def rS (i : Fin 24) : DmaSem sig := ⟨35 + i.val, by have := i.isLt; show 35 + i.val < 62; omega⟩

theorem sS_eq : (((cc2_scratch3.slice (Rect.unit (s := S24) ![5] S1.size inb_S24_S1_5)).squeeze S_ squeezes_S1_S_).sem : DmaSem sig) = sS 5 := rfl

theorem semInb (i : Fin 24) : ∀ a, (![i.val] : Fin 1 → ℕ) a + S1.size a ≤ S24.size a := fun a => match a with
  | 0 => by have := i.isLt; show i.val + 1 ≤ 24; omega

abbrev NK : ℕ := (bufS kbM 0 0).view.dmaCredit
abbrev NV : ℕ := (bufS vbM 0 0).view.dmaCredit
theorem NK_eq (s : Fin 3) (r : Fin 4) : (bufS kbM s r).view.dmaCredit = NK := rfl
theorem NV_eq (s : Fin 3) (r : Fin 4) : (bufS vbM s r).view.dmaCredit = NV := rfl
theorem NK_pos : 0 < NK := View.dmaCredit_pos _ (by decide)
theorem NV_pos : 0 < NV := View.dmaCredit_pos _ (by decide)

end Cert.Att

end
-- ==== Proof.Script.lean ====
module

public import proofs.«01_k».proof.Proof.Views

/-! The attention call as a list of its steps: pairs of copies, pairs of waits, loops. -/

@[expose] public section

set_option maxRecDepth 16384

noncomputable section

namespace Cert.Att

open Cert.KernelIdeal Cert.KernelIdeal.Gen
open Idealize.ShloMosaic
open Idealize.ShloMosaic.TcCoe
open Idealize.SL Idealize.SL.RA Idealize.SL.BI Idealize.SL.Sem

variable {F : FTy → Type} [FloatOps F] [Named F]

abbrev PG (F : FTy → Type) : Type 1 := Prog (TpuEff nD τ sig (Elt F) Λ₀ .tc) PUnit.{1}

/-- The next device around the ring, and the one before. -/
def rt (d : Dev nD) : Dev nD := ⟨(d.val + 1) % 4, Nat.mod_lt _ (by decide)⟩
def lt (d : Dev nD) : Dev nD := ⟨(d.val + 3) % 4, Nat.mod_lt _ (by decide)⟩

/-- The semaphore index of a message's keys and of its values. -/
def ixK (s : Fin 3) (r : Fin 4) : Fin 24 := ⟨8 * s.val + r.val, by have := s.isLt; have := r.isLt; omega⟩
def ixV (s : Fin 3) (r : Fin 4) : Fin 24 := ⟨8 * s.val + 4 + r.val, by have := s.isLt; have := r.isLt; omega⟩

/-- The slot a forwarded slab is read from. -/
def via (r : Fin 4) : Fin 3 := if r.val < 2 then 0 else 1
/-- Where message `(s, r)` goes. -/
def dv (s : Fin 3) (r : Fin 4) (d : Dev nD) : Dev nD := match s with
  | 0 => rt d
  | 1 => lt d
  | 2 => if r.val < 2 then rt d else lt d

theorem wx_kS (r : Fin 4) : (srcS kM r).view.WordExact :=
  ((Memref.isWhole_whole cc2_stg1_0).wordExact_slice rfl (Rect.unit (s := S4x8x512x128) ![r.val, 0, 0, 0] S1x8x512x128.size (srcInb r)) (.inr ⟨by decide, rfl, rfl, rfl⟩)).reshape _ _
theorem wx_vS (r : Fin 4) : (srcS vM r).view.WordExact :=
  ((Memref.isWhole_whole cc2_stg2_0).wordExact_slice rfl (Rect.unit (s := S4x8x512x128) ![r.val, 0, 0, 0] S1x8x512x128.size (srcInb r)) (.inr ⟨by decide, rfl, rfl, rfl⟩)).reshape _ _
theorem wx_kB (s : Fin 3) (r : Fin 4) : (bufS kbM s r).view.WordExact :=
  ((Memref.isWhole_whole cc2_scratch1).wordExact_slice rfl (Rect.unit (s := S3x4x8x512x128) ![s.val, r.val, 0, 0, 0] S1x1x8x512x128.size (bufInb s r)) (.inr ⟨by decide, rfl, rfl, rfl⟩)).reshape _ _
theorem wx_vB (s : Fin 3) (r : Fin 4) : (bufS vbM s r).view.WordExact :=
  ((Memref.isWhole_whole cc2_scratch2).wordExact_slice rfl (Rect.unit (s := S3x4x8x512x128) ![s.val, r.val, 0, 0, 0] S1x1x8x512x128.size (bufInb s r)) (.inr ⟨by decide, rfl, rfl, rfl⟩)).reshape _ _

/-- Start message `(s, r)`: its keys, then its values. -/
def put (s : Fin 3) (r : Fin 4) (mk : Memref sig .tc .vmem S8x512x128 .bf16) (hk : mk.view.WordExact)
    (mv : Memref sig .tc .vmem S8x512x128 .fp8e4m3) (hv : mv.view.WordExact) (d d' : Dev nD) (k : PG F) : PG F :=
  .op (.enqueueDma mk (.remote (Dev.tc d) (bufS kbM s r) (.dma (sS (ixK s r)))) (.dma (rS (ixK s r))) hk (wx_kB s r) ⟨⟨rfl, Or.inl rfl⟩, trivial⟩) fun _ =>
  .op (.enqueueDma mv (.remote (Dev.tc d') (bufS vbM s r) (.dma (sS (ixV s r)))) (.dma (rS (ixV s r))) hv (wx_vB s r) ⟨⟨rfl, Or.inl rfl⟩, trivial⟩) fun _ => k
/-- Wait for message `(s, r)` to arrive. -/
def get (s : Fin 3) (r : Fin 4) (mk : Memref sig .tc .vmem S8x512x128 .bf16) (hk : mk.view.WordExact)
    (mv : Memref sig .tc .vmem S8x512x128 .fp8e4m3) (hv : mv.view.WordExact) (k : PG F) : PG F :=
  .op (.waitDma2 (rS (ixK s r)) mk (bufS kbM s r) hk (wx_kB s r)) fun _ =>
  .op (.waitDma2 (rS (ixV s r)) mv (bufS vbM s r) hv (wx_vB s r)) fun _ => k
/-- Wait for the keys (values) of message `(s, r)` to have left. -/
def ackK (s : Fin 3) (r : Fin 4) (mk : Memref sig .tc .vmem S8x512x128 .bf16) (hk : mk.view.WordExact) (k : PG F) : PG F :=
  .op (.waitDma2 (sS (ixK s r)) (bufS kbM s r) mk (wx_kB s r) hk) fun _ => k
def ackV (s : Fin 3) (r : Fin 4) (mv : Memref sig .tc .vmem S8x512x128 .fp8e4m3) (hv : mv.view.WordExact) (k : PG F) : PG F :=
  .op (.waitDma2 (sS (ixV s r)) (bufS vbM s r) mv (wx_vB s r) hv) fun _ => k

/-- The own slab of keys and values to the right and to the left. -/
def putOwn (r : Fin 4) (d₁ d₂ d₃ d₄ : Dev nD) (k : PG F) : PG F :=
  put 0 r (srcS kM r) (wx_kS r) (srcS vM r) (wx_vS r) d₁ d₂ <| put 1 r (srcS kM r) (wx_kS r) (srcS vM r) (wx_vS r) d₃ d₄ k
/-- A slab that came, passed on. -/
def putOn (r : Fin 4) (d d' : Dev nD) (k : PG F) : PG F :=
  put 2 r (bufS kbM (via r) r) (wx_kB (via r) r) (bufS vbM (via r) r) (wx_vB (via r) r) d d' k
def getOwn (s : Fin 3) (r : Fin 4) (k : PG F) : PG F := get s r (srcS kM r) (wx_kS r) (srcS vM r) (wx_vS r) k
def getOn (r : Fin 4) (k : PG F) : PG F := get 2 r (bufS kbM (via r) r) (wx_kB (via r) r) (bufS vbM (via r) r) (wx_vB (via r) r) k
def ackOwn (s : Fin 3) (k : PG F) : PG F :=
  ackK s 0 (srcS kM 0) (wx_kS 0) <| ackK s 1 (srcS kM 1) (wx_kS 1) <| ackK s 2 (srcS kM 2) (wx_kS 2) <| ackK s 3 (srcS kM 3) (wx_kS 3) <|
  ackV s 0 (srcS vM 0) (wx_vS 0) <| ackV s 1 (srcS vM 1) (wx_vS 1) <| ackV s 2 (srcS vM 2) (wx_vS 2) <| ackV s 3 (srcS vM 3) (wx_vS 3) k
def ackOn (k : PG F) : PG F :=
  ackK 2 0 (bufS kbM (via 0) 0) (wx_kB _ _) <| ackK 2 1 (bufS kbM (via 1) 1) (wx_kB _ _) <| ackK 2 2 (bufS kbM (via 2) 2) (wx_kB _ _) <| ackK 2 3 (bufS kbM (via 3) 3) (wx_kB _ _) <|
  ackV 2 0 (bufS vbM (via 0) 0) (wx_vB _ _) <| ackV 2 1 (bufS vbM (via 1) 1) (wx_vB _ _) <| ackV 2 2 (bufS vbM (via 2) 2) (wx_vB _ _) <| ackV 2 3 (bufS vbM (via 3) 3) (wx_vB _ _) k

/-- The barrier: a unit to each neighbour, two awaited. -/
def barS : Sem sig := (SemArray.scalar (sig.barrier 0 rfl) : Sems sig S_).sem
def meet (d d' : Dev nD) (k : PG F) : PG F :=
  .op (.semSignal (Dev.tc d) barS 1) fun _ => .op (.semSignal (Dev.tc d') barS 1) fun _ => .op (.semWait barS 2) fun _ => k

/-- A loop's region at the call's buffers. -/
abbrev At {β : Type 1} (f : (a0 : Memref sig .tc .vmem S4x8x512x128 .bf16) → a0.IsWhole → (a1 : Memref sig .tc .vmem S4x8x512x128 .bf16) → a1.IsWhole
    → (a2 : Memref sig .tc .vmem S4x8x512x128 .fp8e4m3) → a2.IsWhole → (a3 : Memref sig .tc .vmem S4x8x512x128 .f32) → a3.IsWhole
    → (a4 : Memref sig .tc .vmem S4x8x512x1 .f32) → a4.IsWhole → (a5 : Memref sig .tc .vmem S3x4x8x512x128 .bf16) → a5.IsWhole
    → (a6 : Memref sig .tc .vmem S3x4x8x512x128 .fp8e4m3) → a6.IsWhole → DmaSems sig S24 → DmaSems sig S24 → β) : β :=
  f qM (Memref.isWhole_whole _) kM (Memref.isWhole_whole _) vM (Memref.isWhole_whole _) cM (Memref.isWhole_whole _) dM (Memref.isWhole_whole _)
    kbM (Memref.isWhole_whole _) vbM (Memref.isWhole_whole _) cc2_scratch3 cc2_scratch4

def w2 (d : Dev nD) : BitVec 32 := Scalar.remsi (Scalar.divsi (Dev.word d) 1#32) 4#32
def w5 (d : Dev nD) : BitVec 32 := Scalar.remsi (Scalar.subi (Scalar.addi (w2 d) 4#32) 1#32) 4#32
def w7 (d : Dev nD) : BitVec 32 := Scalar.remsi (Scalar.addi (w2 d) 1#32) 4#32

/-- The call as printed. -/
def script₀ : PG F :=
  .op .deviceId fun d => meet ⟨k2_dev1 d, k2_dev1_lt d⟩ ⟨k2_dev2 d, k2_dev2_lt d⟩ <|
  putOwn 0 ⟨k2_dev3 d, k2_dev3_lt d⟩ ⟨k2_dev4 d, k2_dev4_lt d⟩ ⟨k2_dev5 d, k2_dev5_lt d⟩ ⟨k2_dev6 d, k2_dev6_lt d⟩ <| putOwn 1 ⟨k2_dev7 d, k2_dev7_lt d⟩ ⟨k2_dev8 d, k2_dev8_lt d⟩ ⟨k2_dev9 d, k2_dev9_lt d⟩ ⟨k2_dev10 d, k2_dev10_lt d⟩ <| putOwn 2 ⟨k2_dev11 d, k2_dev11_lt d⟩ ⟨k2_dev12 d, k2_dev12_lt d⟩ ⟨k2_dev13 d, k2_dev13_lt d⟩ ⟨k2_dev14 d, k2_dev14_lt d⟩ <| putOwn 3 ⟨k2_dev15 d, k2_dev15_lt d⟩ ⟨k2_dev16 d, k2_dev16_lt d⟩ ⟨k2_dev17 d, k2_dev17_lt d⟩ ⟨k2_dev18 d, k2_dev18_lt d⟩ <|
  Scf.Loop.for k2_t1_loop k2_t1_ok ⟨⟩ (At k2_t1_body (w7 d) 0#32 8#32) >>= fun _ =>
  Scf.Loop.for k2_t2_loop k2_t2_ok ⟨⟩ (At k2_t2_body (w7 d) 0#32 8#32) >>= fun _ =>
  Scf.Loop.for k2_t3_loop k2_t3_ok ⟨⟩ (At k2_t3_body (w7 d) 0#32 8#32) >>= fun _ =>
  Scf.Loop.for k2_t4_loop k2_t4_ok ⟨⟩ (At k2_t4_body (w7 d) 0#32 8#32) >>= fun _ =>
  getOwn 0 0 <| putOn 0 ⟨k2_dev19 d, k2_dev19_lt d⟩ ⟨k2_dev20 d, k2_dev20_lt d⟩ <|
  Scf.Loop.for k2_t5_loop k2_t5_ok ⟨⟩ (At k2_t5_body d (w5 d)) >>= fun _ =>
  getOwn 1 0 <|
  Scf.Loop.for k2_t6_loop k2_t6_ok ⟨⟩ (At k2_t6_body (w7 d)) >>= fun _ =>
  getOwn 0 1 <| putOn 1 ⟨k2_dev21 d, k2_dev21_lt d⟩ ⟨k2_dev22 d, k2_dev22_lt d⟩ <|
  Scf.Loop.for k2_t7_loop k2_t7_ok ⟨⟩ (At k2_t7_body d (w5 d) (w7 d)) >>= fun _ =>
  getOwn 1 1 <|
  Scf.Loop.for k2_t8_loop k2_t8_ok ⟨⟩ (At k2_t8_body (w5 d) (w7 d)) >>= fun _ =>
  getOwn 0 2 <|
  Scf.Loop.for k2_t9_loop k2_t9_ok ⟨⟩ (At k2_t9_body (w5 d) (w7 d)) >>= fun _ =>
  getOwn 1 2 <| putOn 2 ⟨k2_dev23 d, k2_dev23_lt d⟩ ⟨k2_dev24 d, k2_dev24_lt d⟩ <|
  Scf.Loop.for k2_t10_loop k2_t10_ok ⟨⟩ (At k2_t10_body d (w7 d)) >>= fun _ =>
  getOwn 0 3 <|
  Scf.Loop.for k2_t11_loop k2_t11_ok ⟨⟩ (At k2_t11_body (w5 d)) >>= fun _ =>
  getOwn 1 3 <| putOn 3 ⟨k2_dev25 d, k2_dev25_lt d⟩ ⟨k2_dev26 d, k2_dev26_lt d⟩ <|
  Scf.Loop.for k2_t12_loop k2_t12_ok ⟨⟩ (At k2_t12_body d (w5 d)) >>= fun _ =>
  ackOwn 0 <| ackOwn 1 <|
  getOn 0 <|
  Scf.Loop.for k2_t13_loop k2_t13_ok ⟨⟩ (At k2_t13_body (w7 d)) >>= fun _ =>
  getOn 2 <|
  Scf.Loop.for k2_t14_loop k2_t14_ok ⟨⟩ (At k2_t14_body (w5 d)) >>= fun _ =>
  getOn 1 <|
  Scf.Loop.for k2_t15_loop k2_t15_ok ⟨⟩ (At k2_t15_body (w5 d) (w7 d)) >>= fun _ =>
  getOn 3 <|
  Scf.Loop.for k2_t16_loop k2_t16_ok ⟨⟩ (At k2_t16_body (w5 d) (Scalar.muli (w5 d) 1#32)) >>= fun _ =>
  ackOn <| .ret ⟨⟩

/-- The call. -/
def script : PG F :=
  .op .deviceId fun d => meet (lt d) (rt d) <|
  putOwn 0 (rt d) (rt d) (lt d) (lt d) <| putOwn 1 (rt d) (rt d) (lt d) (lt d) <| putOwn 2 (rt d) (rt d) (lt d) (lt d) <| putOwn 3 (rt d) (rt d) (lt d) (lt d) <|
  Scf.Loop.for k2_t1_loop k2_t1_ok ⟨⟩ (At k2_t1_body (w7 d) 0#32 8#32) >>= fun _ =>
  Scf.Loop.for k2_t2_loop k2_t2_ok ⟨⟩ (At k2_t2_body (w7 d) 0#32 8#32) >>= fun _ =>
  Scf.Loop.for k2_t3_loop k2_t3_ok ⟨⟩ (At k2_t3_body (w7 d) 0#32 8#32) >>= fun _ =>
  Scf.Loop.for k2_t4_loop k2_t4_ok ⟨⟩ (At k2_t4_body (w7 d) 0#32 8#32) >>= fun _ =>
  getOwn 0 0 <| putOn 0 (rt d) (rt d) <|
  Scf.Loop.for k2_t5_loop k2_t5_ok ⟨⟩ (At k2_t5_body d (w5 d)) >>= fun _ =>
  getOwn 1 0 <|
  Scf.Loop.for k2_t6_loop k2_t6_ok ⟨⟩ (At k2_t6_body (w7 d)) >>= fun _ =>
  getOwn 0 1 <| putOn 1 (rt d) (rt d) <|
  Scf.Loop.for k2_t7_loop k2_t7_ok ⟨⟩ (At k2_t7_body d (w5 d) (w7 d)) >>= fun _ =>
  getOwn 1 1 <|
  Scf.Loop.for k2_t8_loop k2_t8_ok ⟨⟩ (At k2_t8_body (w5 d) (w7 d)) >>= fun _ =>
  getOwn 0 2 <|
  Scf.Loop.for k2_t9_loop k2_t9_ok ⟨⟩ (At k2_t9_body (w5 d) (w7 d)) >>= fun _ =>
  getOwn 1 2 <| putOn 2 (lt d) (lt d) <|
  Scf.Loop.for k2_t10_loop k2_t10_ok ⟨⟩ (At k2_t10_body d (w7 d)) >>= fun _ =>
  getOwn 0 3 <|
  Scf.Loop.for k2_t11_loop k2_t11_ok ⟨⟩ (At k2_t11_body (w5 d)) >>= fun _ =>
  getOwn 1 3 <| putOn 3 (lt d) (lt d) <|
  Scf.Loop.for k2_t12_loop k2_t12_ok ⟨⟩ (At k2_t12_body d (w5 d)) >>= fun _ =>
  ackOwn 0 <| ackOwn 1 <|
  getOn 0 <|
  Scf.Loop.for k2_t13_loop k2_t13_ok ⟨⟩ (At k2_t13_body (w7 d)) >>= fun _ =>
  getOn 2 <|
  Scf.Loop.for k2_t14_loop k2_t14_ok ⟨⟩ (At k2_t14_body (w5 d)) >>= fun _ =>
  getOn 1 <|
  Scf.Loop.for k2_t15_loop k2_t15_ok ⟨⟩ (At k2_t15_body (w5 d) (w7 d)) >>= fun _ =>
  getOn 3 <|
  Scf.Loop.for k2_t16_loop k2_t16_ok ⟨⟩ (At k2_t16_body (w5 d) (Scalar.muli (w5 d) 1#32)) >>= fun _ =>
  ackOn <| .ret ⟨⟩

theorem dev3 {d : Dev nD} {n : ℕ} (h : n < nD) (e : n = (d.val + 3) % 4) : (⟨n, h⟩ : Dev nD) = lt d := Fin.ext e
theorem dev1 {d : Dev nD} {n : ℕ} (h : n < nD) (e : n = (d.val + 1) % 4) : (⟨n, h⟩ : Dev nD) = rt d := Fin.ext e

theorem script₀_eq : At (cc2_attn_body (F := F)) = script₀ := by
  unfold At
  rw [cc2_attn_body_eq_skeleton]
  unfold cc2_attn_body_skel
  simp only [k2_part13_eq_skeleton, k2_part14_eq_skeleton, k2_part15_eq_skeleton, k2_part16_eq_skeleton, k2_part17_eq_skeleton, k2_part18_eq_skeleton,
    k2_part19_eq_skeleton, k2_part20_eq_skeleton, k2_part21_eq_skeleton, k2_part22_eq_skeleton, k2_part23_eq_skeleton, k2_part24_eq_skeleton,
    k2_part25_eq_skeleton, k2_part26_eq_skeleton, k2_part27_eq_skeleton, k2_part28_eq_skeleton, k2_part29_eq_skeleton, k2_part30_eq_skeleton,
    k2_part31_eq_skeleton, k2_part32_eq_skeleton, k2_part33_eq_skeleton, k2_part34_eq_skeleton, k2_part35_eq_skeleton, k2_part36_eq_skeleton,
    k2_part37_eq_skeleton, k2_part38_eq_skeleton, k2_part39_eq_skeleton, k2_part40_eq_skeleton, k2_part41_eq_skeleton]
  simp only [k2_part13_skel, k2_part14_skel, k2_part15_skel, k2_part16_skel, k2_part17_skel, k2_part18_skel,
    k2_part19_skel, k2_part20_skel, k2_part21_skel, k2_part22_skel, k2_part23_skel, k2_part24_skel,
    k2_part25_skel, k2_part26_skel, k2_part27_skel, k2_part28_skel, k2_part29_skel, k2_part30_skel,
    k2_part31_skel, k2_part32_skel, k2_part33_skel, k2_part34_skel, k2_part35_skel, k2_part36_skel,
    k2_part37_skel, k2_part38_skel, k2_part39_skel, k2_part40_skel, k2_part41_skel,
    semSignalWord, semWaitWord, Prog.lift, Prog.bind_assoc, Prog.bind_op, Prog.bind_ret, Prog.pure_eq_ret]
  rfl

theorem script_eq : At (cc2_attn_body (F := F)) = script := by
  rw [script₀_eq]
  unfold script₀ script
  simp only [dev3 _ (k2_dev1_eq _), dev1 _ (k2_dev2_eq _), dev1 _ (k2_dev3_eq _), dev1 _ (k2_dev4_eq _), dev3 _ (k2_dev5_eq _), dev3 _ (k2_dev6_eq _),
    dev1 _ (k2_dev7_eq _), dev1 _ (k2_dev8_eq _), dev3 _ (k2_dev9_eq _), dev3 _ (k2_dev10_eq _), dev1 _ (k2_dev11_eq _), dev1 _ (k2_dev12_eq _),
    dev3 _ (k2_dev13_eq _), dev3 _ (k2_dev14_eq _), dev1 _ (k2_dev15_eq _), dev1 _ (k2_dev16_eq _), dev3 _ (k2_dev17_eq _), dev3 _ (k2_dev18_eq _),
    dev1 _ (k2_dev19_eq _), dev1 _ (k2_dev20_eq _), dev1 _ (k2_dev21_eq _), dev1 _ (k2_dev22_eq _),
    dev3 _ (k2_dev23_eq _), dev3 _ (k2_dev24_eq _), dev3 _ (k2_dev25_eq _), dev3 _ (k2_dev26_eq _)]

end Cert.Att

end
-- ==== Proof.Sched.lean ====
module

public import proofs.«01_k».proof.Proof.Script
public import Idealize.ShloMosaic.Lib.Rounds

/-! The protocol of the attention call: what each semaphore promises, and what each device owes. -/

@[expose] public section

set_option maxRecDepth 16384

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb (URounds (GSem nD τ sig) (Fin 2)) (MT nD τ sig Unit (Elt F) ℕ UU ℕ) := embR

theorem rt_lt (c : Dev nD) : rt (lt c) = c := by revert c; decide
theorem lt_rt (c : Dev nD) : lt (rt c) = c := by revert c; decide

/-- Whose keys and values slot `s` of device `c` receives. -/
def org (c : Dev nD) : Fin 3 → Dev nD
  | 0 => lt c
  | 1 => rt c
  | 2 => rt (rt c)
theorem org_dv0 (r : Fin 4) (c : Dev nD) : org (dv 0 r c) 0 = c := lt_rt c
theorem org_dv1 (r : Fin 4) (c : Dev nD) : org (dv 1 r c) 1 = c := rt_lt c
theorem org_dv2 (r : Fin 4) (c : Dev nD) : org (dv 2 r c) 2 = org c (via r) := by revert r c; decide

/-! Every device's keys and values are variables. -/
variable (kp : Dev nD → S4x8x512x128.Idx → Elt F .bf16) (vp : Dev nD → S4x8x512x128.Idx → Elt F .fp8e4m3)

/-- What device `c`'s receive buffers come to hold. -/
def KB (c : Dev nD) : S3x4x8x512x128.Idx → Elt F .bf16 := fun i => kp (org c (i 0)) (at4 (i 1) fun a => match a with | 0 => i 2 | 1 => i 3 | 2 => i 4)
def VB (c : Dev nD) : S3x4x8x512x128.Idx → Elt F .fp8e4m3 := fun i => vp (org c (i 0)) (at4 (i 1) fun a => match a with | 0 => i 2 | 1 => i 3 | 2 => i 4)

theorem slab_KB (c : Dev nD) (s : Fin 3) (r : Fin 4) : slab5 (KB kp c) s r = slab4 (kp (org c s)) r := by
  funext y
  refine congrArg (kp (org c s)) (funext fun a => ?_)
  match a with
  | 0 => rfl
  | 1 => rfl
  | 2 => rfl
  | 3 => rfl
theorem slab_VB (c : Dev nD) (s : Fin 3) (r : Fin 4) : slab5 (VB vp c) s r = slab4 (vp (org c s)) r := by
  funext y
  refine congrArg (vp (org c s)) (funext fun a => ?_)
  match a with
  | 0 => rfl
  | 1 => rfl
  | 2 => rfl
  | 3 => rfl

/-! ### Pieces of the buffers -/

def kS (c : Dev nD) (r : Fin 4) (q : PosShare TreeShare) : sProp 𝕄 := (srcS kM r).view.loc (c : Thread nD τ) ↦[(srcS kM r).view.set]{q} kp c
def vS (c : Dev nD) (r : Fin 4) (q : PosShare TreeShare) : sProp 𝕄 := (srcS vM r).view.loc (c : Thread nD τ) ↦[(srcS vM r).view.set]{q} vp c
def kB (c : Dev nD) (s : Fin 3) (r : Fin 4) (q : PosShare TreeShare) : sProp 𝕄 := (bufS kbM s r).view.loc (c : Thread nD τ) ↦[(bufS kbM s r).view.set]{q} KB kp c
def vB (c : Dev nD) (s : Fin 3) (r : Fin 4) (q : PosShare TreeShare) : sProp 𝕄 := (bufS vbM s r).view.loc (c : Thread nD τ) ↦[(bufS vbM s r).view.set]{q} VB vp c
/-- A slab of a receive buffer at contents not chosen. -/
def kAny (c : Dev nD) (s : Fin 3) (r : Fin 4) : sProp 𝕄 :=
  iprop(∃ f : Buf (Elt F) ((bufS kbM s r).view.loc (c : Thread nD τ)), (bufS kbM s r).view.loc (c : Thread nD τ) ↦[(bufS kbM s r).view.set]{fullShare} f)
def vAny (c : Dev nD) (s : Fin 3) (r : Fin 4) : sProp 𝕄 :=
  iprop(∃ f : Buf (Elt F) ((bufS vbM s r).view.loc (c : Thread nD τ)), (bufS vbM s r).view.loc (c : Thread nD τ) ↦[(bufS vbM s r).view.set]{fullShare} f)

/-- What a copy reads, at the share it takes. -/
def sentK (c : Dev nD) (s : Fin 3) (r : Fin 4) : sProp 𝕄 := match s with
  | 0 => kS kp c r fullShare.left.left
  | 1 => kS kp c r fullShare.left.right
  | 2 => kB kp c (via r) r fullShare.left
def sentV (c : Dev nD) (s : Fin 3) (r : Fin 4) : sProp 𝕄 := match s with
  | 0 => vS vp c r fullShare.left.left
  | 1 => vS vp c r fullShare.left.right
  | 2 => vB vp c (via r) r fullShare.left

theorem pts_storable (ℓ : Loc nD τ sig) (S : Finset (Idx ℓ)) (q : PosShare TreeShare) (f : Buf (Elt F) ℓ) :
    BI.Storable (upEmb : UEmb _ 𝕄) (ℓ ↦[S]{q} f) := inferInstance

instance (c : Dev nD) (s : Fin 3) (r : Fin 4) : BI.Storable (upEmb : UEmb _ 𝕄) (sentK kp c s r) := by
  unfold sentK; split <;> exact pts_storable _ _ _ _
instance (c : Dev nD) (s : Fin 3) (r : Fin 4) : BI.Storable (upEmb : UEmb _ 𝕄) (sentV vp c s r) := by
  unfold sentV; split <;> exact pts_storable _ _ _ _
instance (c : Dev nD) (s : Fin 3) (r : Fin 4) : BI.Storable (upEmb : UEmb _ 𝕄) (kB kp c s r fullShare) := pts_storable _ _ _ _
instance (c : Dev nD) (s : Fin 3) (r : Fin 4) : BI.Storable (upEmb : UEmb _ 𝕄) (vB vp c s r fullShare) := pts_storable _ _ _ _

/-! ### Cells -/

abbrev barC (c : Dev nD) : GSem nD τ sig := ((c : Thread nD τ), .reg barS)
abbrev sndC (c : Dev nD) (i : Fin 24) : GSem nD τ sig := ((c : Thread nD τ), .dma (sS i))
abbrev rcvC (c : Dev nD) (i : Fin 24) : GSem nD τ sig := ((c : Thread nD τ), .dma (rS i))

/-- A receive slot of device `e`, given to whoever writes it. -/
def slotRes (e : Dev nD) (s : Fin 3) (r : Fin 4) : sProp 𝕄 :=
  iprop(kAny e s r ∗ vAny e s r ∗ reached ER (rcvC e (ixK s r)) 0 ∗ reached ER (rcvC e (ixV s r)) 0)
instance (c : Dev nD) (s : Fin 3) (r : Fin 4) : BI.Storable (upEmb : UEmb _ 𝕄) (slotRes (F := F) c s r) := by
  unfold slotRes kAny vAny; infer_instance

/-- The barrier's units: the right neighbour gives its slots that are filled from its left, the left neighbour the others. -/
def barPay (c : Dev nD) (d : Fin 2) : sProp 𝕄 := match d with
  | 0 => iprop(slotRes (rt c) 0 0 ∗ slotRes (rt c) 0 1 ∗ slotRes (rt c) 0 2 ∗ slotRes (rt c) 0 3 ∗ slotRes (rt c) 2 0 ∗ slotRes (rt c) 2 1)
  | 1 => iprop(slotRes (lt c) 1 0 ∗ slotRes (lt c) 1 1 ∗ slotRes (lt c) 1 2 ∗ slotRes (lt c) 1 3 ∗ slotRes (lt c) 2 2 ∗ slotRes (lt c) 2 3)
instance (c : Dev nD) (d : Fin 2) : BI.Storable (upEmb : UEmb _ 𝕄) (barPay (F := F) c d) := by
  unfold barPay; split <;> infer_instance

/-- What copy semaphore `n` (sends first, then receives) hands out. -/
def slotOf (n : ℕ) : Fin 3 := ⟨n / 8 % 3, Nat.mod_lt _ (by decide)⟩
def resOf (n : ℕ) : Fin 4 := ⟨n % 4, Nat.mod_lt _ (by decide)⟩
def dmaPay (c : Dev nD) (n : ℕ) : sProp 𝕄 :=
  if n < 24 then (if n / 4 % 2 = 0 then sentK kp c (slotOf n) (resOf n) else sentV vp c (slotOf n) (resOf n))
  else (if n / 4 % 2 = 0 then kB kp c (slotOf n) (resOf n) fullShare else vB vp c (slotOf n) (resOf n) fullShare)
instance (c : Dev nD) (n : ℕ) : BI.Storable (upEmb : UEmb _ 𝕄) (dmaPay kp vp c n) := by
  unfold dmaPay; (repeat' split) <;> infer_instance

def dut (sm : SemLoc sig) : Finset (Fin 2) := match sm with
  | .reg s => if s = barS then Finset.univ else ∅
  | .dma s => if 11 ≤ s.val ∧ s.val < 59 then {0} else ∅
def amt (sm : SemLoc sig) : ℕ := match sm with
  | .reg _ => 1
  | .dma s => if (s.val - 11) / 4 % 2 = 0 then NK else NV
def pay (c : Dev nD) (sm : SemLoc sig) (d : Fin 2) : sProp 𝕄 := match sm with
  | .reg _ => barPay c d
  | .dma s => dmaPay kp vp c (s.val - 11)
instance (c : Dev nD) (sm : SemLoc sig) (d : Fin 2) : BI.Storable (upEmb : UEmb _ 𝕄) (pay kp vp c sm d) := by
  unfold pay; split <;> infer_instance

def Rd : Rounds.Schedule (GSem nD τ sig) (Fin 2) 𝕄 where
  duties g r := if r = 0 ∧ g.1.2 = .tc then dut g.2 else ∅
  unitless _ := False
  amount g _ _ := amt g.2
  payload g _ d := pay kp vp g.1.1 g.2 d
  amount_pos g _ _ _ := by
    show 0 < amt g.2
    unfold amt
    split
    · exact Nat.one_pos
    · split
      · exact NK_pos
      · exact NV_pos

instance (g : GSem nD τ sig) (r : ℕ) (d : Fin 2) : BI.Storable (upEmb : UEmb _ 𝕄) ((Rd kp vp).payload g r d) :=
  inferInstanceAs (BI.Storable (upEmb : UEmb _ 𝕄) (pay kp vp g.1.1 g.2 d))

theorem duties_tc (c : Dev nD) (sm : SemLoc sig) : (Rd kp vp).duties ((c : Thread nD τ), sm) 0 = dut sm := by
  dsimp only [Rd]; exact if_pos ⟨rfl, rfl⟩
theorem duties_later (g : GSem nD τ sig) : ∀ r, 1 ≤ r → (Rd kp vp).duties g r = ∅ := fun r hr => by
  dsimp only [Rd]; exact if_neg fun h => by omega

theorem dut_bar : dut (.reg barS) = Finset.univ := by unfold dut; exact if_pos rfl
theorem dut_snd (i : Fin 24) : dut (.dma (sS i)) = {0} := if_pos (by show 11 ≤ 11 + i.val ∧ 11 + i.val < 59; omega)
theorem dut_rcv (i : Fin 24) : dut (.dma (rS i)) = {0} := if_pos (by show 11 ≤ 35 + i.val ∧ 35 + i.val < 59; omega)

theorem amt_sndK (s : Fin 3) (r : Fin 4) : amt (.dma (sS (ixK s r))) = NK := if_pos (by show (11 + (8 * s.val + r.val) - 11) / 4 % 2 = 0; omega)
theorem amt_sndV (s : Fin 3) (r : Fin 4) : amt (.dma (sS (ixV s r))) = NV := if_neg (by show ¬ (11 + (8 * s.val + 4 + r.val) - 11) / 4 % 2 = 0; omega)
theorem amt_rcvK (s : Fin 3) (r : Fin 4) : amt (.dma (rS (ixK s r))) = NK := if_pos (by show (35 + (8 * s.val + r.val) - 11) / 4 % 2 = 0; omega)
theorem amt_rcvV (s : Fin 3) (r : Fin 4) : amt (.dma (rS (ixV s r))) = NV := if_neg (by show ¬ (35 + (8 * s.val + 4 + r.val) - 11) / 4 % 2 = 0; omega)

theorem slotOf_eq (n : ℕ) (s : Fin 3) (h : n / 8 % 3 = s.val) : slotOf n = s := Fin.ext h
theorem resOf_eq (n : ℕ) (r : Fin 4) (h : n % 4 = r.val) : resOf n = r := Fin.ext h

theorem pay_sndK (c : Dev nD) (s : Fin 3) (r : Fin 4) : pay kp vp c (.dma (sS (ixK s r))) 0 = sentK kp c s r := by
  show dmaPay kp vp c (11 + (8 * s.val + r.val) - 11) = _
  rw [Nat.add_sub_cancel_left, dmaPay, if_pos (by omega), if_pos (by omega), slotOf_eq _ s (by omega), resOf_eq _ r (by omega)]
theorem pay_sndV (c : Dev nD) (s : Fin 3) (r : Fin 4) : pay kp vp c (.dma (sS (ixV s r))) 0 = sentV vp c s r := by
  show dmaPay kp vp c (11 + (8 * s.val + 4 + r.val) - 11) = _
  rw [Nat.add_sub_cancel_left, dmaPay, if_pos (by omega), if_neg (by omega), slotOf_eq _ s (by omega), resOf_eq _ r (by omega)]
theorem pay_rcvK (c : Dev nD) (s : Fin 3) (r : Fin 4) : pay kp vp c (.dma (rS (ixK s r))) 0 = kB kp c s r fullShare := by
  show dmaPay kp vp c (35 + (8 * s.val + r.val) - 11) = _
  rw [dmaPay, if_neg (by omega), if_pos (by omega), slotOf_eq _ s (by omega), resOf_eq _ r (by omega)]
theorem pay_rcvV (c : Dev nD) (s : Fin 3) (r : Fin 4) : pay kp vp c (.dma (rS (ixV s r))) 0 = vB vp c s r fullShare := by
  show dmaPay kp vp c (35 + (8 * s.val + 4 + r.val) - 11) = _
  rw [dmaPay, if_neg (by omega), if_neg (by omega), slotOf_eq _ s (by omega), resOf_eq _ r (by omega)]

theorem expect_one (c : Dev nD) (sm : SemLoc sig) (h : dut sm = {0}) : (Rd kp vp).expect ((c : Thread nD τ), sm) 0 = amt sm := by
  unfold Schedule.expect Schedule.amountOf; rw [duties_tc, h, Finset.sum_singleton]; rfl
theorem expect_bar (c : Dev nD) : (Rd kp vp).expect (barC c) 0 = 2 := by
  unfold Schedule.expect Schedule.amountOf; rw [duties_tc, dut_bar, Fin.sum_univ_two]; rfl
theorem rest_one (c : Dev nD) (sm : SemLoc sig) (h : dut sm = {0}) :
    bigSep ((Rd kp vp).duties ((c : Thread nD τ), sm) 0 \ ∅) (fun u => (Rd kp vp).payload ((c : Thread nD τ), sm) 0 u) = pay kp vp c sm 0 := by
  rw [Finset.sdiff_empty, duties_tc, h, bigSep_singleton]; rfl
theorem rest_bar (c : Dev nD) :
    bigSep ((Rd kp vp).duties (barC c) 0 \ ∅) (fun u => (Rd kp vp).payload (barC c) 0 u) = iprop(barPay c 0 ∗ barPay c 1) := by
  rw [Finset.sdiff_empty, duties_tc, dut_bar, bigSep_fin_two]; rfl

/-! ### What is owed, and in which order it may be awaited -/

abbrev Tly := CellTallies nD τ sig Unit

/-- The messages `l`, still to be started by device `c`. -/
def ow (c : Dev nD) : List (Fin 3 × Fin 4) → Tly
  | [] => 0
  | m :: l => (ow c l + tallyAt (rcvC (dv m.1 m.2 c) (ixV m.1 m.2)) () NV) + tallyAt (rcvC (dv m.1 m.2 c) (ixK m.1 m.2)) () NK

/-- Every message, in the order of the starts. -/
def ons : List (Fin 3 × Fin 4) := [(2, 0), (2, 1), (2, 2), (2, 3)]
def msgs : List (Fin 3 × Fin 4) := [(0, 0), (1, 0), (0, 1), (1, 1), (0, 2), (1, 2), (0, 3), (1, 3), (2, 0), (2, 1), (2, 2), (2, 3)]

/-- All that device `c` owes at launch. -/
def O₀ (c : Dev nD) : Tly := (ow c msgs + tallyAt (barC (rt c)) () 1) + tallyAt (barC (lt c)) () 1

def L (g : GSem nD τ sig) : Finset Unit := if g.1.2 = .tc then {()} else ∅
/-- Barriers first, then the neighbours' messages, then those passed on. -/
def lv (g : GSem nD τ sig) (_ : Unit) : ℕ := match g.2 with
  | .reg _ => 1
  | .dma s => if s.val < 35 then 0 else if s.val < 51 then 2 else 3

theorem L_of_ne (g : GSem nD τ sig) (h : g.1.2 ≠ .tc) : L g = ∅ := if_neg h
theorem L_tc (c : Dev nD) (sm : SemLoc sig) : L ((c : Thread nD τ), sm) = {()} := if_pos rfl

theorem ow_support (c : Dev nD) (l : List (Fin 3 × Fin 4)) (g : GSem nD τ sig) (u : Unit) (h : 0 < ow c l g u) :
    ∃ m ∈ l, ∃ i, (i = ixK m.1 m.2 ∨ i = ixV m.1 m.2) ∧ g = rcvC (dv m.1 m.2 c) i := by
  induction l with
  | nil => exact absurd h (Nat.lt_irrefl 0)
  | cons m l ih =>
    have h' : 0 < ow c l g u + tallyAt (rcvC (dv m.1 m.2 c) (ixV m.1 m.2)) () NV g u + tallyAt (rcvC (dv m.1 m.2 c) (ixK m.1 m.2)) () NK g u := h
    by_cases h1 : g = rcvC (dv m.1 m.2 c) (ixK m.1 m.2)
    · exact ⟨m, List.mem_cons_self, _, .inl rfl, h1⟩
    by_cases h2 : g = rcvC (dv m.1 m.2 c) (ixV m.1 m.2)
    · exact ⟨m, List.mem_cons_self, _, .inr rfl, h2⟩
    rw [tallyAt_apply, tallyAt_apply, if_neg (fun h => h2 h.1), if_neg (fun h => h1 h.1)] at h'
    obtain ⟨m', hm, rest⟩ := ih h'
    exact ⟨m', List.mem_cons_of_mem _ hm, rest⟩

/-- A wait below everything owed. -/
theorem mayWait (c : Dev nD) (sm : SemLoc sig) (l : List (Fin 3 × Fin 4)) (n : ℕ) (h1 : lv ((c : Thread nD τ), sm) () ≤ n)
    (h2 : ∀ m ∈ l, n < lv (rcvC c (ixK m.1 m.2)) () ∧ n < lv (rcvC c (ixV m.1 m.2)) ()) :
    (levAts L lv : sProp 𝕄) ⊢ MayWait (c : Thread nD τ) sm () (ow c l) :=
  MayOwe.of_cut (L := L) (lev := lv) n (fun p hp => by rw [Finset.mem_singleton.mp hp, L_tc]; exact Finset.mem_singleton_self _)
    (fun g u hg => by
      obtain ⟨m, hm, i, hi, rfl⟩ := ow_support c l g u hg
      rw [L_tc]; exact Finset.mem_singleton_self _)
    (fun p hp => by rw [Finset.mem_singleton.mp hp]; exact h1)
    (fun g u hg => by
      obtain ⟨m, hm, i, hi, rfl⟩ := ow_support c l g u hg
      rcases hi with rfl | rfl
      · exact (h2 m hm).1
      · exact (h2 m hm).2)

theorem lv_ons : ∀ m ∈ ons, ∀ c : Dev nD, 2 < lv (rcvC c (ixK m.1 m.2)) () ∧ 2 < lv (rcvC c (ixV m.1 m.2)) () := by decide
theorem lv_msgs : ∀ m ∈ msgs, ∀ c : Dev nD, 1 < lv (rcvC c (ixK m.1 m.2)) () ∧ 1 < lv (rcvC c (ixV m.1 m.2)) () := by decide

end Cert.Att

end
-- ==== Proof.Frags.lean ====
module

public import proofs.«01_k».proof.Proof.Sched

/-! The attention call's steps as lemmas: a message started, received, acknowledged; the barrier. -/

@[expose] public section

set_option maxRecDepth 16384

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ### Every cell -/

def cpSem (i : Fin 48) : SemLoc sig := .dma ⟨11 + i.val, by have := i.isLt; show 11 + i.val < 62; omega⟩
theorem cpSem_inj {i j : Fin 48} (h : cpSem i = cpSem j) : i = j := by
  have := SemLoc.dma.inj h
  have := congrArg Fin.val this
  exact Fin.ext (by simp only at this; omega)

def barEmb : Dev nD ↪ GSem nD τ sig := ⟨barC, fun a b h => congrArg (fun g : GSem nD τ sig => g.1.1) h⟩
def cpEmb : Dev nD × Fin 48 ↪ GSem nD τ sig := ⟨fun p => ((p.1 : Thread nD τ), cpSem p.2), fun a b h =>
  Prod.ext (congrArg (fun g : GSem nD τ sig => g.1.1) h) (cpSem_inj (congrArg (fun g : GSem nD τ sig => g.2) h))⟩

def barCells : Finset (GSem nD τ sig) := Finset.univ.map barEmb
def cpCells : Finset (GSem nD τ sig) := Finset.univ.map cpEmb

theorem mem_bar (c : Dev nD) : barC c ∈ barCells ∪ cpCells := Finset.mem_union_left _ (Finset.mem_map.mpr ⟨c, Finset.mem_univ _, rfl⟩)
theorem mem_cp (c : Dev nD) (i : Fin 48) : ((c : Thread nD τ), cpSem i) ∈ barCells ∪ cpCells :=
  Finset.mem_union_right _ (Finset.mem_map.mpr ⟨(c, i), Finset.mem_univ _, rfl⟩)
theorem mem_snd (c : Dev nD) (i : Fin 24) : sndC c i ∈ barCells ∪ cpCells := mem_cp c ⟨i.val, by omega⟩
theorem mem_rcv (c : Dev nD) (i : Fin 24) : rcvC c i ∈ barCells ∪ cpCells := by
  have h := mem_cp c ⟨24 + i.val, by omega⟩
  have e : cpSem ⟨24 + i.val, by omega⟩ = .dma (rS i) := congrArg SemLoc.dma (Fin.ext (by show 11 + (24 + i.val) = 35 + i.val; omega))
  rwa [e] at h

/-! Every device's keys and values are variables. -/
variable (kp : Dev nD → S4x8x512x128.Idx → Elt F .bf16) (vp : Dev nD → S4x8x512x128.Idx → Elt F .fp8e4m3)

abbrev Ci (κ : ℕ) (g : GSem nD τ sig) : sProp 𝕄 := cellInv ER (Rd kp vp) κ g
def Invs (κ : GSem nD τ sig → ℕ) : sProp 𝕄 := bigSep (barCells ∪ cpCells) fun g => Ci kp vp (κ g) g
instance (κ : GSem nD τ sig → ℕ) : Persistent (Invs kp vp κ) := by unfold Invs; infer_instance

theorem inv_at (κ : GSem nD τ sig → ℕ) (g : GSem nD τ sig) (h : g ∈ barCells ∪ cpCells) : Invs kp vp κ ⊢ Ci kp vp (κ g) g :=
  bigSep_elim (Φ := fun g => Ci kp vp (κ g) g) h

/-! ### What a device holds of a message -/

abbrev at0 (g : GSem nD τ sig) : sProp 𝕄 := atPos ER g 0 ∅ 0
abbrev at1 (g : GSem nD τ sig) : sProp 𝕄 := atPos ER g (0 + 1) ∅ 0

/-- A message to start. -/
def SB (c : Dev nD) (s : Fin 3) (r : Fin 4) : sProp 𝕄 :=
  iprop(at0 (sndC c (ixK s r)) ∗ at0 (sndC c (ixV s r)) ∗ reached ER (sndC c (ixK s r)) 0 ∗ reached ER (sndC c (ixV s r)) 0
    ∗ dutyTok ER (sndC c (ixK s r)) 0 0 ∗ dutyTok ER (sndC c (ixV s r)) 0 0
    ∗ dutyTok ER (rcvC (dv s r c) (ixK s r)) 0 0 ∗ dutyTok ER (rcvC (dv s r c) (ixV s r)) 0 0)
/-- A message to receive. -/
def RB (c : Dev nD) (s : Fin 3) (r : Fin 4) : sProp 𝕄 :=
  iprop(at0 (rcvC c (ixK s r)) ∗ at0 (rcvC c (ixV s r)) ∗ cred (tallyAt (rcvC c (ixK s r)) () NK) ∗ cred (tallyAt (rcvC c (ixV s r)) () NV))
/-- Keys (values) on their way. -/
def FK (c : Dev nD) (s : Fin 3) (r : Fin 4) : sProp 𝕄 := iprop(at0 (sndC c (ixK s r)) ∗ cred (tallyAt (sndC c (ixK s r)) () NK))
def FV (c : Dev nD) (s : Fin 3) (r : Fin 4) : sProp 𝕄 := iprop(at0 (sndC c (ixV s r)) ∗ cred (tallyAt (sndC c (ixV s r)) () NV))
def OW (c : Dev nD) (O : Tly) : sProp 𝕄 := iprop(∃ W, owes (c : Thread nD τ) O W)

/-! ### Contents that land -/

theorem lands_K (c o : Dev nD) (s : Fin 3) (r : Fin 4) (h : org (dv s r c) s = o) (f : S3x4x8x512x128.Idx → Elt F .bf16)
    (w : S8x512x128.Idx → Elt F .bf16) (hw : w = slab4 (kp o) r) :
    ((bufS kbM s r).view.loc ((dv s r c : Dev nD) : Thread nD τ) ↦[(bufS kbM s r).view.set]{fullShare} (bufS kbM s r).view.write (Elt F) f w Finset.univ)
      ⊢ (kB kp (dv s r c) s r fullShare : sProp 𝕄) := by
  unfold kB
  refine Entails.of_eq (pointsTo_congr (agree_of_read (Val := Elt F) (bufS kbM s r).view ?_))
  exact (View.read_write_univ _ _).trans (by rw [read_kB, slab_KB, h, hw])
theorem lands_V (c o : Dev nD) (s : Fin 3) (r : Fin 4) (h : org (dv s r c) s = o) (f : S3x4x8x512x128.Idx → Elt F .fp8e4m3)
    (w : S8x512x128.Idx → Elt F .fp8e4m3) (hw : w = slab4 (vp o) r) :
    ((bufS vbM s r).view.loc ((dv s r c : Dev nD) : Thread nD τ) ↦[(bufS vbM s r).view.set]{fullShare} (bufS vbM s r).view.write (Elt F) f w Finset.univ)
      ⊢ (vB vp (dv s r c) s r fullShare : sProp 𝕄) := by
  unfold vB
  refine Entails.of_eq (pointsTo_congr (agree_of_read (Val := Elt F) (bufS vbM s r).view ?_))
  exact (View.read_write_univ _ _).trans (by rw [read_vB, slab_VB, h, hw])

variable (𝒱 : Variants) (κ : GSem nD τ sig → ℕ) (c : Dev nD)

abbrev Wp (p : PG F) (Q : PUnit.{1} → sProp 𝕄) : sProp 𝕄 := wp frame (wpE (defs₀ (F := F)) 𝒱 (c : Thread nD τ) none) Set.univ p Q

/-- A message started: the source lent, the slot given. -/
theorem put_wp (Q : PUnit.{1} → sProp 𝕄) (s : Fin 3) (r : Fin 4) (mk : Memref sig .tc .vmem S8x512x128 .bf16) (hk : mk.view.WordExact)
    (mv : Memref sig .tc .vmem S8x512x128 .fp8e4m3) (hv : mv.view.WordExact) (qk qv : PosShare TreeShare)
    (fk : Buf (Elt F) (mk.view.loc (c : Thread nD τ))) (fv : Buf (Elt F) (mv.view.loc (c : Thread nD τ))) (o : Dev nD)
    (ho : org (dv s r c) s = o) (hrk : mk.view.read (Elt F) fk = slab4 (kp o) r) (hrv : mv.view.read (Elt F) fv = slab4 (vp o) r)
    (hsk : sentK kp c s r = (mk.view.loc (c : Thread nD τ) ↦[mk.view.set]{qk} fk)) (hsv : sentV vp c s r = (mv.view.loc (c : Thread nD τ) ↦[mv.view.set]{qv} fv))
    (l : List (Fin 3 × Fin 4)) (k : PG F) :
    iprop(Invs kp vp κ ∗ SB c s r ∗ slotRes (dv s r c) s r ∗ sentK kp c s r ∗ sentV vp c s r ∗ OW c (ow c ((s, r) :: l)))
      ⊢ iprop((FK c s r ∗ FV c s r ∗ OW c (ow c l) -∗ Wp 𝒱 c k Q) -∗ Wp 𝒱 c (put s r mk hk mv hv (dv s r c) (dv s r c) k) Q) := by
  unfold put SB slotRes kAny vAny OW FK FV
  iintro ⟨#HI, ⟨HaK, HaV, #HrK, #HrV, HtK, HtV, HuK, HuV⟩, ⟨⟨%gk, Hgk⟩, ⟨%gv, Hgv⟩, #HrrK, #HrrV⟩, HsK, HsV, ⟨%W, HO⟩⟩
  iintro Hk
  ihave #H1 := (inv_at kp vp κ (sndC c (ixK s r)) (mem_snd c (ixK s r))) $$ HI
  ihave #H2 := (inv_at kp vp κ (rcvC (dv s r c) (ixK s r)) (mem_rcv (dv s r c) (ixK s r))) $$ HI
  ihave #H3 := (inv_at kp vp κ (sndC c (ixV s r)) (mem_snd c (ixV s r))) $$ HI
  ihave #H4 := (inv_at kp vp κ (rcvC (dv s r c) (ixV s r)) (mem_rcv (dv s r c) (ixV s r))) $$ HI
  iapply (Rounds.wp_send_pointsTo 𝒱 ER (Rd kp vp) (c : Thread nD τ) none (c' := ((dv s r c : Dev nD) : Thread nD τ)) (src := mk) (dst := bufS kbM s r)
      (sS := .dma (sS (ixK s r))) (sem := .dma (rS (ixK s r))) (q := qk) (fs := fk) (κ₁ := κ (sndC c (ixK s r))) (κ₂ := κ (rcvC (dv s r c) (ixK s r)))
      (r₁ := 0) (r₂ := 0) (d₁ := 0) (d₂ := 0) (fd := gk)
      (by rw [duties_tc, dut_snd]; exact Finset.mem_singleton_self _) (by rw [duties_tc, dut_rcv]; exact Finset.mem_singleton_self _)
      () () NK rfl (amt_sndK s r) (amt_rcvK s r) (ow c l + tallyAt (rcvC (dv s r c) (ixV s r)) () NV) rfl (W := W)
      (by rw [← hsk]; exact Entails.of_eq (pay_sndK kp vp c s r).symm)
      ((lands_K kp c o s r ho gk _ hrk).trans (Entails.of_eq (pay_rcvK kp vp (dv s r c) s r).symm))) $$ [HsK Hgk HO HtK HuK]
  · isplitr; · iexact H1
    isplitr; · iexact H2
    isplitl [HsK]; · iapply (Entails.of_eq hsk); iexact HsK
    isplitl [Hgk]; · iexact Hgk
    isplitl [HO]; · iexact HO
    isplitl [HtK]; · iexact HtK
    isplitr; · iexact HrK
    isplitl [HuK]; · iexact HuK
    iexact HrrK
  iintro ⟨HcK, HO⟩
  iapply (Rounds.wp_send_pointsTo 𝒱 ER (Rd kp vp) (c : Thread nD τ) none (c' := ((dv s r c : Dev nD) : Thread nD τ)) (src := mv) (dst := bufS vbM s r)
      (sS := .dma (sS (ixV s r))) (sem := .dma (rS (ixV s r))) (q := qv) (fs := fv) (κ₁ := κ (sndC c (ixV s r))) (κ₂ := κ (rcvC (dv s r c) (ixV s r)))
      (r₁ := 0) (r₂ := 0) (d₁ := 0) (d₂ := 0) (fd := gv)
      (by rw [duties_tc, dut_snd]; exact Finset.mem_singleton_self _) (by rw [duties_tc, dut_rcv]; exact Finset.mem_singleton_self _)
      () () NV rfl (amt_sndV s r) (amt_rcvV s r) (ow c l) rfl (W := W)
      (by rw [← hsv]; exact Entails.of_eq (pay_sndV kp vp c s r).symm)
      ((lands_V vp c o s r ho gv _ hrv).trans (Entails.of_eq (pay_rcvV kp vp (dv s r c) s r).symm))) $$ [HsV Hgv HO HtV HuV]
  · isplitr; · iexact H3
    isplitr; · iexact H4
    isplitl [HsV]; · iapply (Entails.of_eq hsv); iexact HsV
    isplitl [Hgv]; · iexact Hgv
    isplitl [HO]; · iexact HO
    isplitl [HtV]; · iexact HtV
    isplitr; · iexact HrV
    isplitl [HuV]; · iexact HuV
    iexact HrrV
  iintro ⟨HcV, HO⟩
  iapply Hk
  isplitl [HaK HcK]; · isplitl [HaK] <;> iassumption
  isplitl [HaV HcV]; · isplitl [HaV] <;> iassumption
  iexists _; iexact HO

/-- A message received: its slot comes back filled. -/
theorem get_wp (Q : PUnit.{1} → sProp 𝕄) (s : Fin 3) (r : Fin 4) (mk : Memref sig .tc .vmem S8x512x128 .bf16) (hk : mk.view.WordExact)
    (mv : Memref sig .tc .vmem S8x512x128 .fp8e4m3) (hv : mv.view.WordExact) (l : List (Fin 3 × Fin 4)) (n : ℕ)
    (h1 : lv (rcvC c (ixK s r)) () ≤ n ∧ lv (rcvC c (ixV s r)) () ≤ n)
    (h2 : ∀ m ∈ l, n < lv (rcvC c (ixK m.1 m.2)) () ∧ n < lv (rcvC c (ixV m.1 m.2)) ()) (k : PG F) :
    iprop(Invs kp vp κ ∗ levAts L lv ∗ RB c s r ∗ OW c (ow c l))
      ⊢ iprop((at1 (rcvC c (ixK s r)) ∗ at1 (rcvC c (ixV s r)) ∗ kB kp c s r fullShare ∗ vB vp c s r fullShare ∗ OW c (ow c l) -∗ Wp 𝒱 c k Q)
          -∗ Wp 𝒱 c (get s r mk hk mv hv k) Q) := by
  unfold get RB OW
  iintro ⟨#HI, #Hlev, ⟨HaK, HaV, HcK, HcV⟩, ⟨%W, HO⟩⟩
  iintro Hk
  ihave #H1 := (inv_at kp vp κ (rcvC c (ixK s r)) (mem_rcv c (ixK s r))) $$ HI
  ihave #H2 := (inv_at kp vp κ (rcvC c (ixV s r)) (mem_rcv c (ixV s r))) $$ HI
  iapply (Rounds.wp_wait_rest_token 𝒱 ER (Rd kp vp) (c : Thread nD τ) none (κ := κ (rcvC c (ixK s r)))
      (wpE_waitDma2_eq (src := mk) (dst := bufS kbM s r) 𝒱 (c : Thread nD τ) none Set.univ) (Set.mem_univ _) () (O := ow c l) (W := W) (R := 0) (m := 0) (T := ∅)
      ((Nat.zero_add _).trans ((amt_rcvK s r).symm.trans (expect_one kp vp c _ (dut_rcv _)).symm))) $$ [HcK HO HaK]
  · isplitr; · iexact H1
    isplitl [HcK]; · iexact HcK
    isplitl [HO]; · iexact HO
    isplitr; · iapply (mayWait c _ l n h1.1 h2); iexact Hlev
    iexact HaK
  iintro ⟨HO, HaK, -, Hpay⟩
  ihave HpK := (Entails.of_eq ((rest_one kp vp c _ (dut_rcv _)).trans (pay_rcvK kp vp c s r))) $$ Hpay
  iapply (Rounds.wp_wait_rest_token 𝒱 ER (Rd kp vp) (c : Thread nD τ) none (κ := κ (rcvC c (ixV s r)))
      (wpE_waitDma2_eq (src := mv) (dst := bufS vbM s r) 𝒱 (c : Thread nD τ) none Set.univ) (Set.mem_univ _) () (O := ow c l)
      (W := insert (SemLoc.dma (rS (ixK s r)), ()) W) (R := 0) (m := 0) (T := ∅)
      ((Nat.zero_add _).trans ((amt_rcvV s r).symm.trans (expect_one kp vp c _ (dut_rcv _)).symm))) $$ [HcV HO HaV]
  · isplitr; · iexact H2
    isplitl [HcV]; · iexact HcV
    isplitl [HO]; · iexact HO
    isplitr; · iapply (mayWait c _ l n h1.2 h2); iexact Hlev
    iexact HaV
  iintro ⟨HO, HaV, -, Hpay⟩
  ihave HpV := (Entails.of_eq ((rest_one kp vp c _ (dut_rcv _)).trans (pay_rcvV kp vp c s r))) $$ Hpay
  iapply Hk
  isplitl [HaK]; · iexact HaK
  isplitl [HaV]; · iexact HaV
  isplitl [HpK]; · iexact HpK
  isplitl [HpV]; · iexact HpV
  iexists _; iexact HO

/-- The keys (values) of a message have left: their source comes back. -/
theorem ackK_wp (Q : PUnit.{1} → sProp 𝕄) (s : Fin 3) (r : Fin 4) (mk : Memref sig .tc .vmem S8x512x128 .bf16) (hk : mk.view.WordExact) (hN : mk.view.dmaCredit = NK)
    (k : PG F) :
    iprop(Invs kp vp κ ∗ FK c s r ∗ OW c (ow c []))
      ⊢ iprop((at1 (sndC c (ixK s r)) ∗ sentK kp c s r ∗ OW c (ow c []) -∗ Wp 𝒱 c k Q) -∗ Wp 𝒱 c (ackK s r mk hk k) Q) := by
  unfold ackK FK OW
  iintro ⟨#HI, ⟨Ha, Hc⟩, ⟨%W, HO⟩⟩
  iintro Hk
  ihave #H1 := (inv_at kp vp κ (sndC c (ixK s r)) (mem_snd c (ixK s r))) $$ HI
  iapply (Rounds.wp_wait_rest_token 𝒱 ER (Rd kp vp) (c : Thread nD τ) none (κ := κ (sndC c (ixK s r)))
      (wpE_waitDma2_eq (src := bufS kbM s r) (dst := mk) 𝒱 (c : Thread nD τ) none Set.univ) (Set.mem_univ _) () (O := ow c []) (W := W) (R := 0) (m := 0) (T := ∅)
      ((Nat.zero_add _).trans (hN.trans ((amt_sndK s r).symm.trans (expect_one kp vp c _ (dut_snd _)).symm)))) $$ [Hc HO Ha]
  · isplitr; · iexact H1
    isplitl [Hc]; · rw [hN]; iexact Hc
    isplitl [HO]; · iexact HO
    isplitr; · rw [show ow c [] = 0 from rfl, MayWait_zero]; iempintro
    iexact Ha
  iintro ⟨HO, Ha, -, Hpay⟩
  ihave Hp := (Entails.of_eq ((rest_one kp vp c _ (dut_snd _)).trans (pay_sndK kp vp c s r))) $$ Hpay
  iapply Hk
  isplitl [Ha]; · iexact Ha
  isplitl [Hp]; · iexact Hp
  iexists _; iexact HO
theorem ackV_wp (Q : PUnit.{1} → sProp 𝕄) (s : Fin 3) (r : Fin 4) (mv : Memref sig .tc .vmem S8x512x128 .fp8e4m3) (hv : mv.view.WordExact) (hN : mv.view.dmaCredit = NV) (k : PG F) :
    iprop(Invs kp vp κ ∗ FV c s r ∗ OW c (ow c []))
      ⊢ iprop((at1 (sndC c (ixV s r)) ∗ sentV vp c s r ∗ OW c (ow c []) -∗ Wp 𝒱 c k Q) -∗ Wp 𝒱 c (ackV s r mv hv k) Q) := by
  unfold ackV FV OW
  iintro ⟨#HI, ⟨Ha, Hc⟩, ⟨%W, HO⟩⟩
  iintro Hk
  ihave #H1 := (inv_at kp vp κ (sndC c (ixV s r)) (mem_snd c (ixV s r))) $$ HI
  iapply (Rounds.wp_wait_rest_token 𝒱 ER (Rd kp vp) (c : Thread nD τ) none (κ := κ (sndC c (ixV s r)))
      (wpE_waitDma2_eq (src := bufS vbM s r) (dst := mv) 𝒱 (c : Thread nD τ) none Set.univ) (Set.mem_univ _) () (O := ow c []) (W := W) (R := 0) (m := 0) (T := ∅)
      ((Nat.zero_add _).trans (hN.trans ((amt_sndV s r).symm.trans (expect_one kp vp c _ (dut_snd _)).symm)))) $$ [Hc HO Ha]
  · isplitr; · iexact H1
    isplitl [Hc]; · rw [hN]; iexact Hc
    isplitl [HO]; · iexact HO
    isplitr; · rw [show ow c [] = 0 from rfl, MayWait_zero]; iempintro
    iexact Ha
  iintro ⟨HO, Ha, -, Hpay⟩
  ihave Hp := (Entails.of_eq ((rest_one kp vp c _ (dut_snd _)).trans (pay_sndV kp vp c s r))) $$ Hpay
  iapply Hk
  isplitl [Ha]; · iexact Ha
  isplitl [Hp]; · iexact Hp
  iexists _; iexact HO

/-- The barrier: the own slots given away, the neighbours' received. -/
theorem meet_wp (Q : PUnit.{1} → sProp 𝕄) (k : PG F) :
    iprop(Invs kp vp κ ∗ levAts L lv ∗ at0 (barC c) ∗ reached ER (barC (lt c)) 0 ∗ reached ER (barC (rt c)) 0 ∗ dutyTok ER (barC (lt c)) 0 0
        ∗ dutyTok ER (barC (rt c)) 0 1 ∗ cred (tallyAt (barC c) () 2) ∗ barPay (lt c) 0 ∗ barPay (rt c) 1 ∗ OW c (O₀ c))
      ⊢ iprop((at1 (barC c) ∗ barPay c 0 ∗ barPay c 1 ∗ OW c (ow c msgs) -∗ Wp 𝒱 c k Q) -∗ Wp 𝒱 c (meet (lt c) (rt c) k) Q) := by
  unfold meet OW
  iintro ⟨#HI, #Hlev, Ha, #Hr1, #Hr2, Ht1, Ht2, Hc, Hp1, Hp2, ⟨%W, HO⟩⟩
  iintro Hk
  ihave #H1 := (inv_at kp vp κ (barC (lt c)) (mem_bar (lt c))) $$ HI
  ihave #H2 := (inv_at kp vp κ (barC (rt c)) (mem_bar (rt c))) $$ HI
  ihave #H3 := (inv_at kp vp κ (barC c) (mem_bar c)) $$ HI
  iapply (Rounds.wp_signal 𝒱 ER (Rd kp vp) (c : Thread nD τ) none (dst := ((lt c : Dev nD) : Thread nD τ)) (sem := barS) (r := 0) (d := 0) (κ := κ (barC (lt c)))
      (by rw [duties_tc, dut_bar]; exact Finset.mem_univ _) rfl () (ow c msgs + tallyAt (barC (rt c)) () 1) rfl) $$ [HO Ht1 Hp1]
  · isplitr; · iexact H1
    isplitl [HO]; · iexact HO
    isplitl [Ht1]; · iexact Ht1
    isplitl [Hp1]; · iapply (Entails.of_eq (show barPay (lt c) 0 = (Rd kp vp).payload (barC (lt c)) 0 0 from rfl)); iexact Hp1
    iexact Hr1
  iintro HO
  iapply (Rounds.wp_signal 𝒱 ER (Rd kp vp) (c : Thread nD τ) none (dst := ((rt c : Dev nD) : Thread nD τ)) (sem := barS) (r := 0) (d := 1) (κ := κ (barC (rt c)))
      (by rw [duties_tc, dut_bar]; exact Finset.mem_univ _) rfl () (ow c msgs) rfl) $$ [HO Ht2 Hp2]
  · isplitr; · iexact H2
    isplitl [HO]; · iexact HO
    isplitl [Ht2]; · iexact Ht2
    isplitl [Hp2]; · iapply (Entails.of_eq (show barPay (rt c) 1 = (Rd kp vp).payload (barC (rt c)) 0 1 from rfl)); iexact Hp2
    iexact Hr2
  iintro HO
  iapply (Rounds.wp_wait_rest_token 𝒱 ER (Rd kp vp) (c : Thread nD τ) none (κ := κ (barC c))
      (wpE_semWait_eq 𝒱 (c : Thread nD τ) none Set.univ) (Set.mem_univ _) () (O := ow c msgs) (W := W) (R := 0) (m := 0) (T := ∅)
      ((Nat.zero_add _).trans (expect_bar kp vp c).symm)) $$ [Hc HO Ha]
  · isplitr; · iexact H3
    isplitl [Hc]; · iexact Hc
    isplitl [HO]; · iexact HO
    isplitr; · iapply (mayWait c _ msgs 1 le_rfl (fun m hm => lv_msgs m hm c)); iexact Hlev
    iexact Ha
  iintro ⟨HO, Ha, -, Hpay⟩
  ihave Hp := (Entails.of_eq (rest_bar kp vp c)) $$ Hpay
  icases Hp with ⟨Hp1, Hp2⟩
  iapply Hk
  isplitl [Ha]; · iexact Ha
  isplitl [Hp1]; · iexact Hp1
  isplitl [Hp2]; · iexact Hp2
  iexists _; iexact HO

end Cert.Att

end
-- ==== Proof.Walk.lean ====
module

public import proofs.«01_k».proof.Proof.Frags

/-! How far each residue's sums are, and a pass as a step of that count. -/

@[expose] public section

set_option maxRecDepth 16384

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- Whose keys and values are added `n`-th. -/
def seq (c : Dev nD) : ℕ → Dev nD
  | 0 => c
  | 1 => lt c
  | 2 => rt c
  | _ => rt (rt c)

variable (kp : Dev nD → S4x8x512x128.Idx → Elt F .bf16) (vp : Dev nD → S4x8x512x128.Idx → Elt F .fp8e4m3)
variable (fq : S4x8x512x128.Idx → Elt F .bf16) (c : Dev nD)

/-- Residue `r`'s row `h` after pass `n`: the weighted sum and the denominator; -/
def accC (r : Fin 4) (h : Fin 8) : ℕ → (SR 128).Idx → Elt F .f32
  | 0 => firstC fq (slab4 (kp c) r) (slab4 (vp c) r) r h
  | n + 1 => k2_pay3 (F := F) (rowAt fq r h) (srow (slab4 (kp (seq c (n + 1))) r) h) (srow (slab4 (vp (seq c (n + 1))) r) h) (accC r h n)
def accD (r : Fin 4) (h : Fin 8) : ℕ → (SR 1).Idx → Elt F .f32
  | 0 => firstD fq (slab4 (kp c) r) r h
  | n + 1 => k2_pay41 (F := F) (k2_pay2 (rowAt fq r h) (srow (slab4 (kp (seq c (n + 1))) r) h)) (accD r h n)
/-- and the quotient at the end. -/
def outC (r : Fin 4) (h : Fin 8) : (SR 128).Idx → Elt F .f32 :=
  k2_pay49 (F := F) (k2_pay25 (rowAt fq r h) (srow (slab4 (kp (seq c 3)) r) h) (srow (slab4 (vp (seq c 3)) r) h) (accC kp vp fq c r h 2) (accD kp fq c r h 2))

/-- Residue `r` has had `n` passes. -/
def Good (n : ℕ) (r : Fin 4) (fc : S4x8x512x128.Idx → Elt F .f32) (fd : S4x8x512x1.Idx → Elt F .f32) : Prop := match n with
  | 0 => True
  | 4 => ∀ h, rowAt fc r h = outC kp vp fq c r h
  | n + 1 => ∀ h, rowAt fc r h = accC kp vp fq c r h n ∧ rowAt fd r h = accD kp fq c r h n

def Acc (g : Fin 4 → ℕ) : sProp 𝕄 := iprop(∃ fc fd, (cM.view.loc (c : Thread nD τ) ↦{fullShare} fc) ∗ (dM.view.loc (c : Thread nD τ) ↦{fullShare} fd)
  ∗ ⌜∀ r, Good kp vp fq c (g r) r fc fd⌝)
abbrev qP : sProp 𝕄 := qM.view.loc (c : Thread nD τ) ↦{fullShare} fq

variable {kp vp fq c} in
/-- A pass over residue `r` leaves the others alone. -/
theorem Good.other {n : ℕ} {r r' : Fin 4} (hr : r' ≠ r) {fc : S4x8x512x128.Idx → Elt F .f32} {fd : S4x8x512x1.Idx → Elt F .f32}
    (gC : Fin 8 → (SR 128).Idx → Elt F .f32) (fd' : S4x8x512x1.Idx → Elt F .f32) (hd : ∀ h, rowAt fd' r' h = rowAt fd r' h)
    (H : Good kp vp fq c n r' fc fd) : Good kp vp fq c n r' (upto r 8 gC fc) fd' := by
  have hC : ∀ h, rowAt (upto r 8 gC fc) r' h = rowAt fc r' h := fun h => rowAt_upto_ne r r' 8 gC fc h hr
  match n, H with
  | 0, _ => exact trivial
  | 4, H => exact fun h => (hC h).trans (H h)
  | 1, H => exact fun h => ⟨(hC h).trans (H h).1, (hd h).trans (H h).2⟩
  | 2, H => exact fun h => ⟨(hC h).trans (H h).1, (hd h).trans (H h).2⟩
  | 3, H => exact fun h => ⟨(hC h).trans (H h).1, (hd h).trans (H h).2⟩
  | n + 5, H => exact fun h => ⟨(hC h).trans (H h).1, (hd h).trans (H h).2⟩

theorem org_seq (s : Fin 3) : seq c (s.val + 1) = org c s := by match s with | 0 => rfl | 1 => rfl | 2 => rfl

variable (𝒱 : Variants) (r : Fin 4) (g : Fin 4 → ℕ)
  (L : Scf.Loop 32) (ok : L.OK) (hL : L.trips = 8) (body : Fin L.trips → Unit → Prog (TpuEff nD τ sig (Elt F) Λ₀ .tc) Unit)
  (p1 : Fin L.trips → Fin 4 → ℕ) (j1 : ∀ k, Inb1 (p1 k)) (p2 : Fin L.trips → Fin 3 → ℕ) (j2 : ∀ k, Inb2 (p2 k)) (p3 : Fin L.trips → Fin 4 → ℕ) (j3 : ∀ k, Inb3 (p3 k))
  (hp1 : ∀ k, p1 k = ![r.val, k.val, 0, 0]) (hp2 : ∀ k, p2 k = ![k.val, 0, 0]) (hp3 : ∀ k, p3 k = ![r.val, k.val, 0, 0])

include hL hp1 hp2 hp3

/-- The pass over the device's own keys and values. -/
theorem first_wp (Q : PUnit.{1} → sProp 𝕄) (g' : Fin 4 → ℕ) (hg' : g' = Function.update g r 1) (kk : Unit → PG F) (hb : ∀ k u, body k u = firstTrip (F := F) (srcS kM r) (srcS vM r) (p1 k) (j1 k) (p2 k) (j2 k) (p3 k) (j3 k)) :
    iprop(Acc kp vp fq c g ∗ qP fq c ∗ kS kp c r fullShare.right ∗ vS vp c r fullShare.right)
      ⊢ iprop((Acc kp vp fq c g' ∗ qP fq c ∗ kS kp c r fullShare.right ∗ vS vp c r fullShare.right -∗ Wp 𝒱 c (kk ⟨⟩) Q)
          -∗ Wp 𝒱 c (Scf.Loop.for L ok ⟨⟩ body >>= kk) Q) := by
  subst hg'
  unfold Acc kS vS
  iintro ⟨⟨%fc, %fd, HC, HD, %hg⟩, Hq, Hk, Hv⟩ Hcont
  iapply (pass_first 𝒱 c (srcS kM r) (srcS vM r) _ _ _ _ (kp c) (vp c) (Finset.Subset.refl _) (Finset.Subset.refl _) (slab4 (kp c) r) (slab4 (vp c) r)
    (read_kS r _) (read_vS r _) fq fc fd r L ok hL body p1 j1 p2 j2 p3 j3 hp1 hp2 hp3 kk Q hb) $$ [HC HD Hq Hk Hv]
  · unfold PassRes
    isplitl [Hq]; · iexact Hq
    isplitl [Hk]; · iexact Hk
    isplitl [Hv]; · iexact Hv
    isplitl [HC]; · iexact HC
    iexact HD
  unfold PassRes
  iintro ⟨Hq, Hk, Hv, HC, HD⟩
  iapply Hcont
  isplitl [HC HD]
  · iexists _; iexists _
    isplitl [HC]; · iexact HC
    isplitl [HD]; · iexact HD
    ipureintro
    intro r'
    by_cases hr : r' = r
    · subst hr
      rw [Function.update_self]
      exact fun h => ⟨rowAt_upto_self r' 8 _ _ h h.isLt, rowAt_upto_self r' 8 _ _ h h.isLt⟩
    · rw [Function.update_of_ne hr]
      exact Good.other hr _ _ (fun h => rowAt_upto_ne r r' 8 _ _ h hr) (hg r')
  isplitl [Hq]; · iexact Hq
  isplitl [Hk]; · iexact Hk
  iexact Hv

/-- A pass over a neighbour's. -/
theorem mid_wp (Q : PUnit.{1} → sProp 𝕄) (s : Fin 3) (g' : Fin 4 → ℕ) (hg' : g' = Function.update g r (s.val + 2)) (kk : Unit → PG F) (hs : s.val < 2) (hgr : g r = s.val + 1) (q : PosShare TreeShare)
    (hb : ∀ k u, body k u = midTrip (F := F) (bufS kbM s r) (bufS vbM s r) (p1 k) (j1 k) (p2 k) (j2 k) (p3 k) (j3 k)) :
    iprop(Acc kp vp fq c g ∗ qP fq c ∗ kB kp c s r q ∗ vB vp c s r q)
      ⊢ iprop((Acc kp vp fq c g' ∗ qP fq c ∗ kB kp c s r q ∗ vB vp c s r q -∗ Wp 𝒱 c (kk ⟨⟩) Q)
          -∗ Wp 𝒱 c (Scf.Loop.for L ok ⟨⟩ body >>= kk) Q) := by
  subst hg'
  unfold Acc kB vB
  iintro ⟨⟨%fc, %fd, HC, HD, %hg⟩, Hq, Hk, Hv⟩ Hcont
  iapply (pass_mid 𝒱 c (bufS kbM s r) (bufS vbM s r) _ _ _ _ (KB kp c) (VB vp c) (Finset.Subset.refl _) (Finset.Subset.refl _) (slab4 (kp (org c s)) r) (slab4 (vp (org c s)) r)
    ((read_kB s r _).trans (slab_KB kp c s r)) ((read_vB s r _).trans (slab_VB vp c s r)) fq fc fd r L ok hL body p1 j1 p2 j2 p3 j3 hp1 hp2 hp3 kk Q hb) $$ [HC HD Hq Hk Hv]
  · unfold PassRes
    isplitl [Hq]; · iexact Hq
    isplitl [Hk]; · iexact Hk
    isplitl [Hv]; · iexact Hv
    isplitl [HC]; · iexact HC
    iexact HD
  unfold PassRes
  iintro ⟨Hq, Hk, Hv, HC, HD⟩
  iapply Hcont
  isplitl [HC HD]
  · iexists _; iexists _
    isplitl [HC]; · iexact HC
    isplitl [HD]; · iexact HD
    ipureintro
    intro r'
    by_cases hr : r' = r
    · subst hr
      rw [Function.update_self]
      have hg' := hg r'
      rw [hgr] at hg'
      have hg'' : ∀ h, rowAt fc r' h = accC kp vp fq c r' h s.val ∧ rowAt fd r' h = accD kp fq c r' h s.val := by
        match s, hs with
        | 0, _ => exact hg'
        | 1, _ => exact hg'
      have hnew : ∀ h, rowAt (upto r' 8 (midC fq (slab4 (kp (org c s)) r') (slab4 (vp (org c s)) r') fc r') fc) r' h = accC kp vp fq c r' h (s.val + 1)
          ∧ rowAt (upto r' 8 (midD fq (slab4 (kp (org c s)) r') fd r') fd) r' h = accD kp fq c r' h (s.val + 1) := by
        intro h
        constructor
        · refine (rowAt_upto_self r' 8 _ _ h h.isLt).trans ?_
          unfold midC; rw [(hg'' h).1, ← org_seq c s]; rfl
        · refine (rowAt_upto_self r' 8 _ _ h h.isLt).trans ?_
          unfold midD; rw [(hg'' h).2, ← org_seq c s]; rfl
      match s, hs with
      | 0, _ => exact hnew
      | 1, _ => exact hnew
    · rw [Function.update_of_ne hr]
      exact Good.other hr _ _ (fun h => rowAt_upto_ne r r' 8 _ _ h hr) (hg r')
  isplitl [Hq]; · iexact Hq
  isplitl [Hk]; · iexact Hk
  iexact Hv

/-- The pass over the opposite device's. -/
theorem last_wp (Q : PUnit.{1} → sProp 𝕄) (g' : Fin 4 → ℕ) (hg' : g' = Function.update g r 4) (kk : Unit → PG F) (hgr : g r = 3) (q : PosShare TreeShare)
    (hb : ∀ k u, body k u = lastTrip (F := F) (bufS kbM 2 r) (bufS vbM 2 r) (p1 k) (j1 k) (p2 k) (j2 k) (p3 k) (j3 k)) :
    iprop(Acc kp vp fq c g ∗ qP fq c ∗ kB kp c 2 r q ∗ vB vp c 2 r q)
      ⊢ iprop((Acc kp vp fq c g' ∗ qP fq c ∗ kB kp c 2 r q ∗ vB vp c 2 r q -∗ Wp 𝒱 c (kk ⟨⟩) Q)
          -∗ Wp 𝒱 c (Scf.Loop.for L ok ⟨⟩ body >>= kk) Q) := by
  subst hg'
  unfold Acc kB vB
  iintro ⟨⟨%fc, %fd, HC, HD, %hg⟩, Hq, Hk, Hv⟩ Hcont
  iapply (pass_last 𝒱 c (bufS kbM 2 r) (bufS vbM 2 r) _ _ _ _ (KB kp c) (VB vp c) (Finset.Subset.refl _) (Finset.Subset.refl _) (slab4 (kp (org c 2)) r) (slab4 (vp (org c 2)) r)
    ((read_kB 2 r _).trans (slab_KB kp c 2 r)) ((read_vB 2 r _).trans (slab_VB vp c 2 r)) fq fc fd r L ok hL body p1 j1 p2 j2 p3 j3 hp1 hp2 hp3 kk Q hb) $$ [HC HD Hq Hk Hv]
  · unfold PassRes
    isplitl [Hq]; · iexact Hq
    isplitl [Hk]; · iexact Hk
    isplitl [Hv]; · iexact Hv
    isplitl [HC]; · iexact HC
    iexact HD
  unfold PassRes
  iintro ⟨Hq, Hk, Hv, HC, HD⟩
  iapply Hcont
  isplitl [HC HD]
  · iexists _; iexists _
    isplitl [HC]; · iexact HC
    isplitl [HD]; · iexact HD
    ipureintro
    intro r'
    by_cases hr : r' = r
    · subst hr
      rw [Function.update_self]
      have hg' := hg r'
      rw [hgr] at hg'
      intro h
      refine (rowAt_upto_self r' 8 _ _ h h.isLt).trans ?_
      unfold lastC outC; rw [(hg' h).1, (hg' h).2]; rfl
    · rw [Function.update_of_ne hr]
      exact Good.other hr _ _ (fun h => rfl) (hg r')
  isplitl [Hq]; · iexact Hq
  isplitl [Hk]; · iexact Hk
  iexact Hv

end Cert.Att

end
-- ==== Proof.Moves.lean ====
module

public import proofs.«01_k».proof.Proof.Walk

/-! The attention call's moves: own slabs sent both ways, slabs passed on, all acknowledged; whole buffers as slabs. -/

@[expose] public section

set_option maxRecDepth 16384

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kp : Dev nD → S4x8x512x128.Idx → Elt F .bf16) (vp : Dev nD → S4x8x512x128.Idx → Elt F .fp8e4m3)
variable (𝒱 : Variants) (κ : GSem nD τ sig → ℕ) (c : Dev nD)

/-! ### Shares -/

theorem halve (ℓ : Loc nD τ sig) (S : Finset (Idx ℓ)) (q : PosShare TreeShare) (f : Buf (Elt F) ℓ) :
    (ℓ ↦[S]{q} f : sProp 𝕄) = iprop((ℓ ↦[S]{q.left} f) ∗ ℓ ↦[S]{q.right} f) :=
  BI.Entails.antisymm (pointsTo_share (PosShare.mem_left_op_right q)).1 (pointsTo_share (PosShare.mem_left_op_right q)).2

theorem share_kS (r : Fin 4) : kS kp c r fullShare = iprop((sentK kp c 0 r ∗ sentK kp c 1 r) ∗ kS kp c r fullShare.right) :=
  (halve _ _ _ _).trans (congrArg (fun P => iprop(P ∗ kS kp c r fullShare.right)) (halve _ _ _ _))
theorem share_vS (r : Fin 4) : vS vp c r fullShare = iprop((sentV vp c 0 r ∗ sentV vp c 1 r) ∗ vS vp c r fullShare.right) :=
  (halve _ _ _ _).trans (congrArg (fun P => iprop(P ∗ vS vp c r fullShare.right)) (halve _ _ _ _))
theorem share_kOn (r : Fin 4) : kB kp c (via r) r fullShare = iprop(sentK kp c 2 r ∗ kB kp c (via r) r fullShare.right) := halve _ _ _ _
theorem share_vOn (r : Fin 4) : vB vp c (via r) r fullShare = iprop(sentV vp c 2 r ∗ vB vp c (via r) r fullShare.right) := halve _ _ _ _

/-! ### Moves -/

theorem putOwn_wp (Q : PUnit.{1} → sProp 𝕄) (r : Fin 4) (l : List (Fin 3 × Fin 4)) (k : PG F) :
    iprop(Invs kp vp κ ∗ SB c 0 r ∗ SB c 1 r ∗ slotRes (rt c) 0 r ∗ slotRes (lt c) 1 r ∗ kS kp c r fullShare ∗ vS vp c r fullShare ∗ OW c (ow c ((0, r) :: (1, r) :: l)))
      ⊢ iprop((FK c 0 r ∗ FV c 0 r ∗ FK c 1 r ∗ FV c 1 r ∗ kS kp c r fullShare.right ∗ vS vp c r fullShare.right ∗ OW c (ow c l) -∗ Wp 𝒱 c k Q)
          -∗ Wp 𝒱 c (putOwn r (rt c) (rt c) (lt c) (lt c) k) Q) := by
  unfold putOwn
  rw [share_kS, share_vS]
  iintro ⟨#HI, H0, H1, Hs0, Hs1, ⟨⟨Hka, Hkb⟩, Hkr⟩, ⟨⟨Hva, Hvb⟩, Hvr⟩, HO⟩ Hk
  iapply (put_wp kp vp 𝒱 κ c Q 0 r (srcS kM r) (wx_kS r) (srcS vM r) (wx_vS r) _ _ (kp c) (vp c) c (org_dv0 r c) (read_kS r _) (read_vS r _) rfl rfl ((1, r) :: l)) $$ [H0 Hs0 Hka Hva HO]
  · isplitr; · iexact HI
    isplitl [H0]; · iexact H0
    isplitl [Hs0]; · iexact Hs0
    isplitl [Hka]; · iexact Hka
    isplitl [Hva]; · iexact Hva
    iexact HO
  iintro ⟨Ha, Hb, HO⟩
  iapply (put_wp kp vp 𝒱 κ c Q 1 r (srcS kM r) (wx_kS r) (srcS vM r) (wx_vS r) _ _ (kp c) (vp c) c (org_dv1 r c) (read_kS r _) (read_vS r _) rfl rfl l) $$ [H1 Hs1 Hkb Hvb HO]
  · isplitr; · iexact HI
    isplitl [H1]; · iexact H1
    isplitl [Hs1]; · iexact Hs1
    isplitl [Hkb]; · iexact Hkb
    isplitl [Hvb]; · iexact Hvb
    iexact HO
  iintro ⟨Hc, Hd, HO⟩
  iapply Hk
  isplitl [Ha]; · iexact Ha
  isplitl [Hb]; · iexact Hb
  isplitl [Hc]; · iexact Hc
  isplitl [Hd]; · iexact Hd
  isplitl [Hkr]; · iexact Hkr
  isplitl [Hvr]; · iexact Hvr
  iexact HO

theorem putOn_wp (Q : PUnit.{1} → sProp 𝕄) (r : Fin 4) (l : List (Fin 3 × Fin 4)) (k : PG F) :
    iprop(Invs kp vp κ ∗ SB c 2 r ∗ slotRes (dv 2 r c) 2 r ∗ kB kp c (via r) r fullShare ∗ vB vp c (via r) r fullShare ∗ OW c (ow c ((2, r) :: l)))
      ⊢ iprop((FK c 2 r ∗ FV c 2 r ∗ kB kp c (via r) r fullShare.right ∗ vB vp c (via r) r fullShare.right ∗ OW c (ow c l) -∗ Wp 𝒱 c k Q)
          -∗ Wp 𝒱 c (putOn r (dv 2 r c) (dv 2 r c) k) Q) := by
  unfold putOn
  rw [share_kOn, share_vOn]
  iintro ⟨#HI, H0, Hs0, ⟨Hka, Hkr⟩, ⟨Hva, Hvr⟩, HO⟩ Hk
  iapply (put_wp kp vp 𝒱 κ c Q 2 r (bufS kbM (via r) r) (wx_kB (via r) r) (bufS vbM (via r) r) (wx_vB (via r) r) _ _ (KB kp c) (VB vp c) (org c (via r)) (org_dv2 r c)
    ((read_kB _ r _).trans (slab_KB kp c _ r)) ((read_vB _ r _).trans (slab_VB vp c _ r)) rfl rfl l) $$ [H0 Hs0 Hka Hva HO]
  · isplitr; · iexact HI
    isplitl [H0]; · iexact H0
    isplitl [Hs0]; · iexact Hs0
    isplitl [Hka]; · iexact Hka
    isplitl [Hva]; · iexact Hva
    iexact HO
  iintro ⟨Ha, Hb, HO⟩
  iapply Hk
  isplitl [Ha]; · iexact Ha
  isplitl [Hb]; · iexact Hb
  isplitl [Hkr]; · iexact Hkr
  isplitl [Hvr]; · iexact Hvr
  iexact HO

theorem lv_rcv (s : Fin 3) (hs : s.val < 2) (r : Fin 4) : lv (rcvC c (ixK s r)) () ≤ 2 ∧ lv (rcvC c (ixV s r)) () ≤ 2 := by
  revert s r c; decide
theorem lv_rcv2 (s : Fin 3) (r : Fin 4) : lv (rcvC c (ixK s r)) () ≤ 3 ∧ lv (rcvC c (ixV s r)) () ≤ 3 := by
  revert s r c; decide

theorem getOwn_wp (Q : PUnit.{1} → sProp 𝕄) (s : Fin 3) (hs : s.val < 2) (r : Fin 4) (l : List (Fin 3 × Fin 4)) (hl : ∀ m ∈ l, m ∈ ons) (k : PG F) :
    iprop(Invs kp vp κ ∗ levAts L lv ∗ RB c s r ∗ OW c (ow c l))
      ⊢ iprop((at1 (rcvC c (ixK s r)) ∗ at1 (rcvC c (ixV s r)) ∗ kB kp c s r fullShare ∗ vB vp c s r fullShare ∗ OW c (ow c l) -∗ Wp 𝒱 c k Q)
          -∗ Wp 𝒱 c (getOwn s r k) Q) :=
  get_wp kp vp 𝒱 κ c Q s r _ _ _ _ l 2 (lv_rcv c s hs r) (fun m hm => lv_ons m (hl m hm) c) k
theorem getOn_wp (Q : PUnit.{1} → sProp 𝕄) (r : Fin 4) (k : PG F) :
    iprop(Invs kp vp κ ∗ levAts L lv ∗ RB c 2 r ∗ OW c (ow c []))
      ⊢ iprop((at1 (rcvC c (ixK 2 r)) ∗ at1 (rcvC c (ixV 2 r)) ∗ kB kp c 2 r fullShare ∗ vB vp c 2 r fullShare ∗ OW c (ow c []) -∗ Wp 𝒱 c k Q)
          -∗ Wp 𝒱 c (getOn r k) Q) :=
  get_wp kp vp 𝒱 κ c Q 2 r _ _ _ _ [] 3 (lv_rcv2 c 2 r) (fun m hm => absurd hm List.not_mem_nil) k

/-- One thing for each residue. -/
abbrev all4 (Φ : Fin 4 → sProp 𝕄) : sProp 𝕄 := iprop(Φ 0 ∗ Φ 1 ∗ Φ 2 ∗ Φ 3)

/-- The acknowledgements of one slot's messages, from whatever source. -/
theorem acks_wp (Q : PUnit.{1} → sProp 𝕄) (s : Fin 3) (mk : Fin 4 → Memref sig .tc .vmem S8x512x128 .bf16) (hk : ∀ r, (mk r).view.WordExact)
    (mv : Fin 4 → Memref sig .tc .vmem S8x512x128 .fp8e4m3) (hv : ∀ r, (mv r).view.WordExact)
    (hN : ∀ r, (mk r).view.dmaCredit = NK) (hN' : ∀ r, (mv r).view.dmaCredit = NV) (k : PG F) :
    iprop(Invs kp vp κ ∗ all4 (FK c s) ∗ all4 (FV c s) ∗ OW c (ow c []))
      ⊢ iprop((all4 (fun r => at1 (sndC c (ixK s r))) ∗ all4 (fun r => at1 (sndC c (ixV s r))) ∗ all4 (sentK kp c s) ∗ all4 (sentV vp c s) ∗ OW c (ow c []) -∗ Wp 𝒱 c k Q)
          -∗ Wp 𝒱 c (ackK s 0 (mk 0) (hk 0) <| ackK s 1 (mk 1) (hk 1) <| ackK s 2 (mk 2) (hk 2) <| ackK s 3 (mk 3) (hk 3) <|
              ackV s 0 (mv 0) (hv 0) <| ackV s 1 (mv 1) (hv 1) <| ackV s 2 (mv 2) (hv 2) <| ackV s 3 (mv 3) (hv 3) k) Q) := by
  iintro ⟨#HI, ⟨Ha, Hb, Hc, Hd⟩, ⟨He, Hf, Hg, Hh⟩, HO⟩ Hk
  iapply (ackK_wp kp vp 𝒱 κ c Q s 0 (mk 0) (hk 0) (hN 0)) $$ [Ha HO]
  · isplitr; · iexact HI
    isplitl [Ha] <;> iassumption
  iintro ⟨Ha, Ha', HO⟩
  iapply (ackK_wp kp vp 𝒱 κ c Q s 1 (mk 1) (hk 1) (hN 1)) $$ [Hb HO]
  · isplitr; · iexact HI
    isplitl [Hb] <;> iassumption
  iintro ⟨Hb, Hb', HO⟩
  iapply (ackK_wp kp vp 𝒱 κ c Q s 2 (mk 2) (hk 2) (hN 2)) $$ [Hc HO]
  · isplitr; · iexact HI
    isplitl [Hc] <;> iassumption
  iintro ⟨Hc, Hc', HO⟩
  iapply (ackK_wp kp vp 𝒱 κ c Q s 3 (mk 3) (hk 3) (hN 3)) $$ [Hd HO]
  · isplitr; · iexact HI
    isplitl [Hd] <;> iassumption
  iintro ⟨Hd, Hd', HO⟩
  iapply (ackV_wp kp vp 𝒱 κ c Q s 0 (mv 0) (hv 0) (hN' 0)) $$ [He HO]
  · isplitr; · iexact HI
    isplitl [He] <;> iassumption
  iintro ⟨He, He', HO⟩
  iapply (ackV_wp kp vp 𝒱 κ c Q s 1 (mv 1) (hv 1) (hN' 1)) $$ [Hf HO]
  · isplitr; · iexact HI
    isplitl [Hf] <;> iassumption
  iintro ⟨Hf, Hf', HO⟩
  iapply (ackV_wp kp vp 𝒱 κ c Q s 2 (mv 2) (hv 2) (hN' 2)) $$ [Hg HO]
  · isplitr; · iexact HI
    isplitl [Hg] <;> iassumption
  iintro ⟨Hg, Hg', HO⟩
  iapply (ackV_wp kp vp 𝒱 κ c Q s 3 (mv 3) (hv 3) (hN' 3)) $$ [Hh HO]
  · isplitr; · iexact HI
    isplitl [Hh] <;> iassumption
  iintro ⟨Hh, Hh', HO⟩
  iapply Hk
  isplitl [Ha Hb Hc Hd]
  · isplitl [Ha]; · iexact Ha
    isplitl [Hb]; · iexact Hb
    isplitl [Hc] <;> iassumption
  isplitl [He Hf Hg Hh]
  · isplitl [He]; · iexact He
    isplitl [Hf]; · iexact Hf
    isplitl [Hg] <;> iassumption
  isplitl [Ha' Hb' Hc' Hd']
  · isplitl [Ha']; · iexact Ha'
    isplitl [Hb']; · iexact Hb'
    isplitl [Hc'] <;> iassumption
  isplitl [He' Hf' Hg' Hh']
  · isplitl [He']; · iexact He'
    isplitl [Hf']; · iexact Hf'
    isplitl [Hg'] <;> iassumption
  iexact HO

theorem ackOwn_wp (Q : PUnit.{1} → sProp 𝕄) (s : Fin 3) (k : PG F) :
    iprop(Invs kp vp κ ∗ all4 (FK c s) ∗ all4 (FV c s) ∗ OW c (ow c []))
      ⊢ iprop((all4 (fun r => at1 (sndC c (ixK s r))) ∗ all4 (fun r => at1 (sndC c (ixV s r))) ∗ all4 (sentK kp c s) ∗ all4 (sentV vp c s) ∗ OW c (ow c []) -∗ Wp 𝒱 c k Q)
          -∗ Wp 𝒱 c (ackOwn s k) Q) :=
  acks_wp kp vp 𝒱 κ c Q s (fun r => srcS kM r) wx_kS (fun r => srcS vM r) wx_vS (fun _ => rfl) (fun _ => rfl) k
theorem ackOn_wp (Q : PUnit.{1} → sProp 𝕄) (k : PG F) :
    iprop(Invs kp vp κ ∗ all4 (FK c 2) ∗ all4 (FV c 2) ∗ OW c (ow c []))
      ⊢ iprop((all4 (fun r => at1 (sndC c (ixK 2 r))) ∗ all4 (fun r => at1 (sndC c (ixV 2 r))) ∗ all4 (sentK kp c 2) ∗ all4 (sentV vp c 2) ∗ OW c (ow c []) -∗ Wp 𝒱 c k Q)
          -∗ Wp 𝒱 c (ackOn k) Q) :=
  acks_wp kp vp 𝒱 κ c Q 2 (fun r => bufS kbM (via r) r) (fun r => wx_kB _ _) (fun r => bufS vbM (via r) r) (fun r => wx_vB _ _) (fun _ => rfl) (fun _ => rfl) k

/-! ### Whole buffers -/

def I4 (r : Fin 4) : Finset S4x8x512x128.Idx := (Rect.unit (s := S4x8x512x128) ![r.val, 0, 0, 0] S1x8x512x128.size (srcInb r)).set
def I5 (m : Fin 3 × Fin 4) : Finset S3x4x8x512x128.Idx := (Rect.unit (s := S3x4x8x512x128) ![m.1.val, m.2.val, 0, 0, 0] S1x1x8x512x128.size (bufInb m.1 m.2)).set
theorem disj4 : ∀ r r', r ≠ r' → Disjoint (I4 r) (I4 r') := fun r r' h =>
  Finset.disjoint_left.mpr fun i hi hi' => h (((mem_rect4 r i).mp hi).symm.trans ((mem_rect4 r' i).mp hi'))
theorem disj5 : ∀ m m', m ≠ m' → Disjoint (I5 m) (I5 m') := fun m m' h => Finset.disjoint_left.mpr fun i hi hi' => by
  have h1 := (mem_rect5 m.1 m.2 i).mp hi
  have h2 := (mem_rect5 m'.1 m'.2 i).mp hi'
  exact h (Prod.ext (h1.1.symm.trans h2.1) (h1.2.symm.trans h2.2))
theorem cov4 : Finset.univ.biUnion I4 = Finset.univ :=
  Finset.eq_univ_iff_forall.mpr fun i => Finset.mem_biUnion.mpr ⟨i 0, Finset.mem_univ _, (mem_rect4 (i 0) i).mpr rfl⟩
theorem cov5 : Finset.univ.biUnion I5 = Finset.univ :=
  Finset.eq_univ_iff_forall.mpr fun i => Finset.mem_biUnion.mpr ⟨(i 0, i 1), Finset.mem_univ _, (mem_rect5 (i 0) (i 1) i).mpr ⟨rfl, rfl⟩⟩

theorem whole_kS (f : S4x8x512x128.Idx → Elt F .bf16) :
    (kM.view.loc (c : Thread nD τ) ↦{fullShare} f : sProp 𝕄) = bigSep Finset.univ fun r : Fin 4 => kM.view.loc (c : Thread nD τ) ↦[(srcS kM r).view.set]{fullShare} f := by
  have h : I4 = fun r => (srcS kM r).view.set := funext fun r => (set_kS r).symm
  refine (Ring.pointsTo_blocks (ℓ := kM.view.loc (c : Thread nD τ)) (q := fullShare) I4 disj4 cov4 f).trans ?_
  rw [h]
theorem whole_vS (f : S4x8x512x128.Idx → Elt F .fp8e4m3) :
    (vM.view.loc (c : Thread nD τ) ↦{fullShare} f : sProp 𝕄) = bigSep Finset.univ fun r : Fin 4 => vM.view.loc (c : Thread nD τ) ↦[(srcS vM r).view.set]{fullShare} f := by
  have h : I4 = fun r => (srcS vM r).view.set := funext fun r => (set_vS r).symm
  refine (Ring.pointsTo_blocks (ℓ := vM.view.loc (c : Thread nD τ)) (q := fullShare) I4 disj4 cov4 f).trans ?_
  rw [h]
theorem whole_kB (f : S3x4x8x512x128.Idx → Elt F .bf16) :
    (kbM.view.loc (c : Thread nD τ) ↦{fullShare} f : sProp 𝕄) = bigSep Finset.univ fun m : Fin 3 × Fin 4 => kbM.view.loc (c : Thread nD τ) ↦[(bufS kbM m.1 m.2).view.set]{fullShare} f := by
  have h : I5 = fun m : Fin 3 × Fin 4 => (bufS kbM m.1 m.2).view.set := funext fun m => (set_kB m.1 m.2).symm
  refine (Ring.pointsTo_blocks (ℓ := kbM.view.loc (c : Thread nD τ)) (q := fullShare) I5 disj5 cov5 f).trans ?_
  rw [h]
theorem whole_vB (f : S3x4x8x512x128.Idx → Elt F .fp8e4m3) :
    (vbM.view.loc (c : Thread nD τ) ↦{fullShare} f : sProp 𝕄) = bigSep Finset.univ fun m : Fin 3 × Fin 4 => vbM.view.loc (c : Thread nD τ) ↦[(bufS vbM m.1 m.2).view.set]{fullShare} f := by
  have h : I5 = fun m : Fin 3 × Fin 4 => (bufS vbM m.1 m.2).view.set := funext fun m => (set_vB m.1 m.2).symm
  refine (Ring.pointsTo_blocks (ℓ := vbM.view.loc (c : Thread nD τ)) (q := fullShare) I5 disj5 cov5 f).trans ?_
  rw [h]

theorem by4 (Φ : Fin 4 → sProp 𝕄) : bigSep Finset.univ Φ = all4 Φ := bigSep_univ_eq_bigSepL [0, 1, 2, 3] (by decide) (by decide) Φ
theorem by12 (Φ : Fin 3 × Fin 4 → sProp 𝕄) : bigSep Finset.univ Φ = iprop(all4 (fun r => Φ (0, r)) ∗ all4 (fun r => Φ (1, r)) ∗ all4 (fun r => Φ (2, r))) := by
  rw [bigSep_univ_prod, bigSep_univ_eq_bigSepL [0, 1, 2] (by decide) (by decide)]
  show iprop(bigSep Finset.univ (fun r => Φ (0, r)) ∗ bigSep Finset.univ (fun r => Φ (1, r)) ∗ bigSep Finset.univ (fun r => Φ (2, r))) = _
  rw [by4, by4, by4]

theorem kAny_intro (s : Fin 3) (r : Fin 4) (f : S3x4x8x512x128.Idx → Elt F .bf16) :
    (kbM.view.loc (c : Thread nD τ) ↦[(bufS kbM s r).view.set]{fullShare} f : sProp 𝕄) ⊢ kAny c s r := by
  unfold kAny; iintro H; iexists f; iexact H
theorem vAny_intro (s : Fin 3) (r : Fin 4) (f : S3x4x8x512x128.Idx → Elt F .fp8e4m3) :
    (vbM.view.loc (c : Thread nD τ) ↦[(bufS vbM s r).view.set]{fullShare} f : sProp 𝕄) ⊢ vAny c s r := by
  unfold vAny; iintro H; iexists f; iexact H
theorem slots_eq : (bigSep Finset.univ (fun m : Fin 3 × Fin 4 => slotRes c m.1 m.2) : sProp 𝕄)
    = iprop(bigSep Finset.univ (fun m : Fin 3 × Fin 4 => kAny c m.1 m.2) ∗ bigSep Finset.univ (fun m : Fin 3 × Fin 4 => vAny c m.1 m.2)
      ∗ bigSep Finset.univ (fun m : Fin 3 × Fin 4 => iprop(reached ER (rcvC c (ixK m.1 m.2)) 0 ∗ reached ER (rcvC c (ixV m.1 m.2)) 0))) := by
  unfold slotRes; rw [bigSep_sep', bigSep_sep']

/-- The own receive slots, to be given away. -/
theorem slots_of_whole :
    iprop((∃ f, kbM.view.loc (c : Thread nD τ) ↦{fullShare} f) ∗ (∃ f, vbM.view.loc (c : Thread nD τ) ↦{fullShare} f)
        ∗ bigSep Finset.univ (fun m : Fin 3 × Fin 4 => iprop(reached ER (rcvC c (ixK m.1 m.2)) 0 ∗ reached ER (rcvC c (ixV m.1 m.2)) 0)))
      ⊢ (iprop(barPay (lt c) 0 ∗ barPay (rt c) 1) : sProp 𝕄) := by
  iintro ⟨⟨%f, Hk⟩, ⟨%f', Hv⟩, Hr⟩
  ihave Hk := (Entails.of_eq (whole_kB c f)) $$ Hk
  ihave Hv := (Entails.of_eq (whole_vB c f')) $$ Hv
  ihave Hk := (show (bigSep Finset.univ fun m : Fin 3 × Fin 4 => (kbM.view.loc (c : Thread nD τ) ↦[(bufS kbM m.1 m.2).view.set]{fullShare} f : sProp 𝕄))
      ⊢ bigSep Finset.univ fun m : Fin 3 × Fin 4 => kAny c m.1 m.2 from bigSep_mono fun m _ => kAny_intro c m.1 m.2 f) $$ Hk
  ihave Hv := (show (bigSep Finset.univ fun m : Fin 3 × Fin 4 => (vbM.view.loc (c : Thread nD τ) ↦[(bufS vbM m.1 m.2).view.set]{fullShare} f' : sProp 𝕄))
      ⊢ bigSep Finset.univ fun m : Fin 3 × Fin 4 => vAny c m.1 m.2 from bigSep_mono fun m _ => vAny_intro c m.1 m.2 f') $$ Hv
  ihave Hall : (bigSep Finset.univ (fun m : Fin 3 × Fin 4 => slotRes c m.1 m.2) : sProp 𝕄) $$ [Hk Hv Hr]
  · iapply (Entails.of_eq (slots_eq c).symm)
    isplitl [Hk]; · iexact Hk
    isplitl [Hv]; · iexact Hv
    iexact Hr
  ihave Hall := (Entails.of_eq (by12 (fun m : Fin 3 × Fin 4 => slotRes (F := F) c m.1 m.2))) $$ Hall
  icases Hall with ⟨⟨Ha, Hb, Hc, Hd⟩, ⟨He, Hf, Hg, Hh⟩, ⟨Hi, Hj, Hm, Hn⟩⟩
  unfold barPay
  rw [rt_lt, lt_rt]
  isplitl [Ha Hb Hc Hd Hi Hj]
  · isplitl [Ha]; · iexact Ha
    isplitl [Hb]; · iexact Hb
    isplitl [Hc]; · iexact Hc
    isplitl [Hd]; · iexact Hd
    isplitl [Hi] <;> iassumption
  isplitl [He]; · iexact He
  isplitl [Hf]; · iexact Hf
  isplitl [Hg]; · iexact Hg
  isplitl [Hh]; · iexact Hh
  isplitl [Hm] <;> iassumption

/-! ### The end of the count -/

/-- The quotients, as one array. -/
def outAll (fq : S4x8x512x128.Idx → Elt F .bf16) : S4x8x512x128.Idx → Elt F .f32 := fun i => outC kp vp fq c (i 0) (i 1) (row i)

theorem acc_done (fq : S4x8x512x128.Idx → Elt F .bf16) (g : Fin 4 → ℕ) (hg : ∀ r, g r = 4) :
    Acc kp vp fq c g ⊢ (iprop((cM.view.loc (c : Thread nD τ) ↦{fullShare} outAll kp vp c fq) ∗ ∃ fd, dM.view.loc (c : Thread nD τ) ↦{fullShare} fd) : sProp 𝕄) := by
  unfold Acc
  iintro ⟨%fc, %fd, HC, HD, %h⟩
  have e : fc = outAll kp vp c fq := by
    funext i
    have h1 : ∀ r h', rowAt fc r h' = outC kp vp fq c r h' := fun r => by have := h r; rw [hg r] at this; exact this
    have h2 := congrFun (h1 (i 0) (i 1)) (row i)
    unfold rowAt at h2
    rwa [atRow_row i] at h2
  subst e
  isplitl [HC]; · iexact HC
  iexists fd; iexact HD

end Cert.Att

end
-- ==== Proof.Talk.lean ====
module

public import proofs.«01_k».proof.Proof.Moves

/-! The attention call's run at a symbolic device. -/

@[expose] public section

set_option maxRecDepth 16384

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kp : Dev nD → S4x8x512x128.Idx → Elt F .bf16) (vp : Dev nD → S4x8x512x128.Idx → Elt F .fp8e4m3)
variable (fq : S4x8x512x128.Idx → Elt F .bf16) (𝒱 : Variants) (κ : GSem nD τ sig → ℕ) (c : Dev nD)

/-- A device at the call's start: its own cells opened, its tokens, what it will be credited and what it owes; its buffers. -/
def talkPre : sProp 𝕄 :=
  iprop(Invs kp vp κ ∗ levAts L lv ∗ at0 (barC c) ∗ reached ER (barC (lt c)) 0 ∗ reached ER (barC (rt c)) 0 ∗ dutyTok ER (barC (lt c)) 0 0
    ∗ dutyTok ER (barC (rt c)) 0 1 ∗ cred (tallyAt (barC c) () 2)
    ∗ bigSep Finset.univ (fun m : Fin 3 × Fin 4 => SB c m.1 m.2) ∗ bigSep Finset.univ (fun m : Fin 3 × Fin 4 => RB c m.1 m.2)
    ∗ bigSep Finset.univ (fun m : Fin 3 × Fin 4 => iprop(reached ER (rcvC c (ixK m.1 m.2)) 0 ∗ reached ER (rcvC c (ixV m.1 m.2)) 0))
    ∗ (∃ f, kbM.view.loc (c : Thread nD τ) ↦{fullShare} f) ∗ (∃ f, vbM.view.loc (c : Thread nD τ) ↦{fullShare} f)
    ∗ qP fq c ∗ (kM.view.loc (c : Thread nD τ) ↦{fullShare} kp c) ∗ (vM.view.loc (c : Thread nD τ) ↦{fullShare} vp c)
    ∗ (∃ f, cM.view.loc (c : Thread nD τ) ↦{fullShare} f) ∗ (∃ f, dM.view.loc (c : Thread nD τ) ↦{fullShare} f) ∗ OW c (O₀ c))

/-- A message's four semaphores, all done. -/
def DN (s : Fin 3) (r : Fin 4) : sProp 𝕄 :=
  iprop(at1 (sndC c (ixK s r)) ∗ at1 (sndC c (ixV s r)) ∗ at1 (rcvC c (ixK s r)) ∗ at1 (rcvC c (ixV s r)))

/-- At its end. -/
def talkMid : sProp 𝕄 :=
  iprop(at1 (barC c) ∗ bigSep Finset.univ (fun m : Fin 3 × Fin 4 => DN c m.1 m.2)
    ∗ (∃ f, kbM.view.loc (c : Thread nD τ) ↦{fullShare} f) ∗ (∃ f, vbM.view.loc (c : Thread nD τ) ↦{fullShare} f)
    ∗ qP fq c ∗ (kM.view.loc (c : Thread nD τ) ↦{fullShare} kp c) ∗ (vM.view.loc (c : Thread nD τ) ↦{fullShare} vp c)
    ∗ (cM.view.loc (c : Thread nD τ) ↦{fullShare} outAll kp vp c fq) ∗ (∃ f, dM.view.loc (c : Thread nD τ) ↦{fullShare} f) ∗ OW c 0)

theorem talkRun (Q : PUnit.{1} → sProp 𝕄) :
    talkPre kp vp fq κ c ⊢ (iprop((talkMid kp vp fq c -∗ Wp 𝒱 c (.ret ⟨⟩) Q) -∗ Wp 𝒱 c script Q) : sProp 𝕄) := by
  unfold talkPre script
  simp only [wp_deviceId]
  iintro ⟨#HI, #Hlev, HaB, #Hr1, #Hr2, Ht1, Ht2, HcB, HSB, HRB, Hrr, Hkb, Hvb, Hq, Hk, Hv, ⟨%fc, HC⟩, ⟨%fd, HD⟩, HO⟩ Hend
  ihave Hsl := (slots_of_whole c) $$ [Hkb Hvb Hrr]
  · isplitl [Hkb]; · iexact Hkb
    isplitl [Hvb]; · iexact Hvb
    iexact Hrr
  icases Hsl with ⟨Hp1, Hp2⟩
  ihave HSB := (Entails.of_eq (by12 (fun m : Fin 3 × Fin 4 => SB (F := F) c m.1 m.2))) $$ HSB
  icases HSB with ⟨⟨S00, S01, S02, S03⟩, ⟨S10, S11, S12, S13⟩, ⟨S20, S21, S22, S23⟩⟩
  ihave HRB := (Entails.of_eq (by12 (fun m : Fin 3 × Fin 4 => RB (F := F) c m.1 m.2))) $$ HRB
  icases HRB with ⟨⟨R00, R01, R02, R03⟩, ⟨R10, R11, R12, R13⟩, ⟨R20, R21, R22, R23⟩⟩
  ihave Hk := (Entails.of_eq ((whole_kS c (kp c)).trans (by4 (fun r => kS kp c r fullShare)))) $$ Hk
  icases Hk with ⟨K0, K1, K2, K3⟩
  ihave Hv := (Entails.of_eq ((whole_vS c (vp c)).trans (by4 (fun r => vS vp c r fullShare)))) $$ Hv
  icases Hv with ⟨V0, V1, V2, V3⟩
  ihave HA : (Acc kp vp fq c (fun _ => 0)) $$ [HC HD]
  · unfold Acc; iexists fc; iexists fd
    isplitl [HC]; · iexact HC
    isplitl [HD]; · iexact HD
    ipureintro; exact fun _ => trivial
  iapply (meet_wp kp vp 𝒱 κ c Q) $$ [HaB Ht1 Ht2 HcB Hp1 Hp2 HO]
  · isplitr; · iexact HI
    isplitr; · iexact Hlev
    isplitl [HaB]; · iexact HaB
    isplitr; · iexact Hr1
    isplitr; · iexact Hr2
    isplitl [Ht1]; · iexact Ht1
    isplitl [Ht2]; · iexact Ht2
    isplitl [HcB]; · iexact HcB
    isplitl [Hp1]; · iexact Hp1
    isplitl [Hp2]; · iexact Hp2
    iexact HO
  iintro ⟨HaB, Hp1, Hp2, HO⟩
  unfold barPay
  icases Hp1 with ⟨T00, T01, T02, T03, T20, T21⟩
  icases Hp2 with ⟨T10, T11, T12, T13, T22, T23⟩
  iapply (putOwn_wp kp vp 𝒱 κ c Q 0 [(0, 1), (1, 1), (0, 2), (1, 2), (0, 3), (1, 3), (2, 0), (2, 1), (2, 2), (2, 3)]) $$ [S00 S10 T00 T10 K0 V0 HO]
  · isplitr; · iexact HI
    isplitl [S00]; · iexact S00
    isplitl [S10]; · iexact S10
    isplitl [T00]; · iexact T00
    isplitl [T10]; · iexact T10
    isplitl [K0]; · iexact K0
    isplitl [V0]; · iexact V0
    iexact HO
  iintro ⟨FK00, FV00, FK10, FV10, K0, V0, HO⟩
  iapply (putOwn_wp kp vp 𝒱 κ c Q 1 [(0, 2), (1, 2), (0, 3), (1, 3), (2, 0), (2, 1), (2, 2), (2, 3)]) $$ [S01 S11 T01 T11 K1 V1 HO]
  · isplitr; · iexact HI
    isplitl [S01]; · iexact S01
    isplitl [S11]; · iexact S11
    isplitl [T01]; · iexact T01
    isplitl [T11]; · iexact T11
    isplitl [K1]; · iexact K1
    isplitl [V1]; · iexact V1
    iexact HO
  iintro ⟨FK01, FV01, FK11, FV11, K1, V1, HO⟩
  iapply (putOwn_wp kp vp 𝒱 κ c Q 2 [(0, 3), (1, 3), (2, 0), (2, 1), (2, 2), (2, 3)]) $$ [S02 S12 T02 T12 K2 V2 HO]
  · isplitr; · iexact HI
    isplitl [S02]; · iexact S02
    isplitl [S12]; · iexact S12
    isplitl [T02]; · iexact T02
    isplitl [T12]; · iexact T12
    isplitl [K2]; · iexact K2
    isplitl [V2]; · iexact V2
    iexact HO
  iintro ⟨FK02, FV02, FK12, FV12, K2, V2, HO⟩
  iapply (putOwn_wp kp vp 𝒱 κ c Q 3 [(2, 0), (2, 1), (2, 2), (2, 3)]) $$ [S03 S13 T03 T13 K3 V3 HO]
  · isplitr; · iexact HI
    isplitl [S03]; · iexact S03
    isplitl [S13]; · iexact S13
    isplitl [T03]; · iexact T03
    isplitl [T13]; · iexact T13
    isplitl [K3]; · iexact K3
    isplitl [V3]; · iexact V3
    iexact HO
  iintro ⟨FK03, FV03, FK13, FV13, K3, V3, HO⟩
  iapply (first_wp kp vp fq c 𝒱 0 (fun _ => 0) k2_t1_loop k2_t1_ok (by decide) _ k2_off1 k2_off1_inb k2_off2 k2_off2_inb k2_off3 k2_off3_inb k2_off1_eq k2_off2_eq k2_off3_eq Q ![1, 0, 0, 0] (by decide) _ (fun _ _ => rfl)) $$ [HA Hq K0 V0]
  · isplitl [HA]; · iexact HA
    isplitl [Hq]; · iexact Hq
    isplitl [K0]; · iexact K0
    iexact V0
  iintro ⟨HA, Hq, K0, V0⟩
  iapply (first_wp kp vp fq c 𝒱 1 ![1, 0, 0, 0] k2_t2_loop k2_t2_ok (by decide) _ k2_off4 k2_off4_inb k2_off5 k2_off5_inb k2_off6 k2_off6_inb k2_off4_eq k2_off5_eq k2_off6_eq Q ![1, 1, 0, 0] (by decide) _ (fun _ _ => rfl)) $$ [HA Hq K1 V1]
  · isplitl [HA]; · iexact HA
    isplitl [Hq]; · iexact Hq
    isplitl [K1]; · iexact K1
    iexact V1
  iintro ⟨HA, Hq, K1, V1⟩
  iapply (first_wp kp vp fq c 𝒱 2 ![1, 1, 0, 0] k2_t3_loop k2_t3_ok (by decide) _ k2_off7 k2_off7_inb k2_off8 k2_off8_inb k2_off9 k2_off9_inb k2_off7_eq k2_off8_eq k2_off9_eq Q ![1, 1, 1, 0] (by decide) _ (fun _ _ => rfl)) $$ [HA Hq K2 V2]
  · isplitl [HA]; · iexact HA
    isplitl [Hq]; · iexact Hq
    isplitl [K2]; · iexact K2
    iexact V2
  iintro ⟨HA, Hq, K2, V2⟩
  iapply (first_wp kp vp fq c 𝒱 3 ![1, 1, 1, 0] k2_t4_loop k2_t4_ok (by decide) _ k2_off10 k2_off10_inb k2_off11 k2_off11_inb k2_off12 k2_off12_inb k2_off10_eq k2_off11_eq k2_off12_eq Q ![1, 1, 1, 1] (by decide) _ (fun _ _ => rfl)) $$ [HA Hq K3 V3]
  · isplitl [HA]; · iexact HA
    isplitl [Hq]; · iexact Hq
    isplitl [K3]; · iexact K3
    iexact V3
  iintro ⟨HA, Hq, K3, V3⟩
  iapply (getOwn_wp kp vp 𝒱 κ c Q 0 (by decide) 0 [(2, 0), (2, 1), (2, 2), (2, 3)] (by decide)) $$ [R00 HO]
  · isplitr; · iexact HI
    isplitr; · iexact Hlev
    isplitl [R00]; · iexact R00
    iexact HO
  iintro ⟨DK00, DV00, B00, C00, HO⟩
  iapply (putOn_wp kp vp 𝒱 κ c Q 0 [(2, 1), (2, 2), (2, 3)]) $$ [S20 T20 B00 C00 HO]
  · isplitr; · iexact HI
    isplitl [S20]; · iexact S20
    isplitl [T20]; · iexact T20
    isplitl [B00]; · iexact B00
    isplitl [C00]; · iexact C00
    iexact HO
  iintro ⟨FK20, FV20, B00, C00, HO⟩
  iapply (mid_wp kp vp fq c 𝒱 0 ![1, 1, 1, 1] k2_t5_loop k2_t5_ok (by decide) _ k2_off13 k2_off13_inb k2_off14 k2_off14_inb k2_off15 k2_off15_inb k2_off13_eq k2_off14_eq k2_off15_eq Q 0 ![2, 1, 1, 1] (by decide) _ (by decide) rfl _ (fun _ _ => rfl)) $$ [HA Hq B00 C00]
  · isplitl [HA]; · iexact HA
    isplitl [Hq]; · iexact Hq
    isplitl [B00]; · iexact B00
    iexact C00
  iintro ⟨HA, Hq, B00, C00⟩
  iapply (getOwn_wp kp vp 𝒱 κ c Q 1 (by decide) 0 [(2, 1), (2, 2), (2, 3)] (by decide)) $$ [R10 HO]
  · isplitr; · iexact HI
    isplitr; · iexact Hlev
    isplitl [R10]; · iexact R10
    iexact HO
  iintro ⟨DK10, DV10, B10, C10, HO⟩
  iapply (mid_wp kp vp fq c 𝒱 0 ![2, 1, 1, 1] k2_t6_loop k2_t6_ok (by decide) _ k2_off16 k2_off16_inb k2_off17 k2_off17_inb k2_off18 k2_off18_inb k2_off16_eq k2_off17_eq k2_off18_eq Q 1 ![3, 1, 1, 1] (by decide) _ (by decide) rfl _ (fun _ _ => rfl)) $$ [HA Hq B10 C10]
  · isplitl [HA]; · iexact HA
    isplitl [Hq]; · iexact Hq
    isplitl [B10]; · iexact B10
    iexact C10
  iintro ⟨HA, Hq, B10, C10⟩
  iapply (getOwn_wp kp vp 𝒱 κ c Q 0 (by decide) 1 [(2, 1), (2, 2), (2, 3)] (by decide)) $$ [R01 HO]
  · isplitr; · iexact HI
    isplitr; · iexact Hlev
    isplitl [R01]; · iexact R01
    iexact HO
  iintro ⟨DK01, DV01, B01, C01, HO⟩
  iapply (putOn_wp kp vp 𝒱 κ c Q 1 [(2, 2), (2, 3)]) $$ [S21 T21 B01 C01 HO]
  · isplitr; · iexact HI
    isplitl [S21]; · iexact S21
    isplitl [T21]; · iexact T21
    isplitl [B01]; · iexact B01
    isplitl [C01]; · iexact C01
    iexact HO
  iintro ⟨FK21, FV21, B01, C01, HO⟩
  iapply (mid_wp kp vp fq c 𝒱 1 ![3, 1, 1, 1] k2_t7_loop k2_t7_ok (by decide) _ k2_off19 k2_off19_inb k2_off20 k2_off20_inb k2_off21 k2_off21_inb k2_off19_eq k2_off20_eq k2_off21_eq Q 0 ![3, 2, 1, 1] (by decide) _ (by decide) rfl _ (fun _ _ => rfl)) $$ [HA Hq B01 C01]
  · isplitl [HA]; · iexact HA
    isplitl [Hq]; · iexact Hq
    isplitl [B01]; · iexact B01
    iexact C01
  iintro ⟨HA, Hq, B01, C01⟩
  iapply (getOwn_wp kp vp 𝒱 κ c Q 1 (by decide) 1 [(2, 2), (2, 3)] (by decide)) $$ [R11 HO]
  · isplitr; · iexact HI
    isplitr; · iexact Hlev
    isplitl [R11]; · iexact R11
    iexact HO
  iintro ⟨DK11, DV11, B11, C11, HO⟩
  iapply (mid_wp kp vp fq c 𝒱 1 ![3, 2, 1, 1] k2_t8_loop k2_t8_ok (by decide) _ k2_off22 k2_off22_inb k2_off23 k2_off23_inb k2_off24 k2_off24_inb k2_off22_eq k2_off23_eq k2_off24_eq Q 1 ![3, 3, 1, 1] (by decide) _ (by decide) rfl _ (fun _ _ => rfl)) $$ [HA Hq B11 C11]
  · isplitl [HA]; · iexact HA
    isplitl [Hq]; · iexact Hq
    isplitl [B11]; · iexact B11
    iexact C11
  iintro ⟨HA, Hq, B11, C11⟩
  iapply (getOwn_wp kp vp 𝒱 κ c Q 0 (by decide) 2 [(2, 2), (2, 3)] (by decide)) $$ [R02 HO]
  · isplitr; · iexact HI
    isplitr; · iexact Hlev
    isplitl [R02]; · iexact R02
    iexact HO
  iintro ⟨DK02, DV02, B02, C02, HO⟩
  iapply (mid_wp kp vp fq c 𝒱 2 ![3, 3, 1, 1] k2_t9_loop k2_t9_ok (by decide) _ k2_off25 k2_off25_inb k2_off26 k2_off26_inb k2_off27 k2_off27_inb k2_off25_eq k2_off26_eq k2_off27_eq Q 0 ![3, 3, 2, 1] (by decide) _ (by decide) rfl _ (fun _ _ => rfl)) $$ [HA Hq B02 C02]
  · isplitl [HA]; · iexact HA
    isplitl [Hq]; · iexact Hq
    isplitl [B02]; · iexact B02
    iexact C02
  iintro ⟨HA, Hq, B02, C02⟩
  iapply (getOwn_wp kp vp 𝒱 κ c Q 1 (by decide) 2 [(2, 2), (2, 3)] (by decide)) $$ [R12 HO]
  · isplitr; · iexact HI
    isplitr; · iexact Hlev
    isplitl [R12]; · iexact R12
    iexact HO
  iintro ⟨DK12, DV12, B12, C12, HO⟩
  iapply (putOn_wp kp vp 𝒱 κ c Q 2 [(2, 3)]) $$ [S22 T22 B12 C12 HO]
  · isplitr; · iexact HI
    isplitl [S22]; · iexact S22
    isplitl [T22]; · iexact T22
    isplitl [B12]; · iexact B12
    isplitl [C12]; · iexact C12
    iexact HO
  iintro ⟨FK22, FV22, B12, C12, HO⟩
  iapply (mid_wp kp vp fq c 𝒱 2 ![3, 3, 2, 1] k2_t10_loop k2_t10_ok (by decide) _ k2_off28 k2_off28_inb k2_off29 k2_off29_inb k2_off30 k2_off30_inb k2_off28_eq k2_off29_eq k2_off30_eq Q 1 ![3, 3, 3, 1] (by decide) _ (by decide) rfl _ (fun _ _ => rfl)) $$ [HA Hq B12 C12]
  · isplitl [HA]; · iexact HA
    isplitl [Hq]; · iexact Hq
    isplitl [B12]; · iexact B12
    iexact C12
  iintro ⟨HA, Hq, B12, C12⟩
  iapply (getOwn_wp kp vp 𝒱 κ c Q 0 (by decide) 3 [(2, 3)] (by decide)) $$ [R03 HO]
  · isplitr; · iexact HI
    isplitr; · iexact Hlev
    isplitl [R03]; · iexact R03
    iexact HO
  iintro ⟨DK03, DV03, B03, C03, HO⟩
  iapply (mid_wp kp vp fq c 𝒱 3 ![3, 3, 3, 1] k2_t11_loop k2_t11_ok (by decide) _ k2_off31 k2_off31_inb k2_off32 k2_off32_inb k2_off33 k2_off33_inb k2_off31_eq k2_off32_eq k2_off33_eq Q 0 ![3, 3, 3, 2] (by decide) _ (by decide) rfl _ (fun _ _ => rfl)) $$ [HA Hq B03 C03]
  · isplitl [HA]; · iexact HA
    isplitl [Hq]; · iexact Hq
    isplitl [B03]; · iexact B03
    iexact C03
  iintro ⟨HA, Hq, B03, C03⟩
  iapply (getOwn_wp kp vp 𝒱 κ c Q 1 (by decide) 3 [(2, 3)] (by decide)) $$ [R13 HO]
  · isplitr; · iexact HI
    isplitr; · iexact Hlev
    isplitl [R13]; · iexact R13
    iexact HO
  iintro ⟨DK13, DV13, B13, C13, HO⟩
  iapply (putOn_wp kp vp 𝒱 κ c Q 3 []) $$ [S23 T23 B13 C13 HO]
  · isplitr; · iexact HI
    isplitl [S23]; · iexact S23
    isplitl [T23]; · iexact T23
    isplitl [B13]; · iexact B13
    isplitl [C13]; · iexact C13
    iexact HO
  iintro ⟨FK23, FV23, B13, C13, HO⟩
  iapply (mid_wp kp vp fq c 𝒱 3 ![3, 3, 3, 2] k2_t12_loop k2_t12_ok (by decide) _ k2_off34 k2_off34_inb k2_off35 k2_off35_inb k2_off36 k2_off36_inb k2_off34_eq k2_off35_eq k2_off36_eq Q 1 ![3, 3, 3, 3] (by decide) _ (by decide) rfl _ (fun _ _ => rfl)) $$ [HA Hq B13 C13]
  · isplitl [HA]; · iexact HA
    isplitl [Hq]; · iexact Hq
    isplitl [B13]; · iexact B13
    iexact C13
  iintro ⟨HA, Hq, B13, C13⟩
  iapply (ackOwn_wp kp vp 𝒱 κ c Q 0) $$ [FK00 FK01 FK02 FK03 FV00 FV01 FV02 FV03 HO]
  · isplitr; · iexact HI
    isplitl [FK00 FK01 FK02 FK03]
    · isplitl [FK00]; · iexact FK00
      isplitl [FK01]; · iexact FK01
      isplitl [FK02]; · iexact FK02
      iexact FK03
    isplitl [FV00 FV01 FV02 FV03]
    · isplitl [FV00]; · iexact FV00
      isplitl [FV01]; · iexact FV01
      isplitl [FV02]; · iexact FV02
      iexact FV03
    iexact HO
  iintro ⟨⟨EK00, EK01, EK02, EK03⟩, ⟨EV00, EV01, EV02, EV03⟩, ⟨XK00, XK01, XK02, XK03⟩, ⟨XV00, XV01, XV02, XV03⟩, HO⟩
  iapply (ackOwn_wp kp vp 𝒱 κ c Q 1) $$ [FK10 FK11 FK12 FK13 FV10 FV11 FV12 FV13 HO]
  · isplitr; · iexact HI
    isplitl [FK10 FK11 FK12 FK13]
    · isplitl [FK10]; · iexact FK10
      isplitl [FK11]; · iexact FK11
      isplitl [FK12]; · iexact FK12
      iexact FK13
    isplitl [FV10 FV11 FV12 FV13]
    · isplitl [FV10]; · iexact FV10
      isplitl [FV11]; · iexact FV11
      isplitl [FV12]; · iexact FV12
      iexact FV13
    iexact HO
  iintro ⟨⟨EK10, EK11, EK12, EK13⟩, ⟨EV10, EV11, EV12, EV13⟩, ⟨XK10, XK11, XK12, XK13⟩, ⟨XV10, XV11, XV12, XV13⟩, HO⟩
  iapply (getOn_wp kp vp 𝒱 κ c Q 0) $$ [R20 HO]
  · isplitr; · iexact HI
    isplitr; · iexact Hlev
    isplitl [R20]; · iexact R20
    iexact HO
  iintro ⟨DK20, DV20, B20, C20, HO⟩
  iapply (last_wp kp vp fq c 𝒱 0 ![3, 3, 3, 3] k2_t13_loop k2_t13_ok (by decide) _ k2_off37 k2_off37_inb k2_off38 k2_off38_inb k2_off39 k2_off39_inb k2_off37_eq k2_off38_eq k2_off39_eq Q ![4, 3, 3, 3] (by decide) _ rfl _ (fun _ _ => rfl)) $$ [HA Hq B20 C20]
  · isplitl [HA]; · iexact HA
    isplitl [Hq]; · iexact Hq
    isplitl [B20]; · iexact B20
    iexact C20
  iintro ⟨HA, Hq, B20, C20⟩
  iapply (getOn_wp kp vp 𝒱 κ c Q 2) $$ [R22 HO]
  · isplitr; · iexact HI
    isplitr; · iexact Hlev
    isplitl [R22]; · iexact R22
    iexact HO
  iintro ⟨DK22, DV22, B22, C22, HO⟩
  iapply (last_wp kp vp fq c 𝒱 2 ![4, 3, 3, 3] k2_t14_loop k2_t14_ok (by decide) _ k2_off40 k2_off40_inb k2_off41 k2_off41_inb k2_off42 k2_off42_inb k2_off40_eq k2_off41_eq k2_off42_eq Q ![4, 3, 4, 3] (by decide) _ rfl _ (fun _ _ => rfl)) $$ [HA Hq B22 C22]
  · isplitl [HA]; · iexact HA
    isplitl [Hq]; · iexact Hq
    isplitl [B22]; · iexact B22
    iexact C22
  iintro ⟨HA, Hq, B22, C22⟩
  iapply (getOn_wp kp vp 𝒱 κ c Q 1) $$ [R21 HO]
  · isplitr; · iexact HI
    isplitr; · iexact Hlev
    isplitl [R21]; · iexact R21
    iexact HO
  iintro ⟨DK21, DV21, B21, C21, HO⟩
  iapply (last_wp kp vp fq c 𝒱 1 ![4, 3, 4, 3] k2_t15_loop k2_t15_ok (by decide) _ k2_off43 k2_off43_inb k2_off44 k2_off44_inb k2_off45 k2_off45_inb k2_off43_eq k2_off44_eq k2_off45_eq Q ![4, 4, 4, 3] (by decide) _ rfl _ (fun _ _ => rfl)) $$ [HA Hq B21 C21]
  · isplitl [HA]; · iexact HA
    isplitl [Hq]; · iexact Hq
    isplitl [B21]; · iexact B21
    iexact C21
  iintro ⟨HA, Hq, B21, C21⟩
  iapply (getOn_wp kp vp 𝒱 κ c Q 3) $$ [R23 HO]
  · isplitr; · iexact HI
    isplitr; · iexact Hlev
    isplitl [R23]; · iexact R23
    iexact HO
  iintro ⟨DK23, DV23, B23, C23, HO⟩
  iapply (last_wp kp vp fq c 𝒱 3 ![4, 4, 4, 3] k2_t16_loop k2_t16_ok (by decide) _ k2_off46 k2_off46_inb k2_off47 k2_off47_inb k2_off48 k2_off48_inb k2_off46_eq k2_off47_eq k2_off48_eq Q ![4, 4, 4, 4] (by decide) _ rfl _ (fun _ _ => rfl)) $$ [HA Hq B23 C23]
  · isplitl [HA]; · iexact HA
    isplitl [Hq]; · iexact Hq
    isplitl [B23]; · iexact B23
    iexact C23
  iintro ⟨HA, Hq, B23, C23⟩
  iapply (ackOn_wp kp vp 𝒱 κ c Q) $$ [FK20 FK21 FK22 FK23 FV20 FV21 FV22 FV23 HO]
  · isplitr; · iexact HI
    isplitl [FK20 FK21 FK22 FK23]
    · isplitl [FK20]; · iexact FK20
      isplitl [FK21]; · iexact FK21
      isplitl [FK22]; · iexact FK22
      iexact FK23
    isplitl [FV20 FV21 FV22 FV23]
    · isplitl [FV20]; · iexact FV20
      isplitl [FV21]; · iexact FV21
      isplitl [FV22]; · iexact FV22
      iexact FV23
    iexact HO
  iintro ⟨⟨EK20, EK21, EK22, EK23⟩, ⟨EV20, EV21, EV22, EV23⟩, ⟨XK20, XK21, XK22, XK23⟩, ⟨XV20, XV21, XV22, XV23⟩, HO⟩
  iapply Hend
  ihave HA := (acc_done kp vp c fq _ (by decide)) $$ HA
  icases HA with ⟨HC, HD⟩
  unfold talkMid
  isplitl [HaB]; · iexact HaB
  isplitl [EK00 EV00 DK00 DV00 EK01 EV01 DK01 DV01 EK02 EV02 DK02 DV02 EK03 EV03 DK03 DV03 EK10 EV10 DK10 DV10 EK11 EV11 DK11 DV11 EK12 EV12 DK12 DV12 EK13 EV13 DK13 DV13 EK20 EV20 DK20 DV20 EK21 EV21 DK21 DV21 EK22 EV22 DK22 DV22 EK23 EV23 DK23 DV23]
  · iapply (Entails.of_eq (by12 (fun m : Fin 3 × Fin 4 => DN (F := F) c m.1 m.2)).symm)
    unfold DN
    isplitl [EK00 EV00 DK00 DV00 EK01 EV01 DK01 DV01 EK02 EV02 DK02 DV02 EK03 EV03 DK03 DV03]
    · isplitl [EK00 EV00 DK00 DV00]
      · isplitl [EK00]; · iexact EK00
        isplitl [EV00]; · iexact EV00
        isplitl [DK00] <;> iassumption
      isplitl [EK01 EV01 DK01 DV01]
      · isplitl [EK01]; · iexact EK01
        isplitl [EV01]; · iexact EV01
        isplitl [DK01] <;> iassumption
      isplitl [EK02 EV02 DK02 DV02]
      · isplitl [EK02]; · iexact EK02
        isplitl [EV02]; · iexact EV02
        isplitl [DK02] <;> iassumption
      isplitl [EK03]; · iexact EK03
      isplitl [EV03]; · iexact EV03
      isplitl [DK03] <;> iassumption
    isplitl [EK10 EV10 DK10 DV10 EK11 EV11 DK11 DV11 EK12 EV12 DK12 DV12 EK13 EV13 DK13 DV13]
    · isplitl [EK10 EV10 DK10 DV10]
      · isplitl [EK10]; · iexact EK10
        isplitl [EV10]; · iexact EV10
        isplitl [DK10] <;> iassumption
      isplitl [EK11 EV11 DK11 DV11]
      · isplitl [EK11]; · iexact EK11
        isplitl [EV11]; · iexact EV11
        isplitl [DK11] <;> iassumption
      isplitl [EK12 EV12 DK12 DV12]
      · isplitl [EK12]; · iexact EK12
        isplitl [EV12]; · iexact EV12
        isplitl [DK12] <;> iassumption
      isplitl [EK13]; · iexact EK13
      isplitl [EV13]; · iexact EV13
      isplitl [DK13] <;> iassumption
    isplitl [EK20 EV20 DK20 DV20]
    · isplitl [EK20]; · iexact EK20
      isplitl [EV20]; · iexact EV20
      isplitl [DK20] <;> iassumption
    isplitl [EK21 EV21 DK21 DV21]
    · isplitl [EK21]; · iexact EK21
      isplitl [EV21]; · iexact EV21
      isplitl [DK21] <;> iassumption
    isplitl [EK22 EV22 DK22 DV22]
    · isplitl [EK22]; · iexact EK22
      isplitl [EV22]; · iexact EV22
      isplitl [DK22] <;> iassumption
    isplitl [EK23]; · iexact EK23
    isplitl [EV23]; · iexact EV23
    isplitl [DK23] <;> iassumption
  ihave B00 := (Entails.of_eq (share_kOn kp c 0).symm) $$ [XK20 B00]
  · isplitl [XK20]; · iexact XK20
    iexact B00
  ihave B01 := (Entails.of_eq (share_kOn kp c 1).symm) $$ [XK21 B01]
  · isplitl [XK21]; · iexact XK21
    iexact B01
  ihave B12 := (Entails.of_eq (share_kOn kp c 2).symm) $$ [XK22 B12]
  · isplitl [XK22]; · iexact XK22
    iexact B12
  ihave B13 := (Entails.of_eq (share_kOn kp c 3).symm) $$ [XK23 B13]
  · isplitl [XK23]; · iexact XK23
    iexact B13
  ihave C00 := (Entails.of_eq (share_vOn vp c 0).symm) $$ [XV20 C00]
  · isplitl [XV20]; · iexact XV20
    iexact C00
  ihave C01 := (Entails.of_eq (share_vOn vp c 1).symm) $$ [XV21 C01]
  · isplitl [XV21]; · iexact XV21
    iexact C01
  ihave C12 := (Entails.of_eq (share_vOn vp c 2).symm) $$ [XV22 C12]
  · isplitl [XV22]; · iexact XV22
    iexact C12
  ihave C13 := (Entails.of_eq (share_vOn vp c 3).symm) $$ [XV23 C13]
  · isplitl [XV23]; · iexact XV23
    iexact C13
  isplitl [B00 B01 B02 B03 B10 B11 B12 B13 B20 B21 B22 B23]
  · iexists KB kp c
    iapply (Entails.of_eq ((whole_kB c (KB kp c)).trans (by12 (fun m : Fin 3 × Fin 4 => kB kp c m.1 m.2 fullShare))).symm)
    isplitl [B00 B01 B02 B03]
    · isplitl [B00]; · iexact B00
      isplitl [B01]; · iexact B01
      isplitl [B02]; · iexact B02
      iexact B03
    isplitl [B10 B11 B12 B13]
    · isplitl [B10]; · iexact B10
      isplitl [B11]; · iexact B11
      isplitl [B12]; · iexact B12
      iexact B13
    isplitl [B20]; · iexact B20
    isplitl [B21]; · iexact B21
    isplitl [B22]; · iexact B22
    iexact B23
  isplitl [C00 C01 C02 C03 C10 C11 C12 C13 C20 C21 C22 C23]
  · iexists VB vp c
    iapply (Entails.of_eq ((whole_vB c (VB vp c)).trans (by12 (fun m : Fin 3 × Fin 4 => vB vp c m.1 m.2 fullShare))).symm)
    isplitl [C00 C01 C02 C03]
    · isplitl [C00]; · iexact C00
      isplitl [C01]; · iexact C01
      isplitl [C02]; · iexact C02
      iexact C03
    isplitl [C10 C11 C12 C13]
    · isplitl [C10]; · iexact C10
      isplitl [C11]; · iexact C11
      isplitl [C12]; · iexact C12
      iexact C13
    isplitl [C20]; · iexact C20
    isplitl [C21]; · iexact C21
    isplitl [C22]; · iexact C22
    iexact C23
  isplitl [Hq]; · iexact Hq
  ihave K0 := (Entails.of_eq (share_kS kp c 0).symm) $$ [XK00 XK10 K0]
  · isplitl [XK00 XK10]
    · isplitl [XK00] <;> iassumption
    iexact K0
  ihave K1 := (Entails.of_eq (share_kS kp c 1).symm) $$ [XK01 XK11 K1]
  · isplitl [XK01 XK11]
    · isplitl [XK01] <;> iassumption
    iexact K1
  ihave K2 := (Entails.of_eq (share_kS kp c 2).symm) $$ [XK02 XK12 K2]
  · isplitl [XK02 XK12]
    · isplitl [XK02] <;> iassumption
    iexact K2
  ihave K3 := (Entails.of_eq (share_kS kp c 3).symm) $$ [XK03 XK13 K3]
  · isplitl [XK03 XK13]
    · isplitl [XK03] <;> iassumption
    iexact K3
  isplitl [K0 K1 K2 K3]
  · iapply (Entails.of_eq ((whole_kS c (kp c)).trans (by4 (fun r => kS kp c r fullShare))).symm)
    isplitl [K0]; · iexact K0
    isplitl [K1]; · iexact K1
    isplitl [K2]; · iexact K2
    iexact K3
  ihave V0 := (Entails.of_eq (share_vS vp c 0).symm) $$ [XV00 XV10 V0]
  · isplitl [XV00 XV10]
    · isplitl [XV00] <;> iassumption
    iexact V0
  ihave V1 := (Entails.of_eq (share_vS vp c 1).symm) $$ [XV01 XV11 V1]
  · isplitl [XV01 XV11]
    · isplitl [XV01] <;> iassumption
    iexact V1
  ihave V2 := (Entails.of_eq (share_vS vp c 2).symm) $$ [XV02 XV12 V2]
  · isplitl [XV02 XV12]
    · isplitl [XV02] <;> iassumption
    iexact V2
  ihave V3 := (Entails.of_eq (share_vS vp c 3).symm) $$ [XV03 XV13 V3]
  · isplitl [XV03 XV13]
    · isplitl [XV03] <;> iassumption
    iexact V3
  isplitl [V0 V1 V2 V3]
  · iapply (Entails.of_eq ((whole_vS c (vp c)).trans (by4 (fun r => vS vp c r fullShare))).symm)
    isplitl [V0]; · iexact V0
    isplitl [V1]; · iexact V1
    isplitl [V2]; · iexact V2
    iexact V3
  isplitl [HC]; · iexact HC
  isplitl [HD]; · iexact HD
  iexact HO

end Cert.Att

end
-- ==== Proof.Cells.lean ====
module

public import proofs.«01_k».proof.Proof.Talk
public import Idealize.ShloMosaic.Harness.Basic

/-! The attention call's semaphores, message by message: opened, closed, and dealt at launch. -/

@[expose] public section

set_option maxRecDepth 16384

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ### Forty-eight semaphores as twelve messages of four -/

abbrev Msg : Type := Fin 3 × Fin 4

def byMsg : Msg × Fin 4 ≃ Fin 48 where
  toFun p := ⟨24 * (p.2.val / 2) + 8 * p.1.1.val + 4 * (p.2.val % 2) + p.1.2.val, by
    have := p.1.1.isLt; have := p.1.2.isLt; have := p.2.isLt; omega⟩
  invFun i := ((⟨i.val % 24 / 8, by have := i.isLt; omega⟩, ⟨i.val % 4, by omega⟩), ⟨2 * (i.val / 24) + i.val / 4 % 2, by have := i.isLt; omega⟩)
  left_inv := by decide
  right_inv := by decide

theorem cp0 (m : Msg) : cpSem (byMsg (m, 0)) = .dma (sS (ixK m.1 m.2)) :=
  congrArg SemLoc.dma (Fin.ext (by show 11 + (24 * (0 / 2) + 8 * m.1.val + 4 * (0 % 2) + m.2.val) = 11 + (8 * m.1.val + m.2.val); omega))
theorem cp1 (m : Msg) : cpSem (byMsg (m, 1)) = .dma (sS (ixV m.1 m.2)) :=
  congrArg SemLoc.dma (Fin.ext (by show 11 + (24 * (1 / 2) + 8 * m.1.val + 4 * (1 % 2) + m.2.val) = 11 + (8 * m.1.val + 4 + m.2.val); omega))
theorem cp2 (m : Msg) : cpSem (byMsg (m, 2)) = .dma (rS (ixK m.1 m.2)) :=
  congrArg SemLoc.dma (Fin.ext (by show 11 + (24 * (2 / 2) + 8 * m.1.val + 4 * (2 % 2) + m.2.val) = 35 + (8 * m.1.val + m.2.val); omega))
theorem cp3 (m : Msg) : cpSem (byMsg (m, 3)) = .dma (rS (ixV m.1 m.2)) :=
  congrArg SemLoc.dma (Fin.ext (by show 11 + (24 * (3 / 2) + 8 * m.1.val + 4 * (3 % 2) + m.2.val) = 35 + (8 * m.1.val + 4 + m.2.val); omega))

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Something of every copy semaphore of a device, message by message. -/
theorem by_msg (c : Dev nD) (X : GSem nD τ sig → sProp 𝕄) :
    (bigSep Finset.univ fun i : Fin 48 => X ((c : Thread nD τ), cpSem i))
      = bigSep Finset.univ fun m : Msg => iprop(X (sndC c (ixK m.1 m.2)) ∗ X (sndC c (ixV m.1 m.2)) ∗ X (rcvC c (ixK m.1 m.2)) ∗ X (rcvC c (ixV m.1 m.2))) := by
  rw [bigSep_univ_equiv byMsg (fun i : Fin 48 => X ((c : Thread nD τ), cpSem i)), bigSep_univ_prod]
  refine bigSep_congr fun m _ => ?_
  rw [bigSep_four, cp0, cp1, cp2, cp3]

variable (kp : Dev nD → S4x8x512x128.Idx → Elt F .bf16) (vp : Dev nD → S4x8x512x128.Idx → Elt F .fp8e4m3)
variable (κ : GSem nD τ sig → ℕ) (c : Dev nD)

/-! ### Opened -/

theorem open_one (i : Fin 48) :
    iprop(Invs kp vp κ ∗ (openTok ER ((c : Thread nD τ), cpSem i) ∗ semVal ((c : Thread nD τ), cpSem i) 0))
      ⊢ (|={Set.univ}=> iprop(at0 ((c : Thread nD τ), cpSem i) ∗ reached ER ((c : Thread nD τ), cpSem i) 0) : sProp 𝕄) := by
  iintro ⟨#HI, Ho, Hs⟩
  ihave #H1 := (inv_at kp vp κ ((c : Thread nD τ), cpSem i) (mem_cp c i)) $$ HI
  imod (Rounds.cell_open ER (Rd kp vp) (g := ((c : Thread nD τ), cpSem i)) (Set.mem_univ (κ ((c : Thread nD τ), cpSem i)))) $$ [Ho Hs] with ⟨Ha, #Hr⟩
  · isplitr; · iexact H1
    isplitl [Ho] <;> iassumption
  imodintro
  isplitl [Ha]; · iexact Ha
  iexact Hr

theorem open_all :
    iprop(Invs kp vp κ ∗ (bigSep Finset.univ (fun i : Fin 48 => openTok ER ((c : Thread nD τ), cpSem i)) ∗ Pipeline.ownSems0 cpSem c))
      ⊢ (|={Set.univ}=> bigSep Finset.univ fun m : Msg => iprop(iprop(at0 (sndC c (ixK m.1 m.2)) ∗ reached ER (sndC c (ixK m.1 m.2)) 0)
          ∗ iprop(at0 (sndC c (ixV m.1 m.2)) ∗ reached ER (sndC c (ixV m.1 m.2)) 0) ∗ iprop(at0 (rcvC c (ixK m.1 m.2)) ∗ reached ER (rcvC c (ixK m.1 m.2)) 0)
          ∗ iprop(at0 (rcvC c (ixV m.1 m.2)) ∗ reached ER (rcvC c (ixV m.1 m.2)) 0)) : sProp 𝕄) := by
  rw [← by_msg c (fun g => iprop(at0 g ∗ reached ER g 0))]
  refine (sep_mono_right (BI.Entails.trans Idealize.ShloMosaic.Smoke.bigSep_pair (BI.Entails.refl _))).trans ?_
  exact (bigSep_with_persistent (R := Invs kp vp κ) fun i _ => open_one kp vp κ c i).trans (bigSep_fupd _ _)

/-! ### Closed -/

theorem close_one (g : GSem nD τ sig) (h : g ∈ barCells ∪ cpCells) :
    iprop(Invs kp vp κ ∗ at1 g) ⊢ (|={Set.univ}=> semVal g 0 : sProp 𝕄) := by
  iintro ⟨#HI, Ha⟩
  ihave #H1 := (inv_at kp vp κ g h) $$ HI
  iapply (Rounds.cell_close ER (Rd kp vp) (Set.mem_univ (κ g)) id (duties_later kp vp g))
  isplitr; · iexact H1
  iexact Ha

theorem close_all :
    iprop(Invs kp vp κ ∗ bigSep Finset.univ (fun m : Msg => DN c m.1 m.2)) ⊢ (|={Set.univ}=> Pipeline.ownSems0 cpSem c : sProp 𝕄) := by
  unfold DN
  rw [← by_msg c (fun g => (at1 g : sProp 𝕄))]
  exact (bigSep_with_persistent (R := Invs kp vp κ) fun i _ => close_one kp vp κ ((c : Thread nD τ), cpSem i) (mem_cp c i)).trans (bigSep_fupd _ _)

/-! ### What a device carries to the call, and what it has there -/

/-- The tokens of the message a device starts. -/
def TK (m : Msg) : sProp 𝕄 :=
  iprop(dutyTok ER (sndC c (ixK m.1 m.2)) 0 0 ∗ dutyTok ER (sndC c (ixV m.1 m.2)) 0 0
    ∗ dutyTok ER (rcvC (dv m.1 m.2 c) (ixK m.1 m.2)) 0 0 ∗ dutyTok ER (rcvC (dv m.1 m.2 c) (ixV m.1 m.2)) 0 0)
/-- What it is credited for a message it receives. -/
def CR (m : Msg) : sProp 𝕄 := iprop(cred (tallyAt (rcvC c (ixK m.1 m.2)) () NK) ∗ cred (tallyAt (rcvC c (ixV m.1 m.2)) () NV))

def linear : sProp 𝕄 :=
  iprop(at0 (barC c) ∗ bigSep Finset.univ (fun i : Fin 48 => openTok ER ((c : Thread nD τ), cpSem i))
    ∗ dutyTok ER (barC (lt c)) 0 0 ∗ dutyTok ER (barC (rt c)) 0 1 ∗ bigSep Finset.univ (fun m : Msg => TK c m))
def credits : sProp 𝕄 := iprop(cred (tallyAt (barC c) () 2) ∗ bigSep Finset.univ (fun m : Msg => CR c m))

def Tk : sProp 𝕄 := iprop((∃ κ, Invs kp vp κ ∗ reached ER (barC (lt c)) 0 ∗ reached ER (barC (rt c)) 0) ∗ linear c ∗ credits c)

def Xk : sProp 𝕄 :=
  iprop(∃ κ, Invs kp vp κ ∗ levAts L lv ∗ at0 (barC c) ∗ reached ER (barC (lt c)) 0 ∗ reached ER (barC (rt c)) 0 ∗ dutyTok ER (barC (lt c)) 0 0
    ∗ dutyTok ER (barC (rt c)) 0 1 ∗ cred (tallyAt (barC c) () 2)
    ∗ bigSep Finset.univ (fun m : Msg => SB c m.1 m.2) ∗ bigSep Finset.univ (fun m : Msg => RB c m.1 m.2)
    ∗ bigSep Finset.univ (fun m : Msg => iprop(reached ER (rcvC c (ixK m.1 m.2)) 0 ∗ reached ER (rcvC c (ixV m.1 m.2)) 0)))

theorem msg_ready (m : Msg) :
    iprop(iprop(iprop(at0 (sndC c (ixK m.1 m.2)) ∗ reached ER (sndC c (ixK m.1 m.2)) 0)
          ∗ iprop(at0 (sndC c (ixV m.1 m.2)) ∗ reached ER (sndC c (ixV m.1 m.2)) 0) ∗ iprop(at0 (rcvC c (ixK m.1 m.2)) ∗ reached ER (rcvC c (ixK m.1 m.2)) 0)
          ∗ iprop(at0 (rcvC c (ixV m.1 m.2)) ∗ reached ER (rcvC c (ixV m.1 m.2)) 0)) ∗ iprop(TK c m ∗ CR c m))
      ⊢ (iprop(SB c m.1 m.2 ∗ iprop(RB c m.1 m.2 ∗ iprop(reached ER (rcvC c (ixK m.1 m.2)) 0 ∗ reached ER (rcvC c (ixV m.1 m.2)) 0))) : sProp 𝕄) := by
  unfold SB RB TK CR
  iintro ⟨⟨⟨H1, #R1⟩, ⟨H2, #R2⟩, ⟨H3, #R3⟩, ⟨H4, #R4⟩⟩, ⟨T1, T2, T3, T4⟩, ⟨C1, C2⟩⟩
  isplitl [H1 H2 T1 T2 T3 T4]
  · isplitl [H1]; · iexact H1
    isplitl [H2]; · iexact H2
    isplitr; · iexact R1
    isplitr; · iexact R2
    isplitl [T1]; · iexact T1
    isplitl [T2]; · iexact T2
    isplitl [T3]; · iexact T3
    iexact T4
  isplitl [H3 H4 C1 C2]
  · isplitl [H3]; · iexact H3
    isplitl [H4]; · iexact H4
    isplitl [C1]; · iexact C1
    iexact C2
  isplitr; · iexact R3
  iexact R4

theorem all_ready :
    iprop(bigSep Finset.univ (fun m : Msg => iprop(iprop(at0 (sndC c (ixK m.1 m.2)) ∗ reached ER (sndC c (ixK m.1 m.2)) 0)
          ∗ iprop(at0 (sndC c (ixV m.1 m.2)) ∗ reached ER (sndC c (ixV m.1 m.2)) 0) ∗ iprop(at0 (rcvC c (ixK m.1 m.2)) ∗ reached ER (rcvC c (ixK m.1 m.2)) 0)
          ∗ iprop(at0 (rcvC c (ixV m.1 m.2)) ∗ reached ER (rcvC c (ixV m.1 m.2)) 0)))
        ∗ bigSep Finset.univ (fun m : Msg => TK c m) ∗ bigSep Finset.univ (fun m : Msg => CR c m))
      ⊢ (iprop(bigSep Finset.univ (fun m : Msg => SB c m.1 m.2) ∗ bigSep Finset.univ (fun m : Msg => RB c m.1 m.2)
        ∗ bigSep Finset.univ (fun m : Msg => iprop(reached ER (rcvC c (ixK m.1 m.2)) 0 ∗ reached ER (rcvC c (ixV m.1 m.2)) 0))) : sProp 𝕄) := by
  rw [← bigSep_sep', ← bigSep_sep', ← bigSep_sep', ← bigSep_sep']
  exact bigSep_mono fun m _ => msg_ready c m

theorem hopen : iprop(Tk kp vp c ∗ Pipeline.ownSems0 cpSem c ∗ levAts L lv) ⊢ (|={Set.univ}=> Xk kp vp c : sProp 𝕄) := by
  unfold Tk linear credits Xk
  iintro ⟨⟨⟨%κ, #HI, #Hr1, #Hr2⟩, ⟨HaB, Hop, Ht1, Ht2, HTK⟩, HcB, HCR⟩, Hs, #Hlev⟩
  imod (open_all kp vp κ c) $$ [Hop Hs] with Hall
  · isplitr; · iexact HI
    isplitl [Hop] <;> iassumption
  imodintro
  iexists κ
  isplitr; · iexact HI
  isplitr; · iexact Hlev
  isplitl [HaB]; · iexact HaB
  isplitr; · iexact Hr1
  isplitr; · iexact Hr2
  isplitl [Ht1]; · iexact Ht1
  isplitl [Ht2]; · iexact Ht2
  isplitl [HcB]; · iexact HcB
  ihave H4 := all_ready c $$ [Hall HTK HCR]
  · isplitl [Hall]; · iexact Hall
    isplitl [HTK]; · iexact HTK
    iexact HCR
  icases H4 with ⟨H5, H6, H7⟩
  isplitl [H5]; · iexact H5
  isplitl [H6]; · iexact H6
  iexact H7

/-! ### Dealt at launch -/

def rtE : Dev nD ≃ Dev nD := ⟨rt, lt, by decide, by decide⟩
def ltE : Dev nD ≃ Dev nD := ⟨lt, rt, by decide, by decide⟩
def dvE (m : Msg) : Dev nD ≃ Dev nD := ⟨dv m.1 m.2, fun e => match m.1 with | 0 => lt e | 1 => rt e | 2 => if m.2.val < 2 then lt e else rt e,
  by revert m; decide, by revert m; decide⟩

theorem tok_inj : Function.Injective (fun p : Dev nD × (Fin 2 ⊕ Fin 48) =>
    (match p.2 with | .inl d => (barC p.1, 0, d) | .inr i => (((p.1 : Thread nD τ), cpSem i), 0, 0) : GSem nD τ sig × ℕ × Fin 2)) := by
  rintro ⟨a, d | i⟩ ⟨b, e | j⟩ h
  · have h1 : a = b := congrArg (fun t : GSem nD τ sig × ℕ × Fin 2 => t.1.1.1) h
    have h2 : d = e := congrArg (fun t : GSem nD τ sig × ℕ × Fin 2 => t.2.2) h
    rw [h1, h2]
  · have h3 : (SemLoc.reg barS : SemLoc sig) = cpSem j := congrArg (fun t : GSem nD τ sig × ℕ × Fin 2 => t.1.2) h
    exact absurd h3 (fun h => by cases h)
  · have h3 : cpSem i = (SemLoc.reg barS : SemLoc sig) := congrArg (fun t : GSem nD τ sig × ℕ × Fin 2 => t.1.2) h
    exact absurd h3 (fun h => by cases h)
  · have h1 : a = b := congrArg (fun t : GSem nD τ sig × ℕ × Fin 2 => t.1.1.1) h
    have h2 : cpSem i = cpSem j := congrArg (fun t : GSem nD τ sig × ℕ × Fin 2 => t.1.2) h
    rw [h1, cpSem_inj h2]

/-- The token of every duty: two at a barrier, one at each copy semaphore. -/
def talkToks : Finset (GSem nD τ sig × ℕ × Fin 2) := Finset.univ.map ⟨_, tok_inj⟩

theorem disjoint_cells : Disjoint (barCells : Finset (GSem nD τ sig)) cpCells := by
  rw [Finset.disjoint_left]
  rintro g h₁ h₂
  obtain ⟨c, -, rfl⟩ := Finset.mem_map.mp h₁
  obtain ⟨p, -, h⟩ := Finset.mem_map.mp h₂
  have h3 : cpSem p.2 = (SemLoc.reg barS : SemLoc sig) := congrArg (fun g : GSem nD τ sig => g.2) h
  exact absurd h3 (fun h => by cases h)

abbrev tok (g : GSem nD τ sig) (d : Fin 2) : sProp 𝕄 := dutyTok ER g 0 d

theorem devs_msgs (Φ : Dev nD → Msg → sProp 𝕄) :
    (bigSep Finset.univ fun c => bigSep Finset.univ fun m => Φ c m) = bigSep Finset.univ fun m => bigSep Finset.univ fun c => Φ c m := by
  have h := bigSep_univ_equiv (Equiv.prodComm Msg (Dev nD)) (fun p : Dev nD × Msg => Φ p.1 p.2)
  rw [bigSep_univ_prod, bigSep_univ_prod] at h
  exact h

theorem toks_around :
    bigSep talkToks (fun x => (dutyTok ER x.1 x.2.1 x.2.2 : sProp 𝕄))
      ⊢ bigSep Finset.univ fun c : Dev nD => iprop(dutyTok ER (barC (lt c)) 0 0 ∗ dutyTok ER (barC (rt c)) 0 1 ∗ bigSep Finset.univ (fun m : Msg => TK c m)) := by
  have e1 : ∀ c : Dev nD, (bigSep Finset.univ fun q : Fin 2 ⊕ Fin 48 => (match q with | .inl d => tok (barC c) d | .inr i => tok ((c : Thread nD τ), cpSem i) 0 : sProp 𝕄))
      = iprop((tok (barC c) 0 ∗ tok (barC c) 1) ∗ bigSep Finset.univ (fun m : Msg => iprop(tok (sndC c (ixK m.1 m.2)) 0 ∗ tok (sndC c (ixV m.1 m.2)) 0
        ∗ tok (rcvC c (ixK m.1 m.2)) 0 ∗ tok (rcvC c (ixV m.1 m.2)) 0))) := fun c => by
    rw [bigSep_univ_sum, BI.bigSep_fin_two, by_msg c (fun g => tok g 0)]
    rfl
  have e2 : bigSep talkToks (fun x => (dutyTok ER x.1 x.2.1 x.2.2 : sProp 𝕄))
      = bigSep Finset.univ fun c : Dev nD => bigSep Finset.univ fun q : Fin 2 ⊕ Fin 48 =>
          (match q with | .inl d => tok (barC c) d | .inr i => tok ((c : Thread nD τ), cpSem i) 0 : sProp 𝕄) := by
    unfold talkToks; rw [bigSep_map, bigSep_univ_prod]
    exact bigSep_congr fun c _ => bigSep_congr fun q _ => by rcases q with d | i <;> rfl
  rw [e2, bigSep_congr fun c _ => e1 c]
  simp only [bigSep_sep']
  rw [bigSep_univ_equiv ltE (fun c : Dev nD => tok (F := F) (barC c) 0), bigSep_univ_equiv rtE (fun c : Dev nD => tok (F := F) (barC c) 1)]
  have e3 : ∀ (ix : Msg → Fin 24), (bigSep Finset.univ fun c : Dev nD => bigSep Finset.univ fun m : Msg => tok (F := F) (rcvC c (ix m)) 0)
      = bigSep Finset.univ fun c : Dev nD => bigSep Finset.univ fun m : Msg => tok (F := F) (rcvC (dv m.1 m.2 c) (ix m)) 0 := fun ix => by
    rw [devs_msgs, devs_msgs]
    exact bigSep_congr fun m _ => bigSep_univ_equiv (dvE m) (fun c : Dev nD => tok (F := F) (rcvC c (ix m)) 0)
  rw [e3 (fun m => ixK m.1 m.2), e3 (fun m => ixV m.1 m.2)]
  unfold TK
  simp only [bigSep_sep']
  iintro ⟨⟨A, B⟩, C, D, E, G⟩
  isplitl [A]; · iexact A
  isplitl [B]; · iexact B
  isplitl [C]; · iexact C
  isplitl [D]; · iexact D
  isplitl [E] <;> iassumption

/-! ### The credit at launch -/

theorem rcv_K_eq (d e : Dev nD) (m n : Msg) : (rcvC e (ixK m.1 m.2) = rcvC d (ixK n.1 n.2)) ↔ e = d ∧ m = n := by
  constructor
  · intro h
    have h1 : e = d := congrArg (fun g : GSem nD τ sig => g.1.1) h
    have h2 : (SemLoc.dma (rS (ixK m.1 m.2)) : SemLoc sig) = .dma (rS (ixK n.1 n.2)) := congrArg (fun g : GSem nD τ sig => g.2) h
    have h3 : 35 + (8 * m.1.val + m.2.val) = 35 + (8 * n.1.val + n.2.val) := congrArg Fin.val (SemLoc.dma.inj h2)
    have := m.2.isLt; have := n.2.isLt
    exact ⟨h1, Prod.ext (Fin.ext (by omega)) (Fin.ext (by omega))⟩
  · rintro ⟨rfl, rfl⟩; rfl
theorem rcv_V_eq (d e : Dev nD) (m n : Msg) : (rcvC e (ixV m.1 m.2) = rcvC d (ixV n.1 n.2)) ↔ e = d ∧ m = n := by
  constructor
  · intro h
    have h1 : e = d := congrArg (fun g : GSem nD τ sig => g.1.1) h
    have h2 : (SemLoc.dma (rS (ixV m.1 m.2)) : SemLoc sig) = .dma (rS (ixV n.1 n.2)) := congrArg (fun g : GSem nD τ sig => g.2) h
    have h3 : 35 + (8 * m.1.val + 4 + m.2.val) = 35 + (8 * n.1.val + 4 + n.2.val) := congrArg Fin.val (SemLoc.dma.inj h2)
    have := m.2.isLt; have := n.2.isLt
    exact ⟨h1, Prod.ext (Fin.ext (by omega)) (Fin.ext (by omega))⟩
  · rintro ⟨rfl, rfl⟩; rfl
theorem rcv_KV_ne (d e : Dev nD) (m n : Msg) : rcvC e (ixK m.1 m.2) ≠ rcvC d (ixV n.1 n.2) := fun h => by
  have h2 : (SemLoc.dma (rS (ixK m.1 m.2)) : SemLoc sig) = .dma (rS (ixV n.1 n.2)) := congrArg (fun g : GSem nD τ sig => g.2) h
  have h3 : 35 + (8 * m.1.val + m.2.val) = 35 + (8 * n.1.val + 4 + n.2.val) := congrArg Fin.val (SemLoc.dma.inj h2)
  have := m.2.isLt; have := n.2.isLt; omega
theorem rcv_bar_ne (d e : Dev nD) (i : Fin 24) : rcvC e i ≠ barC d := fun h => by
  have h2 : (SemLoc.dma (rS i) : SemLoc sig) = .reg barS := congrArg (fun g : GSem nD τ sig => g.2) h
  cases h2

theorem ow_apply (d : Dev nD) (m : Msg) (l : List Msg) (g : GSem nD τ sig) :
    ow d (m :: l) g () = ow d l g () + tallyAt (rcvC (dv m.1 m.2 d) (ixV m.1 m.2)) () NV g () + tallyAt (rcvC (dv m.1 m.2 d) (ixK m.1 m.2)) () NK g () := rfl

theorem ow_K (d e : Dev nD) (m : Msg) (l : List Msg) :
    ow d l (rcvC e (ixK m.1 m.2)) () = if e = dv m.1 m.2 d then NK * l.count m else 0 := by
  induction l with
  | nil => rw [List.count_nil, Nat.mul_zero, ite_self]; rfl
  | cons n l ih =>
    rw [ow_apply, ih, tallyAt_ne_cell (rcv_KV_ne _ _ _ _), tallyAt_apply, Finsupp.zero_apply, Nat.add_zero, List.count_cons]
    by_cases h : m = n
    · subst h
      by_cases h' : e = dv m.1 m.2 d
      · rw [if_pos h', if_pos ⟨(rcv_K_eq _ _ _ _).mpr ⟨h', rfl⟩, rfl⟩, if_pos h', if_pos (beq_self_eq_true m), Nat.mul_add, Nat.mul_one]
      · rw [if_neg h', if_neg (fun h => h' ((rcv_K_eq _ _ _ _).mp h.1).1), if_neg h']
    · rw [if_neg (c := _ ∧ _) (fun h' => h ((rcv_K_eq _ _ _ _).mp h'.1).2), if_neg (fun h' => h (beq_iff_eq.mp h').symm)]
      rfl
theorem ow_V (d e : Dev nD) (m : Msg) (l : List Msg) :
    ow d l (rcvC e (ixV m.1 m.2)) () = if e = dv m.1 m.2 d then NV * l.count m else 0 := by
  induction l with
  | nil => rw [List.count_nil, Nat.mul_zero, ite_self]; rfl
  | cons n l ih =>
    rw [ow_apply, ih, tallyAt_ne_cell (g := rcvC (dv n.1 n.2 d) (ixK n.1 n.2)) (rcv_KV_ne _ _ _ _).symm, tallyAt_apply, Finsupp.zero_apply, Nat.add_zero, List.count_cons]
    by_cases h : m = n
    · subst h
      by_cases h' : e = dv m.1 m.2 d
      · rw [if_pos h', if_pos ⟨(rcv_V_eq _ _ _ _).mpr ⟨h', rfl⟩, rfl⟩, if_pos h', if_pos (beq_self_eq_true m), Nat.mul_add, Nat.mul_one]
      · rw [if_neg h', if_neg (fun h => h' ((rcv_V_eq _ _ _ _).mp h.1).1), if_neg h']
    · rw [if_neg (c := _ ∧ _) (fun h' => h ((rcv_V_eq _ _ _ _).mp h'.1).2), if_neg (fun h' => h (beq_iff_eq.mp h').symm)]
      rfl
theorem ow_bar (d e : Dev nD) (l : List Msg) : ow d l (barC e) () = 0 := by
  by_contra h
  obtain ⟨m, -, i, -, h'⟩ := ow_support d l (barC e) () (Nat.pos_of_ne_zero h)
  exact rcv_bar_ne _ _ _ h'.symm

theorem count_one (m : Msg) : msgs.count m = 1 := by revert m; decide

theorem O₀_apply (d : Dev nD) (g : GSem nD τ sig) :
    O₀ d g () = ow d msgs g () + tallyAt (barC (rt d)) () 1 g () + tallyAt (barC (lt d)) () 1 g () := rfl

theorem O₀_K (d e : Dev nD) (m : Msg) : O₀ d (rcvC e (ixK m.1 m.2)) () = if d = (dvE m).symm e then NK else 0 := by
  rw [O₀_apply, ow_K, tallyAt_ne_cell (rcv_bar_ne _ _ _), tallyAt_ne_cell (rcv_bar_ne _ _ _), count_one, Nat.mul_one]
  exact if_congr (by rw [Equiv.eq_symm_apply]; exact eq_comm) rfl rfl
theorem O₀_V (d e : Dev nD) (m : Msg) : O₀ d (rcvC e (ixV m.1 m.2)) () = if d = (dvE m).symm e then NV else 0 := by
  rw [O₀_apply, ow_V, tallyAt_ne_cell (rcv_bar_ne _ _ _), tallyAt_ne_cell (rcv_bar_ne _ _ _), count_one, Nat.mul_one]
  exact if_congr (by rw [Equiv.eq_symm_apply]; exact eq_comm) rfl rfl
theorem O₀_bar (d e : Dev nD) : O₀ d (barC e) () = (if d = lt e then 1 else 0) + (if d = rt e then 1 else 0) := by
  rw [O₀_apply, ow_bar, tallyAt_apply, tallyAt_apply, Nat.zero_add]
  have hb : ∀ a b : Dev nD, barC a = barC b ↔ a = b := fun a b => ⟨fun h => congrArg (fun g : GSem nD τ sig => g.1.1) h, fun h => by rw [h]⟩
  refine congrArg₂ _ (if_congr ?_ rfl rfl) (if_congr ?_ rfl rfl)
  · rw [hb]; exact ⟨fun h => by rw [h.1, lt_rt], fun h => ⟨by rw [h, rt_lt], rfl⟩⟩
  · rw [hb]; exact ⟨fun h => by rw [h.1, rt_lt], fun h => ⟨by rw [h, lt_rt], rfl⟩⟩

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
theorem launch_K (m : Msg) : tallyOn (rcvC c (ixK m.1 m.2)) (launchCredit (Pipeline.owing O₀) 0 (rcvC c (ixK m.1 m.2))) = (tallyAt (rcvC c (ixK m.1 m.2)) () NK : CellTallies nD τ sig Unit) :=
  launch_at _ _ (by rw [Finset.sum_congr rfl fun d _ => O₀_K d c m, Finset.sum_ite_eq', if_pos (Finset.mem_univ _)])
theorem launch_V (m : Msg) : tallyOn (rcvC c (ixV m.1 m.2)) (launchCredit (Pipeline.owing O₀) 0 (rcvC c (ixV m.1 m.2))) = (tallyAt (rcvC c (ixV m.1 m.2)) () NV : CellTallies nD τ sig Unit) :=
  launch_at _ _ (by rw [Finset.sum_congr rfl fun d _ => O₀_V d c m, Finset.sum_ite_eq', if_pos (Finset.mem_univ _)])
theorem launch_bar : tallyOn (barC c) (launchCredit (Pipeline.owing O₀) 0 (barC c)) = (tallyAt (barC c) () 2 : CellTallies nD τ sig Unit) :=
  launch_at _ _ (by
    rw [Finset.sum_congr rfl fun d _ => O₀_bar d c, Finset.sum_add_distrib, Finset.sum_ite_eq', Finset.sum_ite_eq', if_pos (Finset.mem_univ _), if_pos (Finset.mem_univ _)])

/-- The semaphores credited from elsewhere: a message's two receive semaphores. -/
def crEmb : Msg × Fin 2 ↪ SemLoc sig := ⟨fun p => .dma (rS (if p.2 = 0 then ixK p.1.1 p.1.2 else ixV p.1.1 p.1.2)), fun a b h => by
  have h1 : rS (if a.2 = 0 then ixK a.1.1 a.1.2 else ixV a.1.1 a.1.2) = rS (if b.2 = 0 then ixK b.1.1 b.1.2 else ixV b.1.1 b.1.2) := SemLoc.dma.inj h
  revert h1; revert a b; decide +kernel⟩

theorem creds : (Pipeline.launchCred O₀ c : sProp 𝕄) ⊢ credits c := by
  unfold Pipeline.launchCred credits
  rw [bigSep_univ_at _ (SemLoc.reg barS), launch_bar]
  refine sep_mono_right ?_
  refine BI.Entails.trans (bigSep_subset (t := Finset.univ.map crEmb) fun sm h => ?_) ?_
  · obtain ⟨p, -, rfl⟩ := Finset.mem_map.mp h
    exact Finset.mem_erase.mpr ⟨fun h => (by cases h), Finset.mem_univ _⟩
  · rw [bigSep_map, bigSep_univ_prod]
    refine Entails.of_eq (bigSep_congr fun m _ => ?_)
    rw [BI.bigSep_fin_two]
    unfold CR
    rw [← launch_K, ← launch_V]
    rfl

end Cert.Att

end
-- ==== Proof.Data.lean ====
module

public import proofs.«01_k».proof.Proof.Cells
public import proofs.«01_k».proof.Proof.Gen.KernelIdeal.Launch
public import Idealize.ShloMosaic.Lib.Pipeline.Regions
public import Idealize.ShloMosaic.Lib.Pipeline.Kit
public import Idealize.ShloMosaic.Lib.Tactic
public import Idealize.ShloMosaic.Lib.Pipeline.ValueKit

/-! The four calls' bodies and what they leave. -/

@[expose] public section

set_option maxRecDepth 16384

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

variable {F : FTy → Type} [FloatOps F] [Named F]

local notation "𝕄" => MT nD τ sig Unit (Elt F) ℕ UU ℕ

/-- A buffer held whole on a device. -/
abbrev pt (c : Dev nD) (b : Ref sig .tc) (f : Buf (Elt F) ((Memref.whole b).view.loc (c : Thread nD τ))) : sProp 𝕄 := (Memref.whole b).view.loc (c : Thread nD τ) ↦{fullShare} f

/-! ### The quiet bodies -/

theorem all_read (b : Ref sig .tc) (f : b.ty.Contents (Elt F)) {off size : Fin b.ty.shape.rank → ℕ} (h0 : off = fun _ => 0) (hs : size = b.ty.shape.size)
    (inb : ∀ a, off a + size a ≤ b.ty.shape.size a) :
    HEq ((Memref.whole b).view.readAt (Elt F) (Rect.unit off size inb).toLoadRect f) f := by
  subst h0; subst hs
  rw [readAt_whole]
  refine heq_of_eq (funext fun i => congrArg f (funext fun a => Fin.ext ?_))
  exact (ValueKit.rect_emb_unit_val _ _ _ _ _).trans (Nat.zero_add _)

theorem all_write (b : Ref sig .tc) (f : b.ty.Contents (Elt F)) {off size : Fin b.ty.shape.rank → ℕ} (h0 : off = fun _ => 0) (hs : size = b.ty.shape.size)
    (inb : ∀ a, off a + size a ≤ b.ty.shape.size a) (w : (Rect.unit off size inb).shape.Idx → Elt F b.ty.elt) (w' : b.ty.Contents (Elt F)) (hw : HEq w w') :
    ((Memref.whole b).access (Rect.unit off size inb)).write (Elt F) f w Finset.univ = w' := by
  subst h0; subst hs
  rw [write_whole]
  have hw' := eq_of_heq hw
  subst hw'
  funext i
  unfold VecWindow.put
  rw [dif_pos fun a => ⟨Nat.zero_le _, by rw [Nat.zero_add]; exact (i a).isLt⟩]
  exact congrArg w (funext fun a => Fin.ext (Nat.sub_zero _))

theorem o4 : (![0, 0, 0, 0] : Fin 4 → ℕ) = fun _ => 0 := by decide
theorem o3 : (![0, 0, 0] : Fin 3 → ℕ) = fun _ => 0 := by decide
theorem o2 : (![0, 0] : Fin 2 → ℕ) = fun _ => 0 := by decide

theorem permuteRun (c : Dev nD) (𝒱 : Variants) (f0 : Buf (Elt F) ((Memref.whole cc0_stg0_0).view.loc (c : Thread nD τ))) (f1 : Buf (Elt F) ((Memref.whole cc0_stg1_0).view.loc (c : Thread nD τ))) (f2 : Buf (Elt F) ((Memref.whole cc0_stg2_0).view.loc (c : Thread nD τ))) (f3 : Buf (Elt F) ((Memref.whole cc0_stg3_0).view.loc (c : Thread nD τ))) (Q : PUnit.{1} → sProp 𝕄) :
    iprop(pt c cc0_stg0_0 f0 ∗ pt c cc0_stg1_0 f1 ∗ pt c cc0_stg2_0 f2 ∗ pt c cc0_stg3_0 f3
        ∗ (iprop(pt c cc0_stg0_0 f0 ∗ pt c cc0_stg1_0 f1 ∗ pt c cc0_stg2_0 (k0_pay1 f0) ∗ pt c cc0_stg3_0 (k0_pay2 f1)) -∗ Q ⟨⟩))
      ⊢ wp frame (wpE (defs₀ (F := F)) 𝒱 (c : Thread nD τ) none) Set.univ (cc0_permute_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)) Q := by
  iintro ⟨H0, H1, H2, H3, Hk⟩
  simp only [cc0_permute_body_eq_skeleton]; unfold cc0_permute_body_skel
  iapply (wp_load 𝒱 (c : Thread nD τ) none Set.univ (m := Memref.whole cc0_stg0_0) (S := Finset.univ) (Finset.subset_univ _)) $$ H0
  iintro H0
  rw [show (Memref.whole cc0_stg0_0).view.readAt (Elt F) (Rect.unit (s := S1x2048x8x128) ![0, 0, 0, 0] S1x2048x8x128.size inb_S1x2048x8x128_S1x2048x8x128_0_0_0_0).toLoadRect f0 = f0 from eq_of_heq (all_read cc0_stg0_0 f0 o4 rfl _)]
  iapply (wp_load 𝒱 (c : Thread nD τ) none Set.univ (m := Memref.whole cc0_stg2_0) (S := Finset.univ) (Finset.subset_univ _)) $$ H2
  iintro H2
  iapply (wp_store 𝒱 (c : Thread nD τ) none Set.univ (m := Memref.whole cc0_stg2_0) (r := Rect.unit (s := S4x8x512x128) ![0, 0, 0, 0] S4x8x512x128.size inb_S4x8x512x128_S4x8x512x128_0_0_0_0) (S := Finset.univ) (Finset.subset_univ _)) $$ H2
  iintro H2
  rw [show ((Memref.whole cc0_stg2_0).access (Rect.unit (s := S4x8x512x128) ![0, 0, 0, 0] S4x8x512x128.size inb_S4x8x512x128_S4x8x512x128_0_0_0_0)).write (Elt F) f2 (k0_pay1 f0) Finset.univ = (k0_pay1 f0) from all_write cc0_stg2_0 f2 o4 rfl _ _ _ HEq.rfl]
  iapply (wp_load 𝒱 (c : Thread nD τ) none Set.univ (m := Memref.whole cc0_stg1_0) (S := Finset.univ) (Finset.subset_univ _)) $$ H1
  iintro H1
  rw [show (Memref.whole cc0_stg1_0).view.readAt (Elt F) (Rect.unit (s := S1x2048x8x128) ![0, 0, 0, 0] S1x2048x8x128.size inb_S1x2048x8x128_S1x2048x8x128_0_0_0_0).toLoadRect f1 = f1 from eq_of_heq (all_read cc0_stg1_0 f1 o4 rfl _)]
  iapply (wp_load 𝒱 (c : Thread nD τ) none Set.univ (m := Memref.whole cc0_stg3_0) (S := Finset.univ) (Finset.subset_univ _)) $$ H3
  iintro H3
  iapply (wp_store 𝒱 (c : Thread nD τ) none Set.univ (m := Memref.whole cc0_stg3_0) (r := Rect.unit (s := S4x8x512x128) ![0, 0, 0, 0] S4x8x512x128.size inb_S4x8x512x128_S4x8x512x128_0_0_0_0) (S := Finset.univ) (Finset.subset_univ _)) $$ H3
  iintro H3
  rw [show ((Memref.whole cc0_stg3_0).access (Rect.unit (s := S4x8x512x128) ![0, 0, 0, 0] S4x8x512x128.size inb_S4x8x512x128_S4x8x512x128_0_0_0_0)).write (Elt F) f3 (k0_pay2 f1) Finset.univ = (k0_pay2 f1) from all_write cc0_stg3_0 f3 o4 rfl _ _ _ HEq.rfl]
  rw [Prog.pure_eq_ret]
  iapply (Entails.of_eq (wp_ret _ _ _ _ _).symm)
  imodintro
  iapply Hk
  isplitl [H0]; · iexact H0
  isplitl [H1]; · iexact H1
  isplitl [H2]; · iexact H2
  iexact H3

theorem qprojRun (c : Dev nD) (𝒱 : Variants) (f0 : Buf (Elt F) ((Memref.whole cc1_stg0_0).view.loc (c : Thread nD τ))) (f1 : Buf (Elt F) ((Memref.whole cc1_stg1_0).view.loc (c : Thread nD τ))) (f2 : Buf (Elt F) ((Memref.whole cc1_stg2_0).view.loc (c : Thread nD τ))) (Q : PUnit.{1} → sProp 𝕄) :
    iprop(pt c cc1_stg0_0 f0 ∗ pt c cc1_stg1_0 f1 ∗ pt c cc1_stg2_0 f2
        ∗ (iprop(pt c cc1_stg0_0 f0 ∗ pt c cc1_stg1_0 f1 ∗ pt c cc1_stg2_0 (k1_pay1 f0 f1)) -∗ Q ⟨⟩))
      ⊢ wp frame (wpE (defs₀ (F := F)) 𝒱 (c : Thread nD τ) none) Set.univ (cc1_qproj_body (F := F) (Memref.whole cc1_stg0_0) (Memref.isWhole_whole _) (Memref.whole cc1_stg1_0) (Memref.isWhole_whole _) (Memref.whole cc1_stg2_0) (Memref.isWhole_whole _)) Q := by
  iintro ⟨H0, H1, H2, Hk⟩
  simp only [cc1_qproj_body_eq_skeleton]; unfold cc1_qproj_body_skel
  iapply (wp_load 𝒱 (c : Thread nD τ) none Set.univ (m := Memref.whole cc1_stg0_0) (S := Finset.univ) (Finset.subset_univ _)) $$ H0
  iintro H0
  rw [show (Memref.whole cc1_stg0_0).view.readAt (Elt F) (Rect.unit (s := S1x2048x1024) ![0, 0, 0] S1x2048x1024.size inb_S1x2048x1024_S1x2048x1024_0_0_0).toLoadRect f0 = f0 from eq_of_heq (all_read cc1_stg0_0 f0 o3 rfl _)]
  iapply (wp_load 𝒱 (c : Thread nD τ) none Set.univ (m := Memref.whole cc1_stg1_0) (S := Finset.univ) (Finset.subset_univ _)) $$ H1
  iintro H1
  rw [show (Memref.whole cc1_stg1_0).view.readAt (Elt F) (Rect.unit (s := S1024x1024) ![0, 0] S1024x1024.size inb_S1024x1024_S1024x1024_0_0).toLoadRect f1 = f1 from eq_of_heq (all_read cc1_stg1_0 f1 o2 rfl _)]
  iapply (wp_load 𝒱 (c : Thread nD τ) none Set.univ (m := Memref.whole cc1_stg2_0) (S := Finset.univ) (Finset.subset_univ _)) $$ H2
  iintro H2
  iapply (wp_store 𝒱 (c : Thread nD τ) none Set.univ (m := Memref.whole cc1_stg2_0) (r := Rect.unit (s := S4x8x512x128) ![0, 0, 0, 0] S4x8x512x128.size inb_S4x8x512x128_S4x8x512x128_0_0_0_0) (S := Finset.univ) (Finset.subset_univ _)) $$ H2
  iintro H2
  rw [show ((Memref.whole cc1_stg2_0).access (Rect.unit (s := S4x8x512x128) ![0, 0, 0, 0] S4x8x512x128.size inb_S4x8x512x128_S4x8x512x128_0_0_0_0)).write (Elt F) f2 (k1_pay1 f0 f1) Finset.univ = (k1_pay1 f0 f1) from all_write cc1_stg2_0 f2 o4 rfl _ _ _ HEq.rfl]
  rw [Prog.pure_eq_ret]
  iapply (Entails.of_eq (wp_ret _ _ _ _ _).symm)
  imodintro
  iapply Hk
  isplitl [H0]; · iexact H0
  isplitl [H1]; · iexact H1
  iexact H2

theorem outprojRun (c : Dev nD) (𝒱 : Variants) (f0 : Buf (Elt F) ((Memref.whole cc3_stg0_0).view.loc (c : Thread nD τ))) (f1 : Buf (Elt F) ((Memref.whole cc3_stg1_0).view.loc (c : Thread nD τ))) (f2 : Buf (Elt F) ((Memref.whole cc3_stg2_0).view.loc (c : Thread nD τ))) (Q : PUnit.{1} → sProp 𝕄) :
    iprop(pt c cc3_stg0_0 f0 ∗ pt c cc3_stg1_0 f1 ∗ pt c cc3_stg2_0 f2
        ∗ (iprop(pt c cc3_stg0_0 f0 ∗ pt c cc3_stg1_0 f1 ∗ pt c cc3_stg2_0 (k3_pay1 f0 f1)) -∗ Q ⟨⟩))
      ⊢ wp frame (wpE (defs₀ (F := F)) 𝒱 (c : Thread nD τ) none) Set.univ (cc3_outproj_body (F := F) (Memref.whole cc3_stg0_0) (Memref.isWhole_whole _) (Memref.whole cc3_stg1_0) (Memref.isWhole_whole _) (Memref.whole cc3_stg2_0) (Memref.isWhole_whole _)) Q := by
  iintro ⟨H0, H1, H2, Hk⟩
  simp only [cc3_outproj_body_eq_skeleton]; unfold cc3_outproj_body_skel
  iapply (wp_load 𝒱 (c : Thread nD τ) none Set.univ (m := Memref.whole cc3_stg0_0) (S := Finset.univ) (Finset.subset_univ _)) $$ H0
  iintro H0
  rw [show (Memref.whole cc3_stg0_0).view.readAt (Elt F) (Rect.unit (s := S4x8x512x128) ![0, 0, 0, 0] S4x8x512x128.size inb_S4x8x512x128_S4x8x512x128_0_0_0_0).toLoadRect f0 = f0 from eq_of_heq (all_read cc3_stg0_0 f0 o4 rfl _)]
  iapply (wp_load 𝒱 (c : Thread nD τ) none Set.univ (m := Memref.whole cc3_stg1_0) (S := Finset.univ) (Finset.subset_univ _)) $$ H1
  iintro H1
  rw [show (Memref.whole cc3_stg1_0).view.readAt (Elt F) (Rect.unit (s := S1024x1024) ![0, 0] S1024x1024.size inb_S1024x1024_S1024x1024_0_0).toLoadRect f1 = f1 from eq_of_heq (all_read cc3_stg1_0 f1 o2 rfl _)]
  iapply (wp_load 𝒱 (c : Thread nD τ) none Set.univ (m := Memref.whole cc3_stg2_0) (S := Finset.univ) (Finset.subset_univ _)) $$ H2
  iintro H2
  iapply (wp_store 𝒱 (c : Thread nD τ) none Set.univ (m := Memref.whole cc3_stg2_0) (r := Rect.unit (s := S1x2048x1024) ![0, 0, 0] S1x2048x1024.size inb_S1x2048x1024_S1x2048x1024_0_0_0) (S := Finset.univ) (Finset.subset_univ _)) $$ H2
  iintro H2
  rw [show ((Memref.whole cc3_stg2_0).access (Rect.unit (s := S1x2048x1024) ![0, 0, 0] S1x2048x1024.size inb_S1x2048x1024_S1x2048x1024_0_0_0)).write (Elt F) f2 (k3_pay1 f0 f1) Finset.univ = (k3_pay1 f0 f1) from all_write cc3_stg2_0 f2 o3 rfl _ _ _ HEq.rfl]
  rw [Prog.pure_eq_ret]
  iapply (Entails.of_eq (wp_ret _ _ _ _ _).symm)
  imodintro
  iapply Hk
  isplitl [H0]; · iexact H0
  isplitl [H1]; · iexact H1
  iexact H2

/-! ### What the buffers hold between the calls -/

section Contents

variable (m : (ℓ : Loc nD τ sig) → Buf (Elt F) ℓ) (c : Dev nD)

def kpOf : S4x8x512x128.Idx → Elt F .bf16 := k0_pay1 (m ((c : Thread nD τ).loc main_arg2))
def vpOf : S4x8x512x128.Idx → Elt F .fp8e4m3 := k0_pay2 (m ((c : Thread nD τ).loc main_arg3))
def fqOf : S4x8x512x128.Idx → Elt F .bf16 := k1_pay1 (m ((c : Thread nD τ).loc main_arg0)) (m ((c : Thread nD τ).loc main_arg1))
def avOf : S4x8x512x128.Idx → Elt F .f32 := outAll (kpOf m) (vpOf m) c (fqOf m c)
def ovOf : S1x2048x1024.Idx → Elt F .f32 := k3_pay1 (avOf m c) (m ((c : Thread nD τ).loc main_arg4))

def W0 : Valuation τ sig (Elt F) := fun b => m (c, b)
def W1 : Valuation τ sig (Elt F) := Function.update (Function.update (W0 m c) (Proc.devRef .tc main_v1_0) (kpOf m c)) (Proc.devRef .tc main_v1_1) (vpOf m c)
def W2 : Valuation τ sig (Elt F) := Function.update (W1 m c) (Proc.devRef .tc main_v2) (fqOf m c)
def W3 : Valuation τ sig (Elt F) := Function.update (W2 m c) (Proc.devRef .tc main_v3) (avOf m c)
def W4 : Valuation τ sig (Elt F) := Function.update (W3 m c) (Proc.devRef .tc main_v4) (ovOf m c)

/-! ### The calls' proof data -/

def dat0 : Pipeline.Dat τ (Elt F) Unit ℕ UU ℕ cfg0 c where
  A w := W0 m c ((cfg0.win w).arr.view.loc (c : Thread nD τ)).2
  after w _ := match w with
    | ⟨0, _⟩ => m ((c : Thread nD τ).loc main_arg2)
    | ⟨1, _⟩ => m ((c : Thread nD τ).loc main_arg3)
    | ⟨2, _⟩ => kpOf m c
    | ⟨3, _⟩ => vpOf m c
  Φ _ := Pipeline.scopedRest spec0 c
  q _ := fullShare
  owed _ := O₀ c

def dat1 : Pipeline.Dat τ (Elt F) Unit ℕ UU ℕ cfg1 c where
  A w := W1 m c ((cfg1.win w).arr.view.loc (c : Thread nD τ)).2
  after w _ := match w with
    | ⟨0, _⟩ => m ((c : Thread nD τ).loc main_arg0)
    | ⟨1, _⟩ => m ((c : Thread nD τ).loc main_arg1)
    | ⟨2, _⟩ => fqOf m c
  Φ _ := Pipeline.scopedRest spec1 c
  q _ := fullShare
  owed _ := O₀ c

def dat2 : Pipeline.Dat τ (Elt F) Unit ℕ UU ℕ cfg2 c where
  A w := W2 m c ((cfg2.win w).arr.view.loc (c : Thread nD τ)).2
  after w _ := match w with
    | ⟨0, _⟩ => fqOf m c
    | ⟨1, _⟩ => kpOf m c
    | ⟨2, _⟩ => vpOf m c
    | ⟨3, _⟩ => avOf m c
  Φ t := if t.val = 0 then iprop(Xk (kpOf m) (vpOf m) c ∗ Pipeline.scopedRest spec2 c ∗ ∃ r, prngReg c r)
    else iprop(semVal (barC c) 0 ∗ Pipeline.ownSems0 cpSem c ∗ Pipeline.scopedRest spec2 c ∗ ∃ r, prngReg c r)
  q _ := fullShare
  owed t := if t.val = 0 then O₀ c else 0

def dat3 : Pipeline.Dat τ (Elt F) Unit ℕ UU ℕ cfg3 c where
  A w := W3 m c ((cfg3.win w).arr.view.loc (c : Thread nD τ)).2
  after w _ := match w with
    | ⟨0, _⟩ => avOf m c
    | ⟨1, _⟩ => m ((c : Thread nD τ).loc main_arg4)
    | ⟨2, _⟩ => ovOf m c
  Φ _ := Pipeline.scopedRest spec3 c
  q _ := fullShare
  owed _ := 0

theorem ix0_0 : win0_0.index t0_0 = ![0, 0, 0, 0] := by decide +kernel
theorem ix0_1 : win0_1.index t0_0 = ![0, 0, 0, 0] := by decide +kernel
theorem ix1_0 : win1_0.index t1_0 = ![0, 0, 0] := by decide +kernel
theorem ix1_1 : win1_1.index t1_0 = ![0, 0] := by decide +kernel
theorem ix2_0 : win2_0.index t2_0 = ![0, 0, 0, 0] := by decide +kernel
theorem ix2_1 : win2_1.index t2_0 = ![0, 0, 0, 0] := by decide +kernel
theorem ix2_2 : win2_2.index t2_0 = ![0, 0, 0, 0] := by decide +kernel
theorem ix3_0 : win3_0.index t3_0 = ![0, 0, 0, 0] := by decide +kernel
theorem ix3_1 : win3_1.index t3_0 = ![0, 0] := by decide +kernel
theorem ix0_2 : win0_2.index t0_0 = ![0, 0, 0, 0] := by decide +kernel
theorem ix0_3 : win0_3.index t0_0 = ![0, 0, 0, 0] := by decide +kernel
theorem ix1_2 : win1_2.index t1_0 = ![0, 0, 0, 0] := by decide +kernel
theorem ix2_3 : win2_3.index t2_0 = ![0, 0, 0, 0] := by decide +kernel
theorem ix3_2 : win3_2.index t3_0 = ![0, 0, 0] := by decide +kernel
theorem rd0_0 (A : Buf (Elt F) ((cfg0.win 0).arr.view.loc (c : Thread nD τ))) : ((cfg0.win 0).blk t0_0).view.read (Elt F) A = A := by
  funext j
  blk_simp
  blk_ext! [ix0_0]
theorem A0_0 : (dat0 m c).A 0 = m ((c : Thread nD τ).loc main_arg2) := by
  unfold dat0
  rfl
theorem in0_0 (d) : (dat0 m c).before 0 t0_0 d = m ((c : Thread nD τ).loc main_arg2) := by
  unfold Pipeline.Dat.before; rw [if_pos (by decide)]
  unfold Pipeline.Dat.fetched
  exact (rd0_0 c _).trans (A0_0 m c)
theorem end0_0 : (dat0 m c).arrAt 0 cfg0.N = m ((c : Thread nD τ).loc main_arg2) := ((dat0 m c).arrAt_in 0 rfl _).trans (A0_0 m c)
theorem rd0_1 (A : Buf (Elt F) ((cfg0.win 1).arr.view.loc (c : Thread nD τ))) : ((cfg0.win 1).blk t0_0).view.read (Elt F) A = A := by
  funext j
  blk_simp
  blk_ext! [ix0_1]
theorem A0_1 : (dat0 m c).A 1 = m ((c : Thread nD τ).loc main_arg3) := by
  unfold dat0
  rfl
theorem in0_1 (d) : (dat0 m c).before 1 t0_0 d = m ((c : Thread nD τ).loc main_arg3) := by
  unfold Pipeline.Dat.before; rw [if_pos (by decide)]
  unfold Pipeline.Dat.fetched
  exact (rd0_1 c _).trans (A0_1 m c)
theorem end0_1 : (dat0 m c).arrAt 1 cfg0.N = m ((c : Thread nD τ).loc main_arg3) := ((dat0 m c).arrAt_in 1 rfl _).trans (A0_1 m c)
theorem rd1_0 (A : Buf (Elt F) ((cfg1.win 0).arr.view.loc (c : Thread nD τ))) : ((cfg1.win 0).blk t1_0).view.read (Elt F) A = A := by
  funext j
  blk_simp
  blk_ext! [ix1_0]
theorem A1_0 : (dat1 m c).A 0 = m ((c : Thread nD τ).loc main_arg0) := by
  unfold dat1
  simp only []
  first | rfl | (show W1 m c (Proc.devRef .tc _) = _; simp [W0, W1, W2, W3, Function.update]; done)
theorem in1_0 (d) : (dat1 m c).before 0 t1_0 d = m ((c : Thread nD τ).loc main_arg0) := by
  unfold Pipeline.Dat.before; rw [if_pos (by decide)]
  unfold Pipeline.Dat.fetched
  exact (rd1_0 c _).trans (A1_0 m c)
theorem end1_0 : (dat1 m c).arrAt 0 cfg1.N = m ((c : Thread nD τ).loc main_arg0) := ((dat1 m c).arrAt_in 0 rfl _).trans (A1_0 m c)
theorem rd1_1 (A : Buf (Elt F) ((cfg1.win 1).arr.view.loc (c : Thread nD τ))) : ((cfg1.win 1).blk t1_0).view.read (Elt F) A = A := by
  funext j
  blk_simp
  blk_ext! [ix1_1]
theorem A1_1 : (dat1 m c).A 1 = m ((c : Thread nD τ).loc main_arg1) := by
  unfold dat1
  simp only []
  first | rfl | (show W1 m c (Proc.devRef .tc _) = _; simp [W0, W1, W2, W3, Function.update]; done)
theorem in1_1 (d) : (dat1 m c).before 1 t1_0 d = m ((c : Thread nD τ).loc main_arg1) := by
  unfold Pipeline.Dat.before; rw [if_pos (by decide)]
  unfold Pipeline.Dat.fetched
  exact (rd1_1 c _).trans (A1_1 m c)
theorem end1_1 : (dat1 m c).arrAt 1 cfg1.N = m ((c : Thread nD τ).loc main_arg1) := ((dat1 m c).arrAt_in 1 rfl _).trans (A1_1 m c)
theorem rd2_0 (A : Buf (Elt F) ((cfg2.win 0).arr.view.loc (c : Thread nD τ))) : ((cfg2.win 0).blk t2_0).view.read (Elt F) A = A := by
  funext j
  blk_simp
  blk_ext! [ix2_0]
theorem A2_0 : (dat2 m c).A 0 = fqOf m c := by
  unfold dat2
  simp only []
  first | rfl | (show W2 m c (Proc.devRef .tc _) = _; simp [W0, W1, W2, W3, Function.update]; done)
theorem in2_0 (d) : (dat2 m c).before 0 t2_0 d = fqOf m c := by
  unfold Pipeline.Dat.before; rw [if_pos (by decide)]
  unfold Pipeline.Dat.fetched
  exact (rd2_0 c _).trans (A2_0 m c)
theorem end2_0 : (dat2 m c).arrAt 0 cfg2.N = fqOf m c := ((dat2 m c).arrAt_in 0 rfl _).trans (A2_0 m c)
theorem rd2_1 (A : Buf (Elt F) ((cfg2.win 1).arr.view.loc (c : Thread nD τ))) : ((cfg2.win 1).blk t2_0).view.read (Elt F) A = A := by
  funext j
  blk_simp
  blk_ext! [ix2_1]
theorem A2_1 : (dat2 m c).A 1 = kpOf m c := by
  unfold dat2
  simp only []
  first | rfl | (show W2 m c (Proc.devRef .tc _) = _; simp [W0, W1, W2, W3, Function.update]; done)
theorem in2_1 (d) : (dat2 m c).before 1 t2_0 d = kpOf m c := by
  unfold Pipeline.Dat.before; rw [if_pos (by decide)]
  unfold Pipeline.Dat.fetched
  exact (rd2_1 c _).trans (A2_1 m c)
theorem end2_1 : (dat2 m c).arrAt 1 cfg2.N = kpOf m c := ((dat2 m c).arrAt_in 1 rfl _).trans (A2_1 m c)
theorem rd2_2 (A : Buf (Elt F) ((cfg2.win 2).arr.view.loc (c : Thread nD τ))) : ((cfg2.win 2).blk t2_0).view.read (Elt F) A = A := by
  funext j
  blk_simp
  blk_ext! [ix2_2]
theorem A2_2 : (dat2 m c).A 2 = vpOf m c := by
  unfold dat2
  simp only []
  first | rfl | (show W2 m c (Proc.devRef .tc _) = _; simp [W0, W1, W2, W3, Function.update]; done)
theorem in2_2 (d) : (dat2 m c).before 2 t2_0 d = vpOf m c := by
  unfold Pipeline.Dat.before; rw [if_pos (by decide)]
  unfold Pipeline.Dat.fetched
  exact (rd2_2 c _).trans (A2_2 m c)
theorem end2_2 : (dat2 m c).arrAt 2 cfg2.N = vpOf m c := ((dat2 m c).arrAt_in 2 rfl _).trans (A2_2 m c)
theorem rd3_0 (A : Buf (Elt F) ((cfg3.win 0).arr.view.loc (c : Thread nD τ))) : ((cfg3.win 0).blk t3_0).view.read (Elt F) A = A := by
  funext j
  blk_simp
  blk_ext! [ix3_0]
theorem A3_0 : (dat3 m c).A 0 = avOf m c := by
  unfold dat3
  simp only []
  first | rfl | (show W3 m c (Proc.devRef .tc _) = _; simp [W0, W1, W2, W3, Function.update]; done)
theorem in3_0 (d) : (dat3 m c).before 0 t3_0 d = avOf m c := by
  unfold Pipeline.Dat.before; rw [if_pos (by decide)]
  unfold Pipeline.Dat.fetched
  exact (rd3_0 c _).trans (A3_0 m c)
theorem end3_0 : (dat3 m c).arrAt 0 cfg3.N = avOf m c := ((dat3 m c).arrAt_in 0 rfl _).trans (A3_0 m c)
theorem rd3_1 (A : Buf (Elt F) ((cfg3.win 1).arr.view.loc (c : Thread nD τ))) : ((cfg3.win 1).blk t3_0).view.read (Elt F) A = A := by
  funext j
  blk_simp
  blk_ext! [ix3_1]
theorem A3_1 : (dat3 m c).A 1 = m ((c : Thread nD τ).loc main_arg4) := by
  unfold dat3
  simp only []
  first | rfl | (show W3 m c (Proc.devRef .tc _) = _; simp [W0, W1, W2, W3, Function.update]; done)
theorem in3_1 (d) : (dat3 m c).before 1 t3_0 d = m ((c : Thread nD τ).loc main_arg4) := by
  unfold Pipeline.Dat.before; rw [if_pos (by decide)]
  unfold Pipeline.Dat.fetched
  exact (rd3_1 c _).trans (A3_1 m c)
theorem end3_1 : (dat3 m c).arrAt 1 cfg3.N = m ((c : Thread nD τ).loc main_arg4) := ((dat3 m c).arrAt_in 1 rfl _).trans (A3_1 m c)
theorem end0_2 : (dat0 m c).arrAt 2 cfg0.N = kpOf m c := by
  refine (dat0 m c).arrAt_eq_of_after_last 2 t0_0 (by decide +kernel) _ fun j => ?_
  blk_simp
  show kpOf m c j = kpOf m c _
  blk_ext! [ix0_2]
theorem end0_3 : (dat0 m c).arrAt 3 cfg0.N = vpOf m c := by
  refine (dat0 m c).arrAt_eq_of_after_last 3 t0_0 (by decide +kernel) _ fun j => ?_
  blk_simp
  show vpOf m c j = vpOf m c _
  blk_ext! [ix0_3]
theorem end1_2 : (dat1 m c).arrAt 2 cfg1.N = fqOf m c := by
  refine (dat1 m c).arrAt_eq_of_after_last 2 t1_0 (by decide +kernel) _ fun j => ?_
  blk_simp
  show fqOf m c j = fqOf m c _
  blk_ext! [ix1_2]
theorem end2_3 : (dat2 m c).arrAt 3 cfg2.N = avOf m c := by
  refine (dat2 m c).arrAt_eq_of_after_last 3 t2_0 (by decide +kernel) _ fun j => ?_
  blk_simp
  show avOf m c j = avOf m c _
  blk_ext! [ix2_3]
theorem end3_2 : (dat3 m c).arrAt 2 cfg3.N = ovOf m c := by
  refine (dat3 m c).arrAt_eq_of_after_last 2 t3_0 (by decide +kernel) _ fun j => ?_
  blk_simp
  show ovOf m c j = ovOf m c _
  blk_ext! [ix3_2]

end Contents

end Cert.Att
-- ==== Proof.Bodies.lean ====
module

public import proofs.«01_k».proof.Proof.Data

/-! The four calls' body obligations. -/

@[expose] public section

set_option maxRecDepth 16384

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf Dat)

variable {F : FTy → Type} [FloatOps F] [Named F]

local notation "𝕄" => MT nD τ sig Unit (Elt F) ℕ UU ℕ

abbrev 𝒱₀ : Variants := Variants.none

omit [Named F] [FloatOps F] in
theorem owns_buf (c : Dev nD) (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ pt c b f) := by
  unfold owns; simp only [Memref.view_whole, View.read_whole, View.set_whole]

omit [Named F] [FloatOps F] in
theorem owns_intro (c : Dev nD) (b : Ref sig .tc) (X : b.ty.Contents (Elt F)) :
    pt c b X ⊢ (owns (Ix := Unit) (Name := ℕ) (U := UU) (Lvl := ℕ) (c : Thread nD τ) (Memref.whole b) fullShare X : sProp 𝕄) := by
  rw [owns_buf]
  iintro H; iexists X; isplitr; · ipureintro; rfl
  iexact H

variable (m : (ℓ : Loc nD τ sig) → Buf (Elt F) ℓ)

theorem body0 (c : Dev nD) : BodyObligation (dat0 m c) (defs₀ (F := F)) 𝒱₀ () Set.univ := fun t => by
  obtain rfl := fin_N0 t
  rw [bigSep_W0, bigSep_W0]
  simp only [owns_buf]
  rw [show (dat0 m c).Φ t0_0.succ = (dat0 m c).Φ t0_0.castSucc from rfl, show (dat0 m c).owesAt () t0_0.succ = (dat0 m c).owesAt () t0_0.castSucc from rfl]
  iintro ⟨HΦ, HO, ⟨%d0, %f0, %h0, H0⟩, ⟨%d1, %f1, %h1, H1⟩, ⟨%d2, %f2, -, H2⟩, ⟨%d3, %f3, -, H3⟩⟩
  rw [in0_0] at h0
  rw [in0_1] at h1
  subst h0; subst h1
  iapply (permuteRun c 𝒱₀ (m ((c : Thread nD τ).loc main_arg2)) (m ((c : Thread nD τ).loc main_arg3)) f2 f3 _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

theorem body1 (c : Dev nD) : BodyObligation (dat1 m c) (defs₀ (F := F)) 𝒱₀ () Set.univ := fun t => by
  obtain rfl := fin_N1 t
  rw [bigSep_W1, bigSep_W1]
  simp only [owns_buf]
  rw [show (dat1 m c).Φ t1_0.succ = (dat1 m c).Φ t1_0.castSucc from rfl, show (dat1 m c).owesAt () t1_0.succ = (dat1 m c).owesAt () t1_0.castSucc from rfl]
  iintro ⟨HΦ, HO, ⟨%d0, %f0, %h0, H0⟩, ⟨%d1, %f1, %h1, H1⟩, ⟨%d2, %f2, -, H2⟩⟩
  rw [in1_0] at h0
  rw [in1_1] at h1
  subst h0; subst h1
  iapply (qprojRun c 𝒱₀ (m ((c : Thread nD τ).loc main_arg0)) (m ((c : Thread nD τ).loc main_arg1)) f2 _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexists _; isplitr; swap; (· iexact H0); ipureintro; rfl
  isplitl [H1]; · iexists _; isplitr; swap; (· iexact H1); ipureintro; rfl
  iexists _; isplitr; swap; (· iexact H2); ipureintro; rfl

theorem body3 (c : Dev nD) : BodyObligation (dat3 m c) (defs₀ (F := F)) 𝒱₀ () Set.univ := fun t => by
  obtain rfl := fin_N3 t
  rw [bigSep_W3, bigSep_W3]
  simp only [owns_buf]
  rw [show (dat3 m c).Φ t3_0.succ = (dat3 m c).Φ t3_0.castSucc from rfl, show (dat3 m c).owesAt () t3_0.succ = (dat3 m c).owesAt () t3_0.castSucc from rfl]
  iintro ⟨HΦ, HO, ⟨%d0, %f0, %h0, H0⟩, ⟨%d1, %f1, %h1, H1⟩, ⟨%d2, %f2, -, H2⟩⟩
  rw [in3_0] at h0
  rw [in3_1] at h1
  subst h0; subst h1
  iapply (outprojRun c 𝒱₀ (avOf m c) (m ((c : Thread nD τ).loc main_arg4)) f2 _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexists _; isplitr; swap; (· iexact H0); ipureintro; rfl
  isplitl [H1]; · iexists _; isplitr; swap; (· iexact H1); ipureintro; rfl
  iexists _; isplitr; swap; (· iexact H2); ipureintro; rfl

theorem owed2_first (c : Dev nD) : (dat2 m c).owed t2_0.castSucc = O₀ c := by
  show (if (t2_0.castSucc : Fin (cfg2.N + 1)).val = 0 then O₀ c else 0) = O₀ c; exact if_pos rfl
theorem owed2_last (c : Dev nD) : (dat2 m c).owed (Fin.last _) = 0 := by
  show (if (Fin.last cfg2.N).val = 0 then O₀ c else 0) = 0
  rw [Fin.val_last, if_neg (by rw [show cfg2.N = 1 from N_2]; decide)]

theorem owesAt_in {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    OW c O ⊢ (dat.owesAt () t : sProp 𝕄) := by
  unfold OW Dat.owesAt Pipeline.owesWithin Dat.bound; rw [h0, hr]
  iintro ⟨%W, HO⟩; iexists W; isplitr; · ipureintro; exact fun _ _ => Or.inl trivial
  iexact HO
theorem owesAt_out {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ OW c O := by
  unfold OW Dat.owesAt Pipeline.owesWithin; rw [h0]
  iintro ⟨%W, -, HO⟩; iexists W; iexact HO

theorem body2 (c : Dev nD) : BodyObligation (dat2 m c) (defs₀ (F := F)) 𝒱₀ () Set.univ := fun t => by
  obtain rfl := fin_N2 t
  rw [bigSep_W2, bigSep_W2]
  simp only [owns_buf]
  rw [show (dat2 m c).Φ t2_0.castSucc = iprop(Xk (kpOf m) (vpOf m) c ∗ Pipeline.scopedRest spec2 c ∗ ∃ r, prngReg c r) from rfl,
    show (dat2 m c).Φ t2_0.succ = iprop(semVal (barC c) 0 ∗ Pipeline.ownSems0 cpSem c ∗ Pipeline.scopedRest spec2 c ∗ ∃ r, prngReg c r) from rfl,
    scopedRest2_eq, show defs₀ (F := F) Proc.tc 2 (t2_0, cfg2.slots t2_0) = script from script_eq]
  unfold Xk
  iintro ⟨⟨⟨%κ, #HI, #Hlev, HaB, #Hr1, #Hr2, Ht1, Ht2, HcB, HSB, HRB, Hrr⟩, ⟨S1, S2, S3, S4, S5, S6, S7, Hdn, Hkb, Hvb, S8, S9, S10⟩, Hp⟩, HO, ⟨%d0, %f0, %h0, H0⟩, ⟨%d1, %f1, %h1, H1⟩, ⟨%d2, %f2, %h2, H2⟩, ⟨%d3, %f3, -, H3⟩⟩
  rw [in2_0] at h0
  rw [in2_1] at h1
  rw [in2_2] at h2
  subst h0; subst h1; subst h2
  ihave HO := (owesAt_out (dat2 m c) _ (O₀ c) (owed2_first m c)) $$ HO
  iapply (talkRun (kpOf m) (vpOf m) (fqOf m c) 𝒱₀ κ c _) $$ [HaB Ht1 Ht2 HcB HSB HRB Hrr H0 H1 H2 H3 Hkb Hvb Hdn HO]
  · unfold talkPre
    isplitr; · iexact HI
    isplitr; · iexact Hlev
    isplitl [HaB]; · iexact HaB
    isplitr; · iexact Hr1
    isplitr; · iexact Hr2
    isplitl [Ht1]; · iexact Ht1
    isplitl [Ht2]; · iexact Ht2
    isplitl [HcB]; · iexact HcB
    isplitl [HSB]; · iexact HSB
    isplitl [HRB]; · iexact HRB
    isplitl [Hrr]; · iexact Hrr
    isplitl [Hkb]; · iexact Hkb
    isplitl [Hvb]; · iexact Hvb
    isplitl [H0]; · iexact H0
    isplitl [H1]; · iexact H1
    isplitl [H2]; · iexact H2
    isplitl [H3]; · iexists f3; iexact H3
    isplitl [Hdn]; · iexact Hdn
    iexact HO
  unfold talkMid
  iintro ⟨HaB, HDN, Hkb, Hvb, H0, H1, H2, H3, Hdn, HO⟩
  iapply (Entails.of_eq (wp_ret _ _ _ _ _).symm)
  imod (close_one (kpOf m) (vpOf m) κ (barC c) (mem_bar c)) $$ [HaB] with Hb
  · isplitr; · iexact HI
    iexact HaB
  imod (close_all (kpOf m) (vpOf m) κ c) $$ [HDN] with Hs
  · isplitr; · iexact HI
    iexact HDN
  imodintro
  isplitr [HO H0 H1 H2 H3]
  · isplitl [Hb]; · iexact Hb
    isplitl [Hs]; · iexact Hs
    isplitr [Hp]
    · isplitl [S1]; · iexact S1
      isplitl [S2]; · iexact S2
      isplitl [S3]; · iexact S3
      isplitl [S4]; · iexact S4
      isplitl [S5]; · iexact S5
      isplitl [S6]; · iexact S6
      isplitl [S7]; · iexact S7
      isplitl [Hdn]; · iexact Hdn
      isplitl [Hkb]; · iexact Hkb
      isplitl [Hvb]; · iexact Hvb
      isplitl [S8]; · iexact S8
      isplitl [S9]; · iexact S9
      iexact S10
    iexact Hp
  isplitl [HO]; · iapply (owesAt_in (dat2 m c) t2_0.succ 0 (owed2_last m c) rfl); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

end Cert.Att
-- ==== Proof.Segs.lean ====
module

public import proofs.«01_k».proof.Proof.Bodies
public import proofs.«01_k».proof.Proof.Gen.KernelIdeal.Regions
public import Idealize.ShloMosaic.Lib.Pipeline.RegionArrays
public import Idealize.ShloMosaic.Lib.Pipeline.RegionTalk

/-! The four calls as segments of the program. -/

@[expose] public section

set_option maxRecDepth 16384

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf Dat)

variable {F : FTy → Type} [FloatOps F] [Named F]

local notation "𝕄" => MT nD τ sig Unit (Elt F) ℕ UU ℕ

variable (m : (ℓ : Loc nD τ sig) → Buf (Elt F) ℓ)

def pdats : (p : Fin 4) → (c : Dev nD) → Dat τ (Elt F) Unit ℕ UU ℕ (cfgs p) c
  | 0 => dat0 m
  | 1 => dat1 m
  | 2 => dat2 m
  | 3 => dat3 m
  | ⟨_ + 4, h⟩ => absurd h (Nat.not_lt.2 (Nat.le_add_left _ _))

local notation "ℝ𝕊" => Pipeline.RegionSeg (pcfgs (F := F)) adm (pdats m) () defs₀ 𝒱₀ L lv

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1
theorem kit2 : Pipeline.PLaunchFacts (nD := nD) (τ := τ) (pcfgs (F := F)) 2 where
  cellOf_inj a := by rw [Subsingleton.elim a adm]; exact cellOf_inj
  win := winFacts2
  pre := Pipeline.PreFacts.none _
  block_pos := block_pos2
  arr_whole := arr_whole2
  stage_whole := stage_whole2
theorem kit3 : Pipeline.PLaunchFacts (nD := nD) (τ := τ) (pcfgs (F := F)) 3 where
  cellOf_inj a := by rw [Subsingleton.elim a adm]; exact cellOf_inj
  win := winFacts3
  pre := Pipeline.PreFacts.none _
  block_pos := block_pos3
  arr_whole := arr_whole3
  stage_whole := stage_whole3

/-- A staging cell of the first three calls lies below everything a device owes. -/
theorem owe_above (c : Dev nD) (g : GSem nD τ sig) (i : Unit) (h : 0 < O₀ c g i) : i ∈ L g ∧ (0 : ℕ) < lv g i := by
  have h' : 0 < ow c msgs g i + tallyAt (barC (rt c)) () 1 g i + tallyAt (barC (lt c)) () 1 g i := h
  have hb : ∀ d : Dev nD, 0 < tallyAt (barC d) () 1 g i → i ∈ L g ∧ (0 : ℕ) < lv g i := fun d hd => by
    rw [tallyAt_apply] at hd
    split at hd
    · next hg => obtain ⟨rfl, -⟩ := hg; exact ⟨by rw [L_tc]; exact Finset.mem_singleton_self _, Nat.one_pos⟩
    · exact absurd hd (Nat.lt_irrefl 0)
  rcases Nat.add_pos_iff_pos_or_pos.mp h' with h1 | h1
  · rcases Nat.add_pos_iff_pos_or_pos.mp h1 with h2 | h2
    · obtain ⟨x, hx, j, hj, rfl⟩ := ow_support c msgs g i h2
      refine ⟨by rw [L_tc]; exact Finset.mem_singleton_self _, ?_⟩
      have := lv_msgs x hx (dv x.1 x.2 c)
      rcases hj with rfl | rfl
      · exact Nat.lt_trans Nat.one_pos this.1
      · exact Nat.lt_trans Nat.one_pos this.2
    · exact hb _ h2
  · exact hb _ h1

theorem mem_L (c : Dev nD) (sm : SemLoc sig) : () ∈ L ((c : Thread nD τ), sm) := by rw [L_tc]; exact Finset.mem_singleton_self _
theorem lv_le (c : Dev nD) (sm : SemLoc sig) : lv ((c : Thread nD τ), sm) () ≤ 3 := by
  unfold lv
  cases sm with
  | reg _ => exact (by decide : 1 ≤ 3)
  | dma s => dsimp only; split; · omega
             split <;> omega

theorem low (c : Dev nD) (s : DmaSem sig) (h : s.val < 11) : lv ((c : Thread nD τ), .dma s) () ≤ 0 := by
  unfold lv; dsimp only; split; · omega
  split <;> omega
theorem low0 : ∀ (w : Fin 4) (s : Fin (spec0 w).nbuf), ((spec0 w).sem s).val < 11 := by decide
theorem low1 : ∀ (w : Fin 3) (s : Fin (spec1 w).nbuf), ((spec1 w).sem s).val < 11 := by decide
theorem low2 : ∀ (w : Fin 4) (s : Fin (spec2 w).nbuf), ((spec2 w).sem s).val < 11 := by decide

/-! ### The calls' arrays, before and after -/

section At
variable (c : Dev nD)
theorem entry0 (w : Fin 4) : (dat0 m c).arrAt w 0 = W0 m c (Proc.devRef .tc (Pipeline.arrRef spec0 w)) := rfl
theorem entry1 (w : Fin 3) : (dat1 m c).arrAt w 0 = W1 m c (Proc.devRef .tc (Pipeline.arrRef spec1 w)) := rfl
theorem entry2 (w : Fin 4) : (dat2 m c).arrAt w 0 = W2 m c (Proc.devRef .tc (Pipeline.arrRef spec2 w)) := rfl
theorem entry3 (w : Fin 3) : (dat3 m c).arrAt w 0 = W3 m c (Proc.devRef .tc (Pipeline.arrRef spec3 w)) := rfl

theorem exit0 (w : Fin 4) : (dat0 m c).arrAt w cfg0.N = W1 m c (Proc.devRef .tc (Pipeline.arrRef spec0 w)) := by
  match w with
  | 0 => exact end0_0 m c
  | 1 => exact end0_1 m c
  | 2 => exact end0_2 m c
  | 3 => exact end0_3 m c
theorem exit1 (w : Fin 3) : (dat1 m c).arrAt w cfg1.N = W2 m c (Proc.devRef .tc (Pipeline.arrRef spec1 w)) := by
  match w with
  | 0 => exact end1_0 m c
  | 1 => exact end1_1 m c
  | 2 => exact end1_2 m c
theorem exit2 (w : Fin 4) : (dat2 m c).arrAt w cfg2.N = W3 m c (Proc.devRef .tc (Pipeline.arrRef spec2 w)) := by
  match w with
  | 0 => exact end2_0 m c
  | 1 => exact end2_1 m c
  | 2 => exact end2_2 m c
  | 3 => exact end2_3 m c
theorem exit3 (w : Fin 3) : (dat3 m c).arrAt w cfg3.N = W4 m c (Proc.devRef .tc (Pipeline.arrRef spec3 w)) := by
  match w with
  | 0 => exact end3_0 m c
  | 1 => exact end3_1 m c
  | 2 => exact end3_2 m c
end At

/-- The buffers outside a call's arrays. -/
abbrev rest (S : Finset (DevRef τ sig)) (W : Dev nD → Valuation τ sig (Elt F)) (c : Dev nD) : sProp 𝕄 :=
  StableHlo.held (c.tc : Thread nD τ) (Pipeline.ucRefs τ sig \ S) (W c)

set_option backward.isDefEq.respectTransparency.types false in
def seg0 : ℝ𝕊 0 :=
  Pipeline.RegionSeg.ofHeld (pcfgs (F := F)) adm (pdats m) () defs₀ 𝒱₀ L lv 0 O₀ (fun _ => iprop(emp)) (fun _ => iprop(emp)) kit0 rfl
    (fun c => (body0 m c).loose) (fun _ _ => rfl) (fun _ => rfl) (fun c => (dat0 m c).share_full fun _ => rfl)
    (fun c => show iprop(Pipeline.scopedRest spec0 c ∗ emp) ⊢ Pipeline.scopedRest spec0 c by iintro ⟨H, -⟩; iexact H)
    (fun c => show Pipeline.scopedRest spec0 c ⊢ iprop(Pipeline.scopedRest spec0 c ∗ emp) by
      iintro H; isplitl [H]; · iexact H
      iempintro)
    (fun _ => 0) ⟨fun c w s => mem_L c _, fun c w s => low c _ (low0 w s), fun c g i h => owe_above c g i h⟩
    (fun c => iprop(rest (Pipeline.arrRefs spec0) (W0 m) c ∗ (∃ r, prngReg c r) ∗ Tk (kpOf m) (vpOf m) c))
    (W0 m) (W1 m) (entry0 m) (exit0 m)

set_option backward.isDefEq.respectTransparency.types false in
def seg1 : ℝ𝕊 1 :=
  Pipeline.RegionSeg.ofHeld (pcfgs (F := F)) adm (pdats m) () defs₀ 𝒱₀ L lv 1 O₀ (fun _ => iprop(emp)) (fun _ => iprop(emp)) kit1 rfl
    (fun c => (body1 m c).loose) (fun _ _ => rfl) (fun _ => rfl) (fun c => (dat1 m c).share_full fun _ => rfl)
    (fun c => show iprop(Pipeline.scopedRest spec1 c ∗ emp) ⊢ Pipeline.scopedRest spec1 c by iintro ⟨H, -⟩; iexact H)
    (fun c => show Pipeline.scopedRest spec1 c ⊢ iprop(Pipeline.scopedRest spec1 c ∗ emp) by
      iintro H; isplitl [H]; · iexact H
      iempintro)
    (fun _ => 0) ⟨fun c w s => mem_L c _, fun c w s => low c _ (low1 w s), fun c g i h => owe_above c g i h⟩
    (fun c => iprop(rest (Pipeline.arrRefs spec1) (W1 m) c ∗ (∃ r, prngReg c r) ∗ Tk (kpOf m) (vpOf m) c))
    (W1 m) (W2 m) (entry1 m) (exit1 m)

theorem rest2_same (c : Dev nD) (b : DevRef τ sig) (h : b ∈ (Pipeline.ucRefs τ sig \ Pipeline.arrRefs spec2) \ ∅) : W3 m c b = W2 m c b := by
  have hb : b ≠ Proc.devRef .tc main_v3 := fun e => by
    subst e; revert h; decide
  exact Function.update_of_ne hb _ _

theorem held_none (c : Dev nD) (W : Valuation τ sig (Elt F)) : (StableHlo.held (c.tc : Thread nD τ) ∅ W : sProp 𝕄) = iprop(emp) := by
  unfold StableHlo.held; exact BI.bigSep_empty

theorem own_facts : Pipeline.OwnSemFacts spec2 cpSem := by decide

set_option backward.isDefEq.respectTransparency.types false in
def seg2 : ℝ𝕊 2 :=
  Pipeline.RegionSeg.ofTalk (pcfgs (F := F)) adm (pdats m) () defs₀ 𝒱₀ L lv 2 cpSem own_facts
    ∅ (Pipeline.ucRefs τ sig \ Pipeline.arrRefs spec2) (Finset.empty_subset _) kit2 rfl (fun c => (body2 m c).loose)
    (fun _ => 0) O₀ (fun c => (show O₀ c = 0 + O₀ c from (zero_add _).symm)) (owed2_last m) (fun _ => rfl) (fun c => (dat2 m c).share_full fun _ => rfl)
    (W2 m) (W3 m) (rest2_same m)
    (Tk (kpOf m) (vpOf m)) (fun c => semVal (barC c) 0) (Xk (kpOf m) (vpOf m)) (fun c => semVal (barC c) 0) (hopen (kpOf m) (vpOf m))
    (fun c => show iprop(Pipeline.scopedRest spec2 c ∗ (∃ r, prngReg c r) ∗ StableHlo.held (c.tc : Thread nD τ) ∅ (W2 m c) ∗ Xk (kpOf m) (vpOf m) c)
        ⊢ iprop(Xk (kpOf m) (vpOf m) c ∗ Pipeline.scopedRest spec2 c ∗ ∃ r, prngReg c r) by
      iintro ⟨Hs, Hp, -, HX⟩
      isplitl [HX]; · iexact HX
      isplitl [Hs]; · iexact Hs
      iexact Hp)
    (fun c => show iprop(semVal (barC c) 0 ∗ Pipeline.ownSems0 cpSem c ∗ Pipeline.scopedRest spec2 c ∗ ∃ r, prngReg c r)
        ⊢ iprop(Pipeline.scopedRest spec2 c ∗ (∃ r, prngReg c r) ∗ StableHlo.held (c.tc : Thread nD τ) ∅ (W3 m c) ∗ Pipeline.ownSems0 cpSem c ∗ semVal (barC c) 0) by
      rw [held_none]
      iintro ⟨Hb, Hos, Hs, Hp⟩
      isplitl [Hs]; · iexact Hs
      isplitl [Hp]; · iexact Hp
      isplitr; · iempintro
      isplitl [Hos]; · iexact Hos
      iexact Hb)
    (fun c => by iintro H; imodintro; iexact H)
    (fun _ => 0) ⟨fun c w s => mem_L c _, fun c w s => low c _ (low2 w s), fun c t g i h => by
      have e : 0 < (if t.val = 0 then O₀ c else 0) g i := h
      split at e
      · exact owe_above c g i e
      · exact absurd e (Nat.lt_irrefl 0)⟩
    (fun _ => iprop(emp)) (entry2 m) (exit2 m)

set_option backward.isDefEq.respectTransparency.types false in
def seg3 : ℝ𝕊 3 :=
  Pipeline.RegionSeg.ofHeld (pcfgs (F := F)) adm (pdats m) () defs₀ 𝒱₀ L lv 3 (fun _ => 0) (fun _ => iprop(emp)) (fun _ => iprop(emp)) kit3 rfl
    (fun c => (body3 m c).loose) (fun _ _ => rfl) (fun _ => rfl) (fun c => (dat3 m c).share_full fun _ => rfl)
    (fun c => show iprop(Pipeline.scopedRest spec3 c ∗ emp) ⊢ Pipeline.scopedRest spec3 c by iintro ⟨H, -⟩; iexact H)
    (fun c => show Pipeline.scopedRest spec3 c ⊢ iprop(Pipeline.scopedRest spec3 c ∗ emp) by
      iintro H; isplitl [H]; · iexact H
      iempintro)
    (fun _ => 3) ⟨fun c w s => mem_L c _, fun c w s => lv_le c _, fun c g i h => absurd h (Nat.lt_irrefl 0)⟩
    (fun c => iprop(rest (Pipeline.arrRefs spec3) (W3 m) c ∗ semVal (barC c) 0))
    (W3 m) (W4 m) (entry3 m) (exit3 m)

end Cert.Att
-- ==== Proof.Launch.lean ====
module

public import proofs.«01_k».proof.Proof.Segs
public import Idealize.ShloMosaic.Lib.Quiescent

/-! The launch of the program, and its run from any memory. -/

@[expose] public section

set_option maxRecDepth 16384

noncomputable section

namespace Cert.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf Dat)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ### From one call to the next -/

abbrev allBufs : Finset (DevRef τ sig) := Pipeline.ucRefs τ sig

/-- What a device holds beside its buffers until the talk, and after it. -/
def before (c : Dev nD) : sProp 𝕄 :=
  iprop((∃ r, prngReg c r) ∗ Tk (kpOf m) (vpOf m) c ∗ ∃ Wd, owes (c : Thread nD τ) (O₀ c) Wd)
def after (c : Dev nD) : sProp 𝕄 :=
  iprop(semVal (barC c) 0 ∗ ∃ Wd, owes (c : Thread nD τ) (0 : CellTallies nD τ sig Unit) Wd)

theorem sub0 : Pipeline.arrRefs (τ := τ) spec0 ⊆ allBufs := Pipeline.arrRefs_sub_ucRefs spec0 (by decide)
theorem sub1 : Pipeline.arrRefs (τ := τ) spec1 ⊆ allBufs := Pipeline.arrRefs_sub_ucRefs spec1 (by decide)
theorem sub2 : Pipeline.arrRefs (τ := τ) spec2 ⊆ allBufs := Pipeline.arrRefs_sub_ucRefs spec2 (by decide)
theorem sub3 : Pipeline.arrRefs (τ := τ) spec3 ⊆ allBufs := Pipeline.arrRefs_sub_ucRefs spec3 (by decide)

theorem split (c : Dev nD) {S : Finset (DevRef τ sig)} (h : S ⊆ allBufs) (W : Dev nD → Valuation τ sig (Elt F)) :
    (StableHlo.held (c.tc : Thread nD τ) allBufs (W c) : sProp 𝕄) = iprop(StableHlo.held (c.tc : Thread nD τ) S (W c) ∗ rest S W c) :=
  StableHlo.held_sub_split (c.tc : Thread nD τ) h (W c)

/-- Two valuations equal outside a call's arrays hold the same there. -/
theorem rest_eq (c : Dev nD) (S : Finset (DevRef τ sig)) (W W' : Dev nD → Valuation τ sig (Elt F)) (h : ∀ b ∉ S, W' c b = W c b) :
    (rest S W c : sProp 𝕄) = rest S W' c := by
  unfold rest StableHlo.held
  exact bigSep_congr fun b hb => by rw [h b (Finset.mem_sdiff.mp hb).2]

theorem away {W : Valuation τ sig (Elt F)} {S : Finset (DevRef τ sig)} {r : DevRef τ sig} (hr : r ∈ S) (v) (b : DevRef τ sig) (hb : b ∉ S) :
    Function.update W r v b = W b := Function.update_of_ne (fun e : b = r => hb (by rw [e]; exact hr)) _ _

theorem keep0 (c : Dev nD) : (rest (Pipeline.arrRefs spec0) (W0 m) c : sProp 𝕄) = rest (Pipeline.arrRefs spec0) (W1 m) c :=
  rest_eq c _ _ _ fun b hb => (away (by decide) _ b hb).trans (away (by decide) _ b hb)
theorem keep1 (c : Dev nD) : (rest (Pipeline.arrRefs spec1) (W1 m) c : sProp 𝕄) = rest (Pipeline.arrRefs spec1) (W2 m) c :=
  rest_eq c _ _ _ fun b hb => away (by decide) _ b hb
theorem keep3 (c : Dev nD) : (rest (Pipeline.arrRefs spec3) (W3 m) c : sProp 𝕄) = rest (Pipeline.arrRefs spec3) (W4 m) c :=
  rest_eq c _ _ _ fun b hb => away (by decide) _ b hb

theorem pre0 (c : Dev nD) : iprop(StableHlo.held (c.tc : Thread nD τ) allBufs (W0 m c) ∗ before m c) ⊢ (seg0 m).pre c := by
  show _ ⊢ iprop(StableHlo.held (c.tc : Thread nD τ) (Pipeline.arrRefs spec0) (W0 m c) ∗ emp
    ∗ (rest (Pipeline.arrRefs spec0) (W0 m) c ∗ (∃ r, prngReg c r) ∗ Tk (kpOf m) (vpOf m) c) ∗ ∃ Wd, owes (c : Thread nD τ) (O₀ c) Wd)
  rw [split c sub0 (W0 m)]; unfold before
  iintro ⟨⟨Ha, Hr⟩, Hp, HT, HO⟩
  isplitl [Ha]; · iexact Ha
  isplitr; · iempintro
  isplitr [HO]
  · isplitl [Hr]; · iexact Hr
    isplitl [Hp]; · iexact Hp
    iexact HT
  iexact HO

theorem post0 (c : Dev nD) : (seg0 m).post c ⊢ iprop(StableHlo.held (c.tc : Thread nD τ) allBufs (W1 m c) ∗ before m c) := by
  show iprop(StableHlo.held (c.tc : Thread nD τ) (Pipeline.arrRefs spec0) (W1 m c) ∗ emp
    ∗ (rest (Pipeline.arrRefs spec0) (W0 m) c ∗ (∃ r, prngReg c r) ∗ Tk (kpOf m) (vpOf m) c) ∗ ∃ Wd, owes (c : Thread nD τ) (O₀ c) Wd) ⊢ _
  rw [split c sub0 (W1 m), keep0 m c]; unfold before
  iintro ⟨Ha, -, ⟨Hr, Hp, HT⟩, HO⟩
  isplitl [Ha Hr]
  · isplitl [Ha]; · iexact Ha
    iexact Hr
  isplitl [Hp]; · iexact Hp
  isplitl [HT]; · iexact HT
  iexact HO

theorem pre1 (c : Dev nD) : iprop(StableHlo.held (c.tc : Thread nD τ) allBufs (W1 m c) ∗ before m c) ⊢ (seg1 m).pre c := by
  show _ ⊢ iprop(StableHlo.held (c.tc : Thread nD τ) (Pipeline.arrRefs spec1) (W1 m c) ∗ emp
    ∗ (rest (Pipeline.arrRefs spec1) (W1 m) c ∗ (∃ r, prngReg c r) ∗ Tk (kpOf m) (vpOf m) c) ∗ ∃ Wd, owes (c : Thread nD τ) (O₀ c) Wd)
  rw [split c sub1 (W1 m)]; unfold before
  iintro ⟨⟨Ha, Hr⟩, Hp, HT, HO⟩
  isplitl [Ha]; · iexact Ha
  isplitr; · iempintro
  isplitr [HO]
  · isplitl [Hr]; · iexact Hr
    isplitl [Hp]; · iexact Hp
    iexact HT
  iexact HO

theorem post1 (c : Dev nD) : (seg1 m).post c ⊢ iprop(StableHlo.held (c.tc : Thread nD τ) allBufs (W2 m c) ∗ before m c) := by
  show iprop(StableHlo.held (c.tc : Thread nD τ) (Pipeline.arrRefs spec1) (W2 m c) ∗ emp
    ∗ (rest (Pipeline.arrRefs spec1) (W1 m) c ∗ (∃ r, prngReg c r) ∗ Tk (kpOf m) (vpOf m) c) ∗ ∃ Wd, owes (c : Thread nD τ) (O₀ c) Wd) ⊢ _
  rw [split c sub1 (W2 m), keep1 m c]; unfold before
  iintro ⟨Ha, -, ⟨Hr, Hp, HT⟩, HO⟩
  isplitl [Ha Hr]
  · isplitl [Ha]; · iexact Ha
    iexact Hr
  isplitl [Hp]; · iexact Hp
  isplitl [HT]; · iexact HT
  iexact HO

theorem pre2 (c : Dev nD) : iprop(StableHlo.held (c.tc : Thread nD τ) allBufs (W2 m c) ∗ before m c) ⊢ (seg2 m).pre c := by
  show _ ⊢ iprop(StableHlo.held (c.tc : Thread nD τ) (Pipeline.arrRefs spec2) (W2 m c) ∗ (∃ r, prngReg c r)
    ∗ (rest (Pipeline.arrRefs spec2) (W2 m) c ∗ emp) ∗ Tk (kpOf m) (vpOf m) c ∗ ∃ Wd, owes (c : Thread nD τ) (0 + O₀ c) Wd)
  rw [split c sub2 (W2 m), zero_add]; unfold before
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem post2 (c : Dev nD) : (seg2 m).post c ⊢ iprop(StableHlo.held (c.tc : Thread nD τ) allBufs (W3 m c) ∗ after c) := by
  show iprop(StableHlo.held (c.tc : Thread nD τ) (Pipeline.arrRefs spec2) (W3 m c) ∗ (∃ r, prngReg c r)
    ∗ (rest (Pipeline.arrRefs spec2) (W3 m) c ∗ emp) ∗ semVal (barC c) 0 ∗ ∃ Wd, owes (c : Thread nD τ) (0 : CellTallies nD τ sig Unit) Wd) ⊢ _
  rw [split c sub2 (W3 m)]; unfold after
  iintro ⟨Ha, -, ⟨Hr, -⟩, Hb, HO⟩
  isplitl [Ha Hr]
  · isplitl [Ha]; · iexact Ha
    iexact Hr
  isplitl [Hb]; · iexact Hb
  iexact HO

theorem pre3 (c : Dev nD) : iprop(StableHlo.held (c.tc : Thread nD τ) allBufs (W3 m c) ∗ after c) ⊢ (seg3 m).pre c := by
  show _ ⊢ iprop(StableHlo.held (c.tc : Thread nD τ) (Pipeline.arrRefs spec3) (W3 m c) ∗ emp
    ∗ (rest (Pipeline.arrRefs spec3) (W3 m) c ∗ semVal (barC c) 0) ∗ ∃ Wd, owes (c : Thread nD τ) (0 : CellTallies nD τ sig Unit) Wd)
  rw [split c sub3 (W3 m)]; unfold after
  iintro ⟨⟨Ha, Hr⟩, Hb, HO⟩
  isplitl [Ha]; · iexact Ha
  isplitr; · iempintro
  isplitr [HO]
  · isplitl [Hr]; · iexact Hr
    iexact Hb
  iexact HO

abbrev Tend (c : Dev nD) : sProp 𝕄 := iprop(StableHlo.held (c.tc : Thread nD τ) allBufs (W4 m c) ∗ semVal (barC c) 0)

theorem post3 (c : Dev nD) : (seg3 m).post c ⊢ iprop(Tend m c ∗ ∃ Wd, owes (c : Thread nD τ) (0 : CellTallies nD τ sig Unit) Wd) := by
  show iprop(StableHlo.held (c.tc : Thread nD τ) (Pipeline.arrRefs spec3) (W4 m c) ∗ emp
    ∗ (rest (Pipeline.arrRefs spec3) (W3 m) c ∗ semVal (barC c) 0) ∗ ∃ Wd, owes (c : Thread nD τ) (0 : CellTallies nD τ sig Unit) Wd) ⊢ _
  unfold Tend
  rw [split c sub3 (W4 m), keep3 m c]
  iintro ⟨Ha, -, ⟨Hr, Hb⟩, HO⟩
  isplitr [HO]
  · isplitl [Ha Hr]
    · isplitl [Ha]; · iexact Ha
      iexact Hr
    iexact Hb
  iexact HO

def segments : List (Pipeline.Seg (pcfgs (F := F)) adm (pdats m) () defs₀ 𝒱₀ L lv) :=
  [.region (seg0 m), .region (seg1 m), .region (seg2 m), .region (seg3 m)]

/-! ### The launch -/

def u₀ : UU :=
  (initOf (Pipeline.cells (Pipeline.pin (pcfgs (F := F)) adm) cellOf_inj) (Pipeline.launchToks (Pipeline.pin (pcfgs (F := F)) adm) cellOf_inj),
    launchOf barCells cpCells talkToks)

abbrev seed : sProp 𝕄 := BI.own (ER (launchOf barCells cpCells talkToks))

/-- The protocol's launch element, lying on device 0 until the global step. -/
def G (c : Dev nD) : sProp 𝕄 := if c = 0 then seed else iprop(emp)

theorem G_all : (bigSep Finset.univ G : sProp 𝕄) = seed := by
  rw [bigSep_univ_at _ (0 : Dev nD), bigSep_congr (s := Finset.univ.erase 0) (Φ := G) (Ψ := fun _ => (BI.emp : sProp 𝕄))
    fun c hc => if_neg (Finset.ne_of_mem_erase hc), BI.bigSep_emp_const, show (G 0 : sProp 𝕄) = seed from if_pos rfl]
  exact BI.equiv_iff.mp sep_emp

abbrev T₀ (c : Dev nD) : sProp 𝕄 := iprop(StableHlo.held (c.tc : Thread nD τ) allBufs (W0 m c) ∗ before m c)

/-- What every device may consult. -/
def records (κ : GSem nD τ sig → ℕ) : sProp 𝕄 := iprop(Invs (kpOf m) (vpOf m) κ ∗ bigSep barCells fun g => reached ER g 0)
instance (κ : GSem nD τ sig → ℕ) : BI.Persistent (records m κ) := by unfold records; infer_instance

theorem reached_bar (c : Dev nD) : (bigSep barCells fun g => (reached ER g 0 : sProp 𝕄)) ⊢ reached ER (barC c) 0 :=
  bigSep_elim (Finset.mem_map_of_mem barEmb (Finset.mem_univ c))

/-- What a device brings that is not the protocol's own. -/
def own (c : Dev nD) : sProp 𝕄 :=
  iprop(StableHlo.held (c.tc : Thread nD τ) allBufs (W0 m c) ∗ credits c ∗ owes (c : Thread nD τ) (O₀ c) ∅ ∗ ∃ r, prngReg c r)

theorem deal (κ : GSem nD τ sig → ℕ) (c : Dev nD) : iprop(records m κ ∗ iprop(linear c ∗ own m c)) ⊢ T₀ m c := by
  unfold records own T₀ before Tk
  iintro ⟨⟨#HI, #HR⟩, Hl, Hh, Hc, HO, Hp⟩
  isplitl [Hh]; · iexact Hh
  isplitl [Hp]; · iexact Hp
  isplitr [HO]
  · isplitr
    · iexists κ
      isplitr; · iexact HI
      isplitr; · iapply (reached_bar (F := F) (lt c)); iexact HR
      iapply (reached_bar (F := F) (rt c)); iexact HR
    isplitl [Hl]; · iexact Hl
    iexact Hc
  iexists ∅; iexact HO

theorem sems_bar (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

abbrev dealt (c : Dev nD) : sProp 𝕄 :=
  iprop(unscopedBufs c (fun b => m ((c.tc : Thread nD τ).loc b)) ∗ unscopedSems0 c
    ∗ owes (c : Thread nD τ) (O₀ c) ∅ ∗ Pipeline.launchCred O₀ c ∗ prngReg c (ρ c) ∗ G c)

theorem dealt_one (c : Dev nD) : dealt m ρ c ⊢ iprop(own m c ∗ iprop(semVal (barC c) 0 ∗ G c)) := by
  unfold dealt own
  rw [show unscopedBufs c (fun b => m ((c.tc : Thread nD τ).loc b)) = StableHlo.held (c.tc : Thread nD τ) allBufs (W0 m c) from
    Pipeline.unscopedBufs_held c (W0 m c), sems_bar]
  iintro ⟨Hh, Hb, HO, Hc, Hp, HG⟩
  isplitr [Hb HG]
  · isplitl [Hh]; · iexact Hh
    isplitl [Hc]; · iapply (creds (F := F) c) $$ Hc
    isplitl [HO]; · iexact HO
    iexists (ρ c); iexact Hp
  isplitl [Hb]; · iexact Hb
  iexact HG

theorem dealt_all : (bigSep Finset.univ (dealt m ρ) : sProp 𝕄)
    ⊢ iprop(bigSep Finset.univ (own m) ∗ bigSep barCells (fun g => semVal g 0) ∗ seed) := by
  refine (bigSep_mono fun c _ => dealt_one m ρ c).trans ?_
  rw [bigSep_sep', bigSep_sep', G_all]
  unfold barCells; rw [bigSep_map]
  exact BI.Entails.refl _

theorem linear_all :
    iprop(bigSep barCells (fun g => (atPos ER g 0 ∅ 0 : sProp 𝕄)) ∗ bigSep cpCells (fun g => (openTok ER g : sProp 𝕄))
      ∗ bigSep talkToks (fun x => (dutyTok ER x.1 x.2.1 x.2.2 : sProp 𝕄))) ⊢ bigSep Finset.univ (linear (F := F)) := by
  refine (sep_mono_right (sep_mono_right (toks_around (F := F)))).trans ?_
  unfold linear barCells cpCells
  rw [bigSep_map, bigSep_map, bigSep_univ_prod]
  rw [← bigSep_sep', ← bigSep_sep']
  exact BI.Entails.refl _

theorem init : iprop(bigSep Finset.univ (dealt m ρ) ∗ levAts L lv) ⊢ (|={Set.univ}=> bigSep Finset.univ (T₀ m) : sProp 𝕄) := by
  iintro ⟨H, -⟩
  ihave H' := (dealt_all m ρ) $$ H
  icases H' with ⟨HB, Hv, Hu⟩
  imod (Rounds.fund_launch ER (Rd (kpOf m) (vpOf m)) disjoint_cells (fun g _ h => h) talkToks) $$ [Hv Hu] with ⟨%κ, -, #Hinv, #Hr, Hat, Hopen, Htok⟩
  · isplitl [Hv]; · iexact Hv
    iexact Hu
  imodintro
  iapply (bigSep_with_persistent (R := records m κ) (Φ := fun c => iprop(linear c ∗ own m c)) fun c _ => deal m κ c)
  isplitr
  · unfold records Invs
    isplitr; · iexact Hinv
    iexact Hr
  iapply (Entails.of_eq (bigSep_sep' (s := Finset.univ) (Φ := fun c : Dev nD => linear c) (Ψ := fun c : Dev nD => own m c)).symm)
  isplitr [HB]
  · iapply (linear_all (F := F))
    isplitl [Hat]; · iexact Hat
    isplitl [Hopen]; · iexact Hopen
    iexact Htok
  iexact HB

theorem only_bar : ∀ sm : SemLoc sig, sm.isScoped .tc = false → sm = .reg barS := by decide

theorem mem_all (r : Ref sig .tc) (h : r.isScoped = false) : Proc.devRef .tc r ∈ (allBufs : Finset (DevRef τ sig)) :=
  Finset.mem_filter.mpr ⟨StableHlo.devRef_mem_tcRefs r, by simpa using h⟩

/-- A buffer none of the calls writes ends as it began. -/
theorem W4_same (c : Dev nD) (r : Ref sig .tc) (h : r ∉ ([main_v1_0, main_v1_1, main_v2, main_v3, main_v4] : List (Ref sig .tc))) :
    W4 m c (Proc.devRef .tc r) = m ((c.tc : Thread nD τ).loc r) := by
  simp only [List.mem_cons, not_or] at h
  obtain ⟨h0, h1, h2, h3, h4, -⟩ := h
  have e {a : Ref sig .tc} (h : r ≠ a) : (Proc.devRef .tc r : DevRef τ sig) ≠ Proc.devRef .tc a := fun e => h (Proc.devRef_injective .tc e)
  unfold W4 W3 W2 W1 W0
  rw [Function.update_of_ne (e h4), Function.update_of_ne (e h3), Function.update_of_ne (e h2), Function.update_of_ne (e h1), Function.update_of_ne (e h0)]

theorem W4_out (c : Dev nD) : W4 m c (Proc.devRef .tc main_v4) = ovOf m c := Function.update_self _ _ _

set_option backward.isDefEq.respectTransparency.types false in
/-- The run, over any float values: it ends, the arguments are as they were, the result is the calls' composition, every counter is zero. -/
theorem run_main : θ_run defs (onTc (τ := τ) (main (F := F))) ⟨m, fun _ => 0, ρ⟩ (fun r => (∀ c : Dev nD,
      r.2.mem ((c.tc : Thread nD τ).loc main_v4) = ovOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m) () cellOf_inj EP defs₀ 𝒱₀ L lv m ρ main (segments m)
    (fun c Q => by
      rewrite [main_chain c, Pipeline.Seg.run_eq_chain, show (segments m).map Pipeline.Seg.prog = [
          Prog.lift (.customCall (Pipeline.entry 0) ()), Prog.lift (.customCall (Pipeline.entry 1) ()),
          Prog.lift (.customCall (Pipeline.entry 2) ()), Prog.lift (.customCall (Pipeline.entry 3) ()) ] from rfl]
      exact .rfl)
    (by simp only [segments, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tend m)
    (hch := ⟨fun c => pre0 m c, fun c => (post0 m c).trans (pre1 m c), fun c => (post1 m c).trans (pre2 m c), fun c => (post2 m c).trans (pre3 m c),
      fun c => post3 m c⟩)
    (hinit := init m ρ)
    (QY := fun c s => (∀ b ∈ allBufs, s.mem (c, b) = W4 m c b) ∧ s.sem (barC c) = 0)
    (hfin := fun c s' => by
      unfold Tend StableHlo.held
      iintro ⟨⟨Hh, Hb⟩, HSI⟩
      icombine HSI Hb gives %hb
      ihave Hr := (pointsTo_read_all allBufs (fun b => ((c : Thread nD τ).1, b)) (W4 m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c =>
        ⟨((h c).1 _ (mem_all main_v4 rfl)).trans (W4_out m c), ((h c).1 _ (mem_all main_arg0 rfl)).trans (W4_same m c main_arg0 (by decide)),
          ((h c).1 _ (mem_all main_arg1 rfl)).trans (W4_same m c main_arg1 (by decide)), ((h c).1 _ (mem_all main_arg2 rfl)).trans (W4_same m c main_arg2 (by decide)),
          ((h c).1 _ (mem_all main_arg3 rfl)).trans (W4_same m c main_arg3 (by decide)), ((h c).1 _ (mem_all main_arg4 rfl)).trans (W4_same m c main_arg4 (by decide))⟩,
      sem_eq_zero hs fun c sm hsm => by
        obtain rfl := only_bar sm hsm
        exact (h c).2⟩)

end Cert.Att
-- ==== Proof.Frames.lean ====
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

/-! The frames of the three programs. -/

@[expose] public section

set_option maxRecDepth 16384

noncomputable section

namespace Cert.Att

open Idealize.ShloMosaic Idealize.SL.Sem

variable {F : FTy → Type} [FloatOps F] [Named F]

section
open Cert.KernelIdeal

theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_main m ρ)

end

theorem frame_ideal : Cert.quiescent_KernelIdeal := fun m ρ _ => frame_any (F := Ideal) m ρ

/-- At the float words a named constant is the word it is named for. -/
local instance words : Named Bits where
  named _ _ {φ} b := Scalar.ofBits φ b

/-! At the float words the two programs are the same, body by body. -/
theorem bodies_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | 1, (t, s) => rfl
  | 2, (t, s) => rfl
  | 3, (t, s) => rfl

theorem defs_same : Cert.Kernel.defs (F := Bits) = Cert.KernelIdeal.defs (F := Bits) :=
  congrArg (Pipeline.defs (Cert.KernelIdeal.pcfgs (F := Bits))) bodies_same

theorem frame_kernel : Cert.quiescent_Kernel := fun m ρ _ => by
  have h := frame_any (F := Bits) m ρ
  rw [← defs_same] at h
  exact h

theorem frame_ref : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Att
-- ==== Proof.Sums.lean ====
module

public import Idealize.ShloMosaic.PureOps.Ideal
public import Idealize.ShloMosaic.Lib.IdealHost

/-! Sums over the extended reals: a row's weights by the exponentials alone, and the keys of one residue gathered from the devices. -/

@[expose] public section

noncomputable section

namespace Cert.Att

open Idealize.ShloMosaic

/-- A real number. -/
def Fi (a : EReal) : Prop := ∃ r : ℝ, a = (r : EReal)

theorem Fi.mul {a b : EReal} : Fi a → Fi b → Fi (a * b)
  | ⟨r, hr⟩, ⟨s, hs⟩ => ⟨r * s, by rw [hr, hs, EReal.coe_mul]⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem Fi.sum {ι : Type} [Fintype ι] {f : ι → EReal} (h : ∀ i, Fi (f i)) : Fi (∑ i, f i) := by
  choose g hg using h
  exact ⟨∑ i, g i, by rw [← coe_sum]; exact Finset.sum_congr rfl fun i _ => hg i⟩

theorem Fi.of_abs_lt {a : EReal} (h : max a (-a) < ⊤) : Fi a := by
  induction a with
  | bot => simp at h
  | top => simp at h
  | coe r => exact ⟨r, rfl⟩

/-- A constant taken out of a sum. -/
theorem sum_mul_const {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c)]

section
variable {n : ℕ} (σ : Fin n → ℝ) (M : Fin n → Prop) [DecidablePred M]

/-- The scores, those not attended to at −∞, and the sum of the exponentials of the others. -/
def sc (j : Fin n) : EReal := if M j then (σ j : EReal) else ⊥
def mass : ℝ := ∑ j, if M j then Real.exp (σ j) else 0

theorem mass_pos {i : Fin n} (hi : M i) : 0 < mass σ M := by
  refine Finset.sum_pos' (fun j _ => ?_) ⟨i, Finset.mem_univ i, ?_⟩
  · by_cases h : M j
    · rw [if_pos h]; exact (Real.exp_pos _).le
    · rw [if_neg h]
  · rw [if_pos hi]; exact Real.exp_pos _

theorem max_real {i : Fin n} (hi : M i) : ∃ m : ℝ, Finset.univ.fold max (⊥ : EReal) (sc σ M) = (m : EReal) := by
  have ht : Finset.univ.fold max (⊥ : EReal) (sc σ M) < ⊤ := by
    rw [Finset.fold_max_lt]
    refine ⟨bot_lt_top, fun j _ => ?_⟩
    unfold sc
    by_cases h : M j
    · rw [if_pos h]; exact EReal.coe_lt_top _
    · rw [if_neg h]; exact bot_lt_top
  have hb : ⊥ < Finset.univ.fold max (⊥ : EReal) (sc σ M) := by
    rw [Finset.lt_fold_max]
    refine Or.inr ⟨i, Finset.mem_univ i, ?_⟩
    unfold sc; rw [if_pos hi]; exact EReal.bot_lt_coe _
  generalize Finset.univ.fold max (⊥ : EReal) (sc σ M) = a at ht hb
  induction a with
  | bot => exact absurd hb (lt_irrefl _)
  | top => exact absurd ht (lt_irrefl _)
  | coe r => exact ⟨r, rfl⟩

theorem exp_sub (m : ℝ) (j : Fin n) : Ideal.exp (sc σ M j - (m : EReal)) = (((if M j then Real.exp (σ j) else 0) * Real.exp (-m) : ℝ) : EReal) := by
  unfold sc
  by_cases h : M j
  · rw [if_pos h, if_pos h, ← EReal.coe_sub, Ideal.exp_coe, ← Real.exp_add, sub_eq_add_neg]
  · rw [if_neg h, if_neg h, EReal.bot_sub, Ideal.exp_bot, zero_mul, EReal.coe_zero]

/-- A row's weights. -/
theorem weights {i : Fin n} (hi : M i) (j : Fin n) :
    Ideal.div (Ideal.exp (sc σ M j - Finset.univ.fold max (⊥ : EReal) (sc σ M))) (∑ k, Ideal.exp (sc σ M k - Finset.univ.fold max (⊥ : EReal) (sc σ M)))
      = (((if M j then Real.exp (σ j) else 0) * (1 / mass σ M) : ℝ) : EReal) := by
  obtain ⟨m, hm⟩ := max_real σ M hi
  have hp := mass_pos σ M hi
  have he := Real.exp_pos (-m)
  rw [hm, exp_sub, Finset.sum_congr rfl fun k _ => exp_sub σ M m k, coe_sum, ← Finset.sum_mul]
  rw [show (∑ k, if M k then Real.exp (σ k) else 0) = mass σ M from rfl, Ideal.div_coe (mul_pos hp he).ne', ← EReal.coe_mul]
  congr 1
  field_simp

/-- The weighted sum of a row's values, divided once at the end. -/
theorem weighted (v : Fin n → EReal) {i : Fin n} (hi : M i) :
    ∑ j, v j * (((if M j then Real.exp (σ j) else 0) * (1 / mass σ M) : ℝ) : EReal)
      = (∑ j, if M j then ((Real.exp (σ j) : ℝ) : EReal) * v j else 0) * Ideal.div 1 (∑ j, if M j then ((Real.exp (σ j) : ℝ) : EReal) else 0) := by
  have hp := mass_pos σ M hi
  have hs : (∑ j, if M j then ((Real.exp (σ j) : ℝ) : EReal) else 0) = ((mass σ M : ℝ) : EReal) := by
    unfold mass
    rw [← coe_sum]
    refine Finset.sum_congr rfl fun j _ => ?_
    by_cases h : M j
    · rw [if_pos h, if_pos h]
    · rw [if_neg h, if_neg h, EReal.coe_zero]
  rw [hs, Ideal.div_coe hp.ne', one_mul, ← sum_mul_const _ _ _ (one_div_pos.mpr hp).le]
  refine Finset.sum_congr rfl fun j _ => ?_
  by_cases h : M j
  · rw [if_pos h, if_pos h, EReal.coe_mul, ← mul_assoc, mul_comm (v j)]
  · rw [if_neg h, if_neg h, zero_mul, EReal.coe_zero, mul_zero, zero_mul]
end

/-! ## The keys of a residue -/

/-- The row of a device's block at which the `t`-th token of residue `r` stands, and that token's place in the whole. -/
def spot (r : Fin 4) (t : Fin 512) : Fin 2048 := ⟨t.val / 64 * 256 + r.val * 64 + t.val % 64, by omega⟩
def place (c : Fin 4) (s : Fin 2048) : Fin 8192 := ⟨c.val * 2048 + s.val, by omega⟩

theorem gathered {A : Type} [AddCommMonoid A] (f : Fin 8192 → A) (r : Fin 4) :
    (∑ j : Fin 8192, if j.val / 64 % 4 = r.val then f j else 0) = ∑ c : Fin 4, ∑ t : Fin 512, f (place c (spot r t)) := by
  rw [← Finset.sum_filter, ← Fintype.sum_prod_type']
  symm
  refine Finset.sum_bij' (fun p _ => place p.1 (spot r p.2))
    (fun j _ => ((⟨j.val / 2048, by omega⟩ : Fin 4), (⟨j.val % 2048 / 256 * 64 + j.val % 64, by omega⟩ : Fin 512)))
    (fun p _ => ?_) (fun j _ => Finset.mem_univ _) (fun p _ => ?_) (fun j hj => ?_) (fun p _ => rfl)
  · obtain ⟨c, t⟩ := p
    refine Finset.mem_filter.mpr ⟨Finset.mem_univ _, ?_⟩
    simp only [place, spot]; omega
  · obtain ⟨c, t⟩ := p
    refine Prod.ext (Fin.ext ?_) (Fin.ext ?_) <;> simp only [place, spot] <;> omega
  · have h := (Finset.mem_filter.mp hj).2
    refine Fin.ext ?_
    simp only [place, spot]; omega

/-- The devices' shares, in the order in which they reach device `c`. -/
theorem in_order {A : Type} [AddCommMonoid A] (g : Fin 4 → A) (c : Fin 4) :
    ∑ d, g d = g c + g ⟨(c.val + 3) % 4, by omega⟩ + g ⟨(c.val + 1) % 4, by omega⟩ + g ⟨((c.val + 1) % 4 + 1) % 4, by omega⟩ := by
  rw [Fin.sum_univ_four]
  fin_cases c
  · show g 0 + g 1 + g 2 + g 3 = g 0 + g 3 + g 1 + g 2
    abel
  · show g 0 + g 1 + g 2 + g 3 = g 1 + g 0 + g 2 + g 3
    abel
  · show g 0 + g 1 + g 2 + g 3 = g 2 + g 1 + g 3 + g 0
    abel
  · show g 0 + g 1 + g 2 + g 3 = g 3 + g 2 + g 0 + g 1
    abel

end Cert.Att

end
-- ==== Proof.KerVal.lean ====
module

public import proofs.«01_k».proof.Proof.Data
public import proofs.«01_k».proof.Proof.Sums
public import Idealize.ShloMosaic.Lib.Pointwise

/-! The calls' results over the reals, each read at an index. -/

@[expose] public section

set_option maxRecDepth 16384

noncomputable section

namespace Cert.Att

open Cert.KernelIdeal Cert.KernelIdeal.Gen
open Idealize.ShloMosaic Idealize.SL.Sem

theorem keys_at (K : FVec Ideal S1x2048x8x128 .bf16) (r : Fin 4) (h : Fin 8) (t : Fin 512) (d : Fin 128) :
    k0_pay1 (F := Ideal) K (ix4 r h t d) = K (ix4 0 (spot r t) h d) := by
  pointwise [k0_pay1]
  rfl

theorem vals_at (K : FVec Ideal S1x2048x8x128 .bf16) (r : Fin 4) (h : Fin 8) (t : Fin 512) (d : Fin 128) :
    k0_pay2 (F := Ideal) K (ix4 r h t d) = K (ix4 0 (spot r t) h d) := by
  pointwise [k0_pay2]
  rfl

theorem qrys_at (x : FVec Ideal S1x2048x1024 .bf16) (w : FVec Ideal S1024x1024 .bf16) (r : Fin 4) (h : Fin 8) (t : Fin 512) (d : Fin 128) :
    k1_pay1 (F := Ideal) x w (ix4 r h t d) = ∑ e : Fin 1024, x (ix3 0 (spot r t) e) * w (ix2 e ⟨h.val * 128 + d.val, by omega⟩) := by
  pointwise [k1_pay1]
  rfl

/-- What the named scale is. -/
theorem scale_named : Named.named (F := Ideal) κ "inv_sqrt_dh" (φ := .f32) 0x3DB504F3#32 = (((Real.sqrt 128)⁻¹ : ℝ) : EReal) := rfl

theorem exps_at (q : FVec Ideal S1x1x512x128 .bf16) (k : FVec Ideal S1x512x128 .bf16) (t u : Fin 512) :
    k2_pay1 (F := Ideal) q k (ix2 t u) = Ideal.exp ((∑ d : Fin 128, q (ix4 0 0 t d) * k (ix3 0 u d)) * (((Real.sqrt 128)⁻¹ : ℝ) : EReal)) := by
  pointwise [k2_pay1, scale_named]

theorem first_at (q : FVec Ideal S1x1x512x128 .bf16) (k : FVec Ideal S1x512x128 .bf16) (v : FVec Ideal S1x512x128 .fp8e4m3) (t : Fin 512) (d : Fin 128) :
    k2_pay30 (F := Ideal) q k v (ix4 0 0 t d) = ∑ u : Fin 512, k2_pay1 (F := Ideal) q k (ix2 t u) * v (ix3 0 u d) := by
  change k2_pay30 (F := Ideal) q k v (ix4 0 0 t d) = ∑ u : Fin 512, k2_pay29 (F := Ideal) q k (ix2 t u) * v (ix3 0 u d)
  pointwise [k2_pay30]

theorem firstD_at (q : FVec Ideal S1x1x512x128 .bf16) (k : FVec Ideal S1x512x128 .bf16) (t : Fin 512) :
    k2_pay31 (F := Ideal) q k (ix4 0 0 t 0) = ∑ u : Fin 512, k2_pay1 (F := Ideal) q k (ix2 t u) := by
  change k2_pay31 (F := Ideal) q k (ix4 0 0 t 0) = ∑ u : Fin 512, k2_pay29 (F := Ideal) q k (ix2 t u)
  pointwise [k2_pay31]

theorem mid_at (q : FVec Ideal S1x1x512x128 .bf16) (k : FVec Ideal S1x512x128 .bf16) (v : FVec Ideal S1x512x128 .fp8e4m3) (c : FVec Ideal S1x1x512x128 .f32) (t : Fin 512) (d : Fin 128) :
    k2_pay3 (F := Ideal) q k v c (ix4 0 0 t d) = c (ix4 0 0 t d) + ∑ u : Fin 512, k2_pay1 (F := Ideal) q k (ix2 t u) * v (ix3 0 u d) := by
  pointwise [k2_pay3]

theorem midD_at (q : FVec Ideal S1x1x512x128 .bf16) (k : FVec Ideal S1x512x128 .bf16) (D : FVec Ideal S1x1x512x1 .f32) (t : Fin 512) :
    k2_pay41 (F := Ideal) (k2_pay2 q k) D (ix4 0 0 t 0) = D (ix4 0 0 t 0) + ∑ u : Fin 512, k2_pay1 (F := Ideal) q k (ix2 t u) := by
  pointwise [k2_pay41, k2_pay2]

theorem last_at (q : FVec Ideal S1x1x512x128 .bf16) (k : FVec Ideal S1x512x128 .bf16) (v : FVec Ideal S1x512x128 .fp8e4m3) (c : FVec Ideal S1x1x512x128 .f32)
    (D : FVec Ideal S1x1x512x1 .f32) (t : Fin 512) (d : Fin 128) :
    k2_pay49 (F := Ideal) (k2_pay25 q k v c D) (ix4 0 0 t d) =
      (c (ix4 0 0 t d) + ∑ u : Fin 512, k2_pay1 (F := Ideal) q k (ix2 t u) * v (ix3 0 u d))
        * Ideal.div 1 (D (ix4 0 0 t 0) + ∑ u : Fin 512, k2_pay1 (F := Ideal) q k (ix2 t u)) := by
  pointwise [k2_pay49, k2_pay25, k2_pay1]

theorem out_at (a : FVec Ideal S4x8x512x128 .f32) (w : FVec Ideal S1024x1024 .bf16) (s : Fin 2048) (e : Fin 1024) :
    k3_pay1 (F := Ideal) a w (ix3 0 s e) = ∑ f : Fin 1024,
      a (ix4 ⟨s.val / 64 % 4, by omega⟩ ⟨f.val / 128, by omega⟩ ⟨s.val / 256 * 64 + s.val % 64, by omega⟩ ⟨f.val % 128, by omega⟩) * w (ix2 f e) := by
  pointwise [k3_pay1]

end Cert.Att

end
-- ==== Proof.Spec.lean ====
module

public import proofs.«01_k».proof.Proof.Gen.ReferenceIdeal
public import proofs.«01_k».proof.Proof.Gen.ReferenceIdeal.Run
public import Idealize.ShloMosaic.Lib.Pointwise
public import Idealize.ShloMosaic.Lib.Tactic.CleanTypes

/-! The reference's result, in steps, each read at an index. -/

@[expose] public section

set_option maxRecDepth 16384

noncomputable section

namespace Cert.Att.Spec

open Cert.ReferenceIdeal Cert.ReferenceIdeal.Gen Idealize.ShloMosaic Idealize.SL.Sem

/-! ## The mask -/

/-- Positions, and the block each lies in. -/
def pos : IVec S8192 32 := iotaInDim S8192 32 0
def sixty : IVec S_ 32 := id (constantI S_ 32 64#32)
def quo : IVec S8192 32 := Host.divsi pos (broadcastInDim S8192 ![] bcast_S_S8192 sixty)
def blk : IVec S8192 32 :=
  select (andi (cmpi .ne (signi pos) (broadcastInDim S8192 ![] bcast_S_S8192 (signi sixty)))
      (cmpi .ne (Host.remsi pos (broadcastInDim S8192 ![] bcast_S_S8192 sixty)) (broadcastInDim S8192 ![] bcast_S_S8192 (constantI S_ 32 0#32))))
    (subi quo (broadcastInDim S8192 ![] bcast_S_S8192 (constantI S_ 32 1#32))) quo
def blkQ : IVec S8192x1 32 := broadcastInDim S8192x1 ![0] bcast_S8192_S8192x1_0 blk
def blkK : IVec S1x8192 32 := broadcastInDim S1x8192 ![1] bcast_S8192_S1x8192_1 blk

/-- The divisor, four. -/
def four : IVec S_ 32 := select (cmpi .eq (id (constantI S_ 32 4#32)) (constantI S_ 32 0#32)) (constantI S_ 32 1#32) (id (constantI S_ 32 4#32))
def remK : IVec S1x8192 32 := Host.remsi blkK (broadcastInDim S1x8192 ![] bcast_S_S1x8192 four)
def resK : IVec S1x8192 32 :=
  select (andi (cmpi .ne (cmpi .slt remK (broadcastInDim S1x8192 ![] bcast_S_S1x8192 (constantI S_ 32 0#32)))
        (broadcastInDim S1x8192 ![] bcast_S_S1x8192 (cmpi .slt four (constantI S_ 32 0#32))))
      (cmpi .ne remK (broadcastInDim S1x8192 ![] bcast_S_S1x8192 (constantI S_ 32 0#32))))
    (addi remK (broadcastInDim S1x8192 ![] bcast_S_S1x8192 four)) remK
def remQ : IVec S8192x1 32 := Host.remsi blkQ (broadcastInDim S8192x1 ![] bcast_S_S8192x1 four)
def resQ : IVec S8192x1 32 :=
  select (andi (cmpi .ne (cmpi .slt remQ (broadcastInDim S8192x1 ![] bcast_S_S8192x1 (constantI S_ 32 0#32)))
        (broadcastInDim S8192x1 ![] bcast_S_S8192x1 (cmpi .slt four (constantI S_ 32 0#32))))
      (cmpi .ne remQ (broadcastInDim S8192x1 ![] bcast_S_S8192x1 (constantI S_ 32 0#32))))
    (addi remQ (broadcastInDim S8192x1 ![] bcast_S_S8192x1 four)) remQ

/-- Whether a query attends to a key. -/
def mask : IVec S8192x8192 1 :=
  ori (cmpi .eq (broadcastInDim S8192x8192 ![0, 1] bcast_S8192x1_S8192x8192_0_1 blkQ) (broadcastInDim S8192x8192 ![0, 1] bcast_S1x8192_S8192x8192_0_1 blkK))
    (cmpi .eq (broadcastInDim S8192x8192 ![0, 1] bcast_S1x8192_S8192x8192_0_1 resK) (broadcastInDim S8192x8192 ![0, 1] bcast_S8192x1_S8192x8192_0_1 resQ))
/-- Whether a query attends to any. -/
def keep : IVec S8192 1 := Host.reduce IntOp.ori mask (constantI S_ 1 0#1) reducesTo_S8192x8192_S8192_d1 h_S_

/-! ## The weights and the result -/

variable (x : FVec Ideal S1x8192x1024 .bf16) (wq : FVec Ideal S1024x1024 .bf16) (k v : FVec Ideal S1x8192x8x128 .bf16) (wo : FVec Ideal S1024x1024 .bf16)

def qry : FVec Ideal S1x8192x8x128 .bf16 :=
  shapeCast S1x8192x8x128 (truncf .bf16 (Host.dotGeneral dot_S1x8192x1024_S1024x1024_S1x8192x1024_2_0_01_1_n_n none x wq) bitsLt_bf16_f32)
    shapeCasts_S1x8192x1024_S1x8192x8x128
def raw : FVec Ideal S1x8x8192x8192 .f32 :=
  Host.divf (extf .f32 (truncf .bf16 (Host.dotGeneral dot_S1x8192x8x128_S1x8192x8x128_S1x8x8192x8192_3_3_1_1_02_02 none (qry x wq) k) bitsLt_bf16_f32) bitsLt_bf16_f32)
    (broadcastInDim S1x8x8192x8192 ![] bcast_S_S1x8x8192x8192 (Host.sqrt (constant S_ .f32 0x43000000#32)))
def scr : FVec Ideal S1x8x8192x8192 .f32 :=
  select (broadcastInDim S1x8x8192x8192 ![0, 1, 2, 3] bcast_S1x1x8192x8192_S1x8x8192x8192_0_1_2_3 (broadcastInDim S1x1x8192x8192 ![2, 3] bcast_S8192x8192_S1x1x8192x8192_2_3 mask))
    (raw x wq k) (broadcastInDim S1x8x8192x8192 ![] bcast_S_S1x8x8192x8192 (id (constant S_ .f32 0xFF800000#32)))
def top : FVec Ideal S1x8x8192 .f32 :=
  Host.reduce FloatOps.maximumf (scr x wq k) (constant S_ .f32 0xFF800000#32) reducesTo_S1x8x8192x8192_S1x8x8192_d3 h_S_
def ew : FVec Ideal S1x8x8192x8192 .f32 :=
  Host.exp (subf (scr x wq k) (broadcastInDim S1x8x8192x8192 ![0, 1, 2, 3] bcast_S1x8x8192x1_S1x8x8192x8192_0_1_2_3
    (broadcastInDim S1x8x8192x1 ![0, 1, 2] bcast_S1x8x8192_S1x8x8192x1_0_1_2 (top x wq k))))
def tot : FVec Ideal S1x8x8192 .f32 := Host.reduceAdd (ew x wq k) (constant S_ .f32 0x00000000#32) reducesTo_S1x8x8192x8192_S1x8x8192_d3 h_S_
def den : FVec Ideal S1x8x8192x1 .f32 :=
  select (broadcastInDim S1x8x8192x1 ![0, 1, 2, 3] bcast_S1x1x8192x1_S1x8x8192x1_0_1_2_3 (broadcastInDim S1x1x8192x1 ![2] bcast_S8192_S1x1x8192x1_2 keep))
    (broadcastInDim S1x8x8192x1 ![0, 1, 2] bcast_S1x8x8192_S1x8x8192x1_0_1_2 (tot x wq k)) (broadcastInDim S1x8x8192x1 ![] bcast_S_S1x8x8192x1 (id (constant S_ .f32 0x3F800000#32)))
def quot (K : IVec S8192 1) (E : FVec Ideal S1x8x8192x8192 .f32) (D : FVec Ideal S1x8x8192x1 .f32) : FVec Ideal S1x8x8192x8192 .f32 :=
  select (broadcastInDim S1x8x8192x8192 ![0, 1, 2, 3] bcast_S1x1x8192x1_S1x8x8192x8192_0_1_2_3 (broadcastInDim S1x1x8192x1 ![2] bcast_S8192_S1x1x8192x1_2 K))
    (Host.divf E (broadcastInDim S1x8x8192x8192 ![0, 1, 2, 3] bcast_S1x8x8192x1_S1x8x8192x8192_0_1_2_3 D))
    (broadcastInDim S1x8x8192x8192 ![] bcast_S_S1x8x8192x8192 (id (constant S_ .f32 0x00000000#32)))
def wgt : FVec Ideal S1x8x8192x8192 .f32 := quot keep (ew x wq k) (den x wq k)
def ctx : FVec Ideal S1x8x128x8192 .f32 :=
  Host.dotGeneral dot_S1x8192x8x128_S1x8x8192x8192_S1x8x128x8192_1_3_3_2_02_01 none (extf .f32 v bitsLt_bf16_f32) (wgt x wq k)
def res : FVec Ideal S1x8192x1024 .f32 :=
  Host.dotGeneral dot_S1x8192x1024_S1024x1024_S1x8192x1024_2_0_01_1_n_n none
    (shapeCast S1x8192x1024 (transpose S1x8192x8x128 [0, 3, 1, 2] (ctx x wq k v) transposes_S1x8x128x8192_S1x8192x8x128_0_3_1_2) shapeCasts_S1x8192x8x128_S1x8192x1024)
    (extf .f32 wo bitsLt_bf16_f32)

/-- The reference's run leaves it. -/
theorem res_run (m : (ℓ : Loc nD τ sig) → Buf (Elt Ideal) ℓ) (c : Dev nD) :
    Value.res_main_v45 (F := Ideal) m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v45; rfl

/-! ## Read at an index -/

theorem blk_word : ∀ (a : Fin 128) (b : Fin 64),
    Scalar.select
      (IntOp.andi
        (IntOp.cmpi CmpIPredicate.ne
          (if BitVec.ofNat 32 (64 * a.val + b.val) = 0 then 0 else if (BitVec.ofNat 32 (64 * a.val + b.val)).msb = true then -1 else 1) (1 : BitVec 32))
        (IntOp.cmpi CmpIPredicate.ne (IntOp.remsi ArithUnit.host (BitVec.ofNat 32 (64 * a.val + b.val)) 64#32) 0#32))
      (IntOp.subi (IntOp.divsi ArithUnit.host (BitVec.ofNat 32 (64 * a.val + b.val)) 64#32) 1#32)
      (IntOp.divsi ArithUnit.host (BitVec.ofNat 32 (64 * a.val + b.val)) 64#32) =
    BitVec.ofNat 32 a.val := by
  decide +kernel

theorem blk_at (i : Fin 8192) : blk (ix1 i) = BitVec.ofNat 32 (i.val / 64) := by
  have h := blk_word ⟨i.val / 64, by omega⟩ ⟨i.val % 64, by omega⟩
  simp only [Nat.div_add_mod] at h
  pointwise [blk, quo, pos, sixty]
  exact h

theorem res_word : ∀ a : Fin 128,
    Scalar.select
      (IntOp.andi
        (IntOp.cmpi CmpIPredicate.ne
          (IntOp.cmpi CmpIPredicate.slt (IntOp.remsi ArithUnit.host (BitVec.ofNat 32 a.val) 4#32) 0#32)
          (IntOp.cmpi CmpIPredicate.slt 4#32 0#32))
        (IntOp.cmpi CmpIPredicate.ne (IntOp.remsi ArithUnit.host (BitVec.ofNat 32 a.val) 4#32) 0#32))
      (IntOp.addi (IntOp.remsi ArithUnit.host (BitVec.ofNat 32 a.val) 4#32) 4#32)
      (IntOp.remsi ArithUnit.host (BitVec.ofNat 32 a.val) 4#32) =
    BitVec.ofNat 32 (a.val % 4) := by
  decide +kernel

theorem four_at : four ix0 = 4#32 := by decide +kernel

theorem resK_at (i : Fin 8192) : resK (ix2 0 i) = BitVec.ofNat 32 (i.val / 64 % 4) := by
  pointwise [resK, remK, blkK, blk_at, four_at]
  exact res_word ⟨i.val / 64, by omega⟩

theorem resQ_at (i : Fin 8192) : resQ (ix2 i 0) = BitVec.ofNat 32 (i.val / 64 % 4) := by
  pointwise [resQ, remQ, blkQ, blk_at, four_at]
  exact res_word ⟨i.val / 64, by omega⟩

theorem mask_word (a b : ℕ) (ha : a < 128) (hb : b < 128) :
    IntOp.ori (IntOp.cmpi CmpIPredicate.eq (BitVec.ofNat 32 a) (BitVec.ofNat 32 b))
      (IntOp.cmpi CmpIPredicate.eq (BitVec.ofNat 32 (b % 4)) (BitVec.ofNat 32 (a % 4))) = if a % 4 = b % 4 then 1#1 else 0#1 := by
  have e : ∀ n k : ℕ, n < 128 → k < 128 → IntOp.cmpi CmpIPredicate.eq (BitVec.ofNat 32 n) (BitVec.ofNat 32 k) = if n = k then 1#1 else 0#1 := by
    intro n k hn hk
    by_cases h : n = k
    · subst h; simp [IntOp.cmpi]
    · have : BitVec.ofNat 32 n ≠ BitVec.ofNat 32 k := fun hh => h (by
        have := congrArg BitVec.toNat hh
        simp only [BitVec.toNat_ofNat] at this; omega)
      rw [if_neg h]
      show BitVec.ofBool (BitVec.ofNat 32 n == BitVec.ofNat 32 k) = 0#1
      rw [beq_eq_false_iff_ne.mpr this]; rfl
  rw [e a b ha hb, e _ _ (by omega) (by omega)]
  by_cases h : a = b
  · subst h; simp [IntOp.ori]
  · rw [if_neg h]
    by_cases h2 : a % 4 = b % 4
    · rw [if_pos h2, if_pos h2.symm]; rfl
    · rw [if_neg h2, if_neg fun hh => h2 hh.symm]; rfl

theorem mask_at (i j : Fin 8192) : mask (ix2 i j) = if i.val / 64 % 4 = j.val / 64 % 4 then 1#1 else 0#1 := by
  pointwise [mask, blkK, blkQ, blk_at, resK_at, resQ_at]
  exact mask_word _ _ (by omega) (by omega)

theorem keep_at (i : Fin 8192) : keep (ix1 i) = 1#1 := by
  pointwise [keep]
  have h1 : mask (ix2 i i) = 1#1 := by rw [mask_at, if_pos rfl]
  rw [← Finset.insert_erase (Finset.mem_univ i), Finset.fold_insert (Finset.notMem_erase i Finset.univ), h1]
  generalize Finset.fold IntOp.ori _ _ _ = y
  revert y; decide

/-- The root of the head's width. -/
theorem root_word : Ideal.ofBits .f32 0x43000000#32 = ((128 : ℝ) : EReal) := by
  simp [Ideal.ofBits, Ideal.ieee, -EReal.coe_mul]; norm_num

theorem root_real : Ideal.sqrt (Ideal.ofBits .f32 0x43000000#32) = ((Real.sqrt 128 : ℝ) : EReal) := by
  rw [root_word, Ideal.sqrt_coe, if_neg (by norm_num)]

theorem over_root (a : EReal) : Ideal.div a (Ideal.sqrt (Ideal.ofBits .f32 0x43000000#32)) = a * (((Real.sqrt 128)⁻¹ : ℝ) : EReal) := by
  rw [root_real, Ideal.div_coe (Real.sqrt_pos.mpr (by norm_num)).ne', one_div]

theorem raw_at (h : Fin 8) (i j : Fin 8192) : raw x wq k (ix4 0 h i j)
    = (∑ d : Fin 128, (∑ e : Fin 1024, x (ix3 0 i e) * wq (ix2 e ⟨h.val * 128 + d.val, by omega⟩)) * k (ix4 0 j h d)) * (((Real.sqrt 128)⁻¹ : ℝ) : EReal) := by
  pointwise [raw, qry]
  exact over_root _

theorem top_at (h : Fin 8) (i : Fin 8192) : top x wq k (ix3 0 h i) = Finset.univ.fold max (Ideal.ofBits .f32 0xFF800000#32) (fun j => scr x wq k (ix4 0 h i j)) := by
  pointwise [top]

theorem scr_at (h : Fin 8) (i j : Fin 8192) : scr x wq k (ix4 0 h i j)
    = if i.val / 64 % 4 = j.val / 64 % 4 then raw x wq k (ix4 0 h i j) else Ideal.ofBits .f32 0xFF800000#32 := by
  pointwise [scr]
  rw [mask_at]
  by_cases hh : i.val / 64 % 4 = j.val / 64 % 4
  · rw [if_pos hh, if_pos hh]; exact ValueIdx.select_one _ _
  · rw [if_neg hh, if_neg hh]; exact ValueIdx.select_zero _ _

theorem ew_at (h : Fin 8) (i j : Fin 8192) : ew x wq k (ix4 0 h i j) = Ideal.exp (scr x wq k (ix4 0 h i j) - top x wq k (ix3 0 h i)) := by
  pointwise [ew]

theorem tot_at (h : Fin 8) (i : Fin 8192) : tot x wq k (ix3 0 h i) = ∑ j : Fin 8192, ew x wq k (ix4 0 h i j) := by
  pointwise [tot]

theorem den_at (h : Fin 8) (i : Fin 8192) : den x wq k (ix4 0 h i 0) = tot x wq k (ix3 0 h i) := by
  pointwise [den]
  rw [keep_at]; exact ValueIdx.select_one _ _

theorem quot_at (K : IVec S8192 1) (E : FVec Ideal S1x8x8192x8192 .f32) (D : FVec Ideal S1x8x8192x1 .f32) (h : Fin 8) (i j : Fin 8192) (hK : K (ix1 i) = 1#1) :
    quot K E D (ix4 0 h i j) = Ideal.div (E (ix4 0 h i j)) (D (ix4 0 h i 0)) := by
  pointwise [quot]
  rw [hK]; exact ValueIdx.select_one _ _

theorem wgt_at (h : Fin 8) (i j : Fin 8192) : wgt x wq k (ix4 0 h i j) = Ideal.div (ew x wq k (ix4 0 h i j)) (den x wq k (ix4 0 h i 0)) := by
  unfold wgt
  exact quot_at keep (ew x wq k) (den x wq k) h i j (keep_at i)

theorem res_at (i : Fin 8192) (e : Fin 1024) : res x wq k v wo (ix3 0 i e)
    = ∑ f : Fin 1024, (∑ j : Fin 8192, v (ix4 0 j ⟨f.val / 128, by omega⟩ ⟨f.val % 128, by omega⟩) * wgt x wq k (ix4 0 ⟨f.val / 128, by omega⟩ i j)) * wo (ix2 f e) := by
  pointwise [res, ctx]

end Cert.Att.Spec

end
-- ==== Proof.Value.lean ====
module

public import proofs.«01_k».proof.Proof.KerVal
public import proofs.«01_k».proof.Proof.Spec
public import Idealize.ShloMosaic.Lib.Layout

/-! Each device's result is its block of the reference's. -/

@[expose] public section

set_option maxRecDepth 16384

noncomputable section

namespace Cert.Att

open Idealize.ShloMosaic Idealize.SL.Sem

/-! ## Indices -/

section
variable {α : Type}

theorem blk3_at (v : (⟨3, ![1, 8192, 1024]⟩ : Shape).Idx → α) (c : Fin 4) (s : Fin 2048) (e : Fin 1024) :
    Layout.block ⟨3, ![1, 2048, 1024]⟩ ⟨3, ![1, 8192, 1024]⟩ 1 4 c v (by decide) (ix3 0 s e) = v (ix3 0 (place c s) e) := by
  rw [Layout.block_apply]
  refine congrArg v (funext fun b => Fin.ext ?_)
  rw [Layout.Tiles.idx_val]
  match b with
  | 0 => rfl
  | 1 => rfl
  | 2 => rfl

theorem blk4_at (v : (⟨4, ![1, 8192, 8, 128]⟩ : Shape).Idx → α) (c : Fin 4) (s : Fin 2048) (h : Fin 8) (d : Fin 128) :
    Layout.block ⟨4, ![1, 2048, 8, 128]⟩ ⟨4, ![1, 8192, 8, 128]⟩ 1 4 c v (by decide) (ix4 0 s h d) = v (ix4 0 (place c s) h d) := by
  rw [Layout.block_apply]
  refine congrArg v (funext fun b => Fin.ext ?_)
  rw [Layout.Tiles.idx_val]
  match b with
  | 0 => rfl
  | 1 => rfl
  | 2 => rfl
  | 3 => rfl

theorem place_split (i : Fin 8192) : place ⟨i.val / 2048, by omega⟩ ⟨i.val % 2048, by omega⟩ = i :=
  Fin.ext (by simp only [place]; omega)

theorem rowAt_at {n : ℕ} (f : (SA n).Idx → α) (r : Fin 4) (h : Fin 8) (t : Fin 512) (d : Fin n) : rowAt f r h (ix4 0 0 t d) = f (ix4 r h t d) :=
  congrArg f (funext fun a => match a with
    | 0 => rfl
    | 1 => rfl
    | 2 => rfl
    | 3 => rfl)

theorem row_at {n : ℕ} (r : Fin 4) (h : Fin 8) (t : Fin 512) (d : Fin n) : row (n := n) (ix4 r h t d) = ix4 0 0 t d :=
  funext fun a => match a with
    | 0 => rfl
    | 1 => rfl
    | 2 => rfl
    | 3 => rfl

theorem srow_at (f : (SA 128).Idx → α) (r : Fin 4) (h : Fin 8) (u : Fin 512) (d : Fin 128) : srow (slab4 f r) h (ix3 0 u d) = f (ix4 r h u d) :=
  congrArg f (funext fun a => match a with
    | 0 => rfl
    | 1 => rfl
    | 2 => rfl
    | 3 => rfl)
end

/-! ## A device's rows -/

open Cert.KernelIdeal Cert.KernelIdeal.Gen

section
variable (x : FVec Ideal ⟨3, ![1, 8192, 1024]⟩ .bf16) (wq : FVec Ideal ⟨2, ![1024, 1024]⟩ .bf16) (k v : FVec Ideal ⟨4, ![1, 8192, 8, 128]⟩ .bf16)
  (wo : FVec Ideal ⟨2, ![1024, 1024]⟩ .bf16)

/-- The devices' permuted keys, values and queries, of the whole arrays. -/
def gk (c : Dev nD) : S4x8x512x128.Idx → Elt Ideal .bf16 := k0_pay1 (F := Ideal) (Layout.block ⟨4, ![1, 2048, 8, 128]⟩ ⟨4, ![1, 8192, 8, 128]⟩ 1 4 c k)
def gv (c : Dev nD) : S4x8x512x128.Idx → Elt Ideal .fp8e4m3 := k0_pay2 (F := Ideal) (Layout.block ⟨4, ![1, 2048, 8, 128]⟩ ⟨4, ![1, 8192, 8, 128]⟩ 1 4 c v)
def gq (c : Dev nD) : S4x8x512x128.Idx → Elt Ideal .bf16 := k1_pay1 (F := Ideal) (Layout.block ⟨3, ![1, 2048, 1024]⟩ ⟨3, ![1, 8192, 1024]⟩ 1 4 c x) wq

theorem gk_at (c : Fin 4) (r : Fin 4) (h : Fin 8) (t : Fin 512) (d : Fin 128) : gk k c (ix4 r h t d) = k (ix4 0 (place c (spot r t)) h d) := by
  unfold gk
  rw [keys_at]; exact blk4_at k c _ h d

theorem gv_at (c : Fin 4) (r : Fin 4) (h : Fin 8) (t : Fin 512) (d : Fin 128) : gv v c (ix4 r h t d) = v (ix4 0 (place c (spot r t)) h d) := by
  unfold gv
  rw [vals_at]; exact blk4_at v c _ h d

theorem gq_at (c : Fin 4) (r : Fin 4) (h : Fin 8) (t : Fin 512) (d : Fin 128) :
    gq x wq c (ix4 r h t d) = ∑ e : Fin 1024, x (ix3 0 (place c (spot r t)) e) * wq (ix2 e ⟨h.val * 128 + d.val, by omega⟩) := by
  unfold gq
  rw [qrys_at]
  exact Finset.sum_congr rfl fun e _ => congrArg (· * _) (blk3_at x c _ e)

/-- A query's weight for a key, before the division. -/
def ex (h : Fin 8) (i j : Fin 8192) : EReal := Ideal.exp (Spec.raw x wq k (ix4 0 h i j))

theorem score_at (c c' : Fin 4) (r : Fin 4) (h : Fin 8) (t u : Fin 512) :
    k2_pay1 (F := Ideal) (rowAt (gq x wq c) r h) (srow (slab4 (gk k c') r) h) (ix2 t u) = ex x wq k h (place c (spot r t)) (place c' (spot r u)) := by
  rw [exps_at]
  unfold ex
  rw [Spec.raw_at]
  refine congrArg (fun z => Ideal.exp (z * _)) (Finset.sum_congr rfl fun d _ => ?_)
  rw [rowAt_at, srow_at, gq_at, gk_at]

/-- What one device's keys and values add to a row's two sums. -/
def partC (h : Fin 8) (r : Fin 4) (i : Fin 8192) (d : Fin 128) (c' : Fin 4) : EReal :=
  ∑ u : Fin 512, ex x wq k h i (place c' (spot r u)) * v (ix4 0 (place c' (spot r u)) h d)
def partD (h : Fin 8) (r : Fin 4) (i : Fin 8192) (c' : Fin 4) : EReal := ∑ u : Fin 512, ex x wq k h i (place c' (spot r u))

theorem sumC_at (c c' : Fin 4) (r : Fin 4) (h : Fin 8) (t : Fin 512) (d : Fin 128) :
    (∑ u : Fin 512, k2_pay1 (F := Ideal) (rowAt (gq x wq c) r h) (srow (slab4 (gk k c') r) h) (ix2 t u) * srow (slab4 (gv v c') r) h (ix3 0 u d))
      = partC x wq k v h r (place c (spot r t)) d c' := by
  refine Finset.sum_congr rfl fun u _ => ?_
  rw [score_at, srow_at, gv_at]

theorem sumD_at (c c' : Fin 4) (r : Fin 4) (h : Fin 8) (t : Fin 512) :
    (∑ u : Fin 512, k2_pay1 (F := Ideal) (rowAt (gq x wq c) r h) (srow (slab4 (gk k c') r) h) (ix2 t u)) = partD x wq k h r (place c (spot r t)) c' :=
  Finset.sum_congr rfl fun u _ => score_at x wq k c c' r h t u

theorem accC_at (c : Dev nD) (r : Fin 4) (h : Fin 8) (t : Fin 512) (d : Fin 128) :
    accC (gk k) (gv v) (gq x wq c) c r h 2 (ix4 0 0 t d) = partC x wq k v h r (place c (spot r t)) d c + partC x wq k v h r (place c (spot r t)) d (lt c)
      + partC x wq k v h r (place c (spot r t)) d (rt c) := by
  unfold accC
  rw [mid_at]
  unfold accC
  rw [mid_at]
  unfold accC firstC
  rw [first_at, sumC_at, sumC_at, sumC_at]
  rfl

theorem accD_at (c : Dev nD) (r : Fin 4) (h : Fin 8) (t : Fin 512) :
    accD (gk k) (gq x wq c) c r h 2 (ix4 0 0 t 0) = partD x wq k h r (place c (spot r t)) c + partD x wq k h r (place c (spot r t)) (lt c)
      + partD x wq k h r (place c (spot r t)) (rt c) := by
  unfold accD
  rw [midD_at]
  unfold accD
  rw [midD_at]
  unfold accD firstD
  rw [firstD_at, sumD_at, sumD_at, sumD_at]
  rfl

/-- A row of the attention's result: over all keys of its residue. -/
theorem attn_at (c : Dev nD) (r : Fin 4) (h : Fin 8) (t : Fin 512) (d : Fin 128) :
    outAll (gk k) (gv v) c (gq x wq c) (ix4 r h t d)
      = (∑ j : Fin 8192, if j.val / 64 % 4 = r.val then ex x wq k h (place c (spot r t)) j * v (ix4 0 j h d) else 0)
        * Ideal.div 1 (∑ j : Fin 8192, if j.val / 64 % 4 = r.val then ex x wq k h (place c (spot r t)) j else 0) := by
  rw [gathered (fun j => ex x wq k h (place c (spot r t)) j * v (ix4 0 j h d)) r, gathered (fun j => ex x wq k h (place c (spot r t)) j) r,
    in_order _ c, in_order _ c]
  show outC (gk k) (gv v) (gq x wq c) c r h (row (ix4 r h t d)) = _
  rw [row_at]
  unfold outC
  rw [last_at, accC_at, accD_at, sumC_at, sumD_at]
  rfl

/-! ## The reference's rows -/

variable (hx : ∀ i e, Fi (x (ix3 0 i e))) (hw : ∀ e f, Fi (wq (ix2 e f))) (hk : ∀ j h d, Fi (k (ix4 0 j h d)))

theorem scale_real : Fi (((Real.sqrt 128)⁻¹ : ℝ) : EReal) := ⟨_, rfl⟩

theorem low_bot : Ideal.ofBits .f32 0xFF800000#32 = ⊥ := by simp [Ideal.ofBits, Ideal.ieee]

include hx hw hk in
theorem raw_real (h : Fin 8) (i j : Fin 8192) : Fi (Spec.raw x wq k (ix4 0 h i j)) := by
  rw [Spec.raw_at]
  exact (Fi.sum fun d => (Fi.sum fun e => (hx i e).mul (hw _ _)).mul (hk j h d)).mul scale_real

include hx hw hk in
/-- The reference's weighted sum of values is the same. -/
theorem ref_row (h : Fin 8) (i : Fin 8192) (d : Fin 128) :
    (∑ j : Fin 8192, v (ix4 0 j h d) * Spec.wgt x wq k (ix4 0 h i j))
      = (∑ j : Fin 8192, if j.val / 64 % 4 = i.val / 64 % 4 then ex x wq k h i j * v (ix4 0 j h d) else 0)
        * Ideal.div 1 (∑ j : Fin 8192, if j.val / 64 % 4 = i.val / 64 % 4 then ex x wq k h i j else 0) := by
  choose σ hσ using fun j => raw_real x wq k hx hw hk h i j
  have hs : (fun j => Spec.scr x wq k (ix4 0 h i j)) = sc σ (fun j : Fin 8192 => j.val / 64 % 4 = i.val / 64 % 4) := by
    funext j
    rw [Spec.scr_at, hσ, low_bot]
    unfold sc
    by_cases hh : i.val / 64 % 4 = j.val / 64 % 4
    · rw [if_pos hh, if_pos hh.symm]
    · rw [if_neg hh, if_neg fun e => hh e.symm]
  have he : ∀ j, ex x wq k h i j = ((Real.exp (σ j) : ℝ) : EReal) := fun j => by unfold ex; rw [hσ, Ideal.exp_coe]
  have hw' : ∀ j, Spec.wgt x wq k (ix4 0 h i j)
      = (((if j.val / 64 % 4 = i.val / 64 % 4 then Real.exp (σ j) else 0) * (1 / mass σ (fun j : Fin 8192 => j.val / 64 % 4 = i.val / 64 % 4)) : ℝ) : EReal) := by
    intro j
    rw [Spec.wgt_at, Spec.den_at, Spec.tot_at, Spec.ew_at, Finset.sum_congr rfl fun k' _ => Spec.ew_at x wq k h i k', Spec.top_at, low_bot, hs]
    rw [show Spec.scr x wq k (ix4 0 h i j) = sc σ (fun j : Fin 8192 => j.val / 64 % 4 = i.val / 64 % 4) j from congrFun hs j,
      Finset.sum_congr rfl fun k' _ => by rw [show Spec.scr x wq k (ix4 0 h i k') = sc σ (fun j : Fin 8192 => j.val / 64 % 4 = i.val / 64 % 4) k' from congrFun hs k']]
    exact weights σ (fun j : Fin 8192 => j.val / 64 % 4 = i.val / 64 % 4) (i := i) rfl j
  rw [Finset.sum_congr rfl fun j _ => by rw [hw' j], weighted σ (fun j : Fin 8192 => j.val / 64 % 4 = i.val / 64 % 4) (fun j => v (ix4 0 j h d)) (i := i) rfl]
  simp only [he]

include hx hw hk in
/-- A device's result is its block of the reference's. -/
theorem device_block (c : Dev nD) :
    k3_pay1 (F := Ideal) (outAll (gk k) (gv v) c (gq x wq c)) wo
      = Layout.block ⟨3, ![1, 2048, 1024]⟩ ⟨3, ![1, 8192, 1024]⟩ 1 4 c (Spec.res x wq k v wo) := by
  funext o
  obtain ⟨z, s, e, rfl⟩ : ∃ (z : Fin 1) (s : Fin 2048) (e : Fin 1024), o = ix3 z s e := ⟨o 0, o 1, o 2, eq_ix3 o⟩
  obtain rfl : z = 0 := Subsingleton.elim _ _
  refine (out_at _ wo s e).trans ?_
  refine Eq.trans ?_ (blk3_at (Spec.res x wq k v wo) c s e).symm
  rw [Spec.res_at]
  refine Finset.sum_congr rfl fun f _ => congrArg (· * _) ?_
  refine (attn_at x wq k v c _ _ _ _).trans ?_
  rw [ref_row x wq k v hx hw hk]
  have hp : spot ⟨s.val / 64 % 4, by omega⟩ ⟨s.val / 256 * 64 + s.val % 64, by omega⟩ = s := Fin.ext (by simp only [spot]; omega)
  rw [hp]
  have hr : (place c s).val / 64 % 4 = s.val / 64 % 4 := by simp only [place]; omega
  rw [hr]

end

end Cert.Att

end
-- ==== Proof.Equal.lean ====
module

public import proofs.«01_k».proof.Defs
public import proofs.«01_k».proof.Proof.Frames
public import proofs.«01_k».proof.Proof.Value
public import Idealize.ShloMosaic.Lib.ReduceAll

/-! The kernel's results are the reference's, block by block, on finite queries and keys. -/

@[expose] public section

set_option maxRecDepth 16384

noncomputable section

namespace Cert.Att

open Idealize.ShloMosaic Idealize.SL.Sem

/-! ## The precondition -/

theorem fits_ideal : Cert.Pre_finite_inputs_KernelIdeal.Facts where
  bitsLt_bf16_f32 := by decide
  bcast_S_S1x2048x1024 := by decide
  reducesTo_S1x2048x1024_S_d0_1_2 := by decide
  h_S_ := by decide
  bcast_S_S1024x1024 := by decide
  reducesTo_S1024x1024_S_d0_1 := by decide
  bcast_S_S1x2048x8x128 := by decide
  reducesTo_S1x2048x8x128_S_d0_1_2_3 := by decide

theorem fits_ref : Cert.Pre_finite_inputs_ReferenceIdeal.Facts where
  bitsLt_bf16_f32 := by decide
  bcast_S_S1x8192x1024 := by decide
  reducesTo_S1x8192x1024_S_d0_1_2 := by decide
  h_S_ := by decide
  bcast_S_S1024x1024 := by decide
  reducesTo_S1024x1024_S_d0_1 := by decide
  bcast_S_S1x8192x8x128 := by decide
  reducesTo_S1x8192x8x128_S_d0_1_2_3 := by decide

theorem high_top : Ideal.ofBits .f32 0x7F800000#32 = ⊤ := by simp [Ideal.ofBits, Ideal.ieee]

theorem real_of_bit (a : EReal) (h : Ideal.cmp .olt (max a (-a)) (Ideal.ofBits .f32 0x7F800000#32) = 1#1) : Fi a := by
  refine Fi.of_abs_lt ?_
  by_contra hn
  rw [high_top] at h
  unfold Ideal.cmp at h
  simp only [hn, decide_false] at h
  exact absurd h (by decide)

instance : Subsingleton (⟨0, ![]⟩ : Shape).Idx := ⟨fun _ _ => funext fun a => a.elim0⟩

section
open Cert.Pre_finite_inputs_KernelIdeal

/-- What it says of a device's blocks. -/
theorem blocks_real [Facts] (x : FVec Ideal S1x2048x1024 .bf16) (wq : FVec Ideal S1024x1024 .bf16) (k v : FVec Ideal S1x2048x8x128 .bf16) (wo : FVec Ideal S1024x1024 .bf16)
    (h : fn (F := Ideal) x wq k v wo ix0 = 1#1) : (∀ i, Fi (x i)) ∧ (∀ i, Fi (wq i)) ∧ ∀ i, Fi (k i) := by
  dsimp only [fn] at h
  obtain ⟨h12, h3⟩ := IntOp.andi_eq_one.mp h
  obtain ⟨h1, h2⟩ := IntOp.andi_eq_one.mp h12
  exact ⟨fun i => real_of_bit _ (Host.reduce_andi_all _ _ _ _ _ h1 i), fun i => real_of_bit _ (Host.reduce_andi_all _ _ _ _ _ h2 i),
    fun i => real_of_bit _ (Host.reduce_andi_all _ _ _ _ _ h3 i)⟩
end

/-! ## The claims -/

theorem frame_ideal_pre : Cert.quiescent_KernelIdeal_pre_finite_inputs_KernelIdeal (hPre_finite_inputs_KernelIdeal := fits_ideal) :=
  fun m ρ _ => frame_any (F := Ideal) m ρ

theorem frame_ref_pre : Cert.quiescent_ReferenceIdeal_pre_finite_inputs_ReferenceIdeal (hPre_finite_inputs_ReferenceIdeal := fits_ref) :=
  fun m ρ _ => frame_ref m ρ trivial

/-- The scale is named what it was rounded from. -/
theorem scale_kept : Cert.preserves_Kernel_KernelIdeal :=
  IdealRules.named_const.statement Cert.KernelIdeal.κ "inv_sqrt_dh" .f32 0x3DB504F3#32 (((Real.sqrt 128)⁻¹ : ℝ) : EReal) rfl

theorem equal : Cert.algebraic_KernelIdeal_ReferenceIdeal_pre_finite_inputs_KernelIdeal (hPre_finite_inputs_KernelIdeal := fits_ideal) := by
  intro m g m' g' hpre hin
  let T : Thread Cert.ReferenceIdeal.nD Cert.ReferenceIdeal.τ := ((0 : Dev Cert.ReferenceIdeal.nD).tc : Thread Cert.ReferenceIdeal.nD Cert.ReferenceIdeal.τ)
  let x : FVec Ideal ⟨3, ![1, 8192, 1024]⟩ .bf16 := m' (T.loc Cert.ReferenceIdeal.main_arg0)
  let wq : FVec Ideal ⟨2, ![1024, 1024]⟩ .bf16 := m' (T.loc Cert.ReferenceIdeal.main_arg1)
  let k : FVec Ideal ⟨4, ![1, 8192, 8, 128]⟩ .bf16 := m' (T.loc Cert.ReferenceIdeal.main_arg2)
  let v : FVec Ideal ⟨4, ![1, 8192, 8, 128]⟩ .bf16 := m' (T.loc Cert.ReferenceIdeal.main_arg3)
  let wo : FVec Ideal ⟨2, ![1024, 1024]⟩ .bf16 := m' (T.loc Cert.ReferenceIdeal.main_arg4)
  have hb := fun c => letI := fits_ideal; blocks_real _ _ _ _ _ (congrFun (hpre c) ix0)
  have hx : ∀ i e, Fi (x (ix3 0 i e)) := by
    intro i e
    have h := (hb (⟨i.val / 2048, by omega⟩ : Fin 4)).1 (ix3 0 ⟨i.val % 2048, by omega⟩ e)
    rw [(hin (⟨i.val / 2048, by omega⟩ : Fin 4)).1] at h
    have h2 := (blk3_at x ⟨i.val / 2048, by omega⟩ ⟨i.val % 2048, by omega⟩ e).symm
    rw [place_split] at h2
    rw [h2]; exact h
  have hw : ∀ e f, Fi (wq (ix2 e f)) := by
    intro e f
    have h := (hb 0).2.1 (ix2 e f)
    rw [(hin 0).2.1] at h
    exact h
  have hk : ∀ j h d, Fi (k (ix4 0 j h d)) := by
    intro i h' d
    have h := (hb (⟨i.val / 2048, by omega⟩ : Fin 4)).2.2 (ix4 0 ⟨i.val % 2048, by omega⟩ h' d)
    rw [(hin (⟨i.val / 2048, by omega⟩ : Fin 4)).2.2.1] at h
    have h2 := (blk4_at k ⟨i.val / 2048, by omega⟩ ⟨i.val % 2048, by omega⟩ h' d).symm
    rw [place_split] at h2
    rw [h2]; exact h
  refine ⟨Spec.res x wq k v wo, ?_, ?_⟩
  · refine (θ_run Cert.KernelIdeal.defs _ _).mono (fun r h c => ⟨?_, (h.1 c).2⟩) (run_main (F := Ideal) m g)
    refine (h.1 c).1.trans ?_
    have e : ovOf m c = Cert.KernelIdeal.Gen.k3_pay1 (F := Ideal) (outAll (gk k) (gv v) c (gq x wq c)) wo := by
      unfold ovOf avOf
      have ek : kpOf m = gk k := funext fun c' => congrArg (Cert.KernelIdeal.Gen.k0_pay1 (F := Ideal)) (hin c').2.2.1
      have ev : vpOf m = gv v := funext fun c' => congrArg (Cert.KernelIdeal.Gen.k0_pay2 (F := Ideal)) (hin c').2.2.2.1
      have eq : fqOf m c = gq x wq c := congrArg₂ (Cert.KernelIdeal.Gen.k1_pay1 (F := Ideal)) (hin c).1 (hin c).2.1
      rw [ek, ev, eq]
      exact congrArg (Cert.KernelIdeal.Gen.k3_pay1 (F := Ideal) _) (hin c).2.2.2.2
    exact e.trans (device_block x wq k v wo hx hw hk c)
  · refine (θ_run Cert.ReferenceIdeal.defs _ _).mono (fun r h => ⟨?_, (h 0).2⟩) (Cert.ReferenceIdeal.Value.run (F := Ideal) m' g')
    exact (h 0).1.trans (Spec.res_run m' 0)

end Cert.Att
-- ==== Proof.lean ====
module

public import proofs.«01_k».proof.Defs
public import proofs.«01_k».proof.Proof.Equal
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Att.fits_ideal, Cert.Att.fits_ref,
  Cert.Att.frame_kernel, Cert.Att.frame_ideal, Cert.Att.frame_ideal_pre, Cert.Att.frame_ref, Cert.Att.frame_ref_pre,
  Cert.Att.scale_kept, Cert.Att.equal⟩

end Cert.Proof

end
